-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def preserves_Kernel_KernelIdeal : Prop :=
  IdealRules.named_const.Statement Cert.KernelIdeal.κ "masked" .f32 0xF149F2CA#32 ⊥
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v52_0)) (v1 : (c : Dev Cert.KernelIdeal.nD) → Buf (Elt Ideal) ((c.tc : Thread Cert.KernelIdeal.nD Cert.KernelIdeal.τ).loc Cert.KernelIdeal.main_v52_1)) (v2 : (c : Dev Cert.KernelIdeal.nD) → Buf (Elt Ideal) ((c.tc : Thread Cert.KernelIdeal.nD Cert.KernelIdeal.τ).loc Cert.KernelIdeal.main_v52_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52_0) = v0 c
          ∧ r.2.mem ((c.tc : Thread Cert.KernelIdeal.nD Cert.KernelIdeal.τ).loc Cert.KernelIdeal.main_v52_1) = v1 c
          ∧ r.2.mem ((c.tc : Thread Cert.KernelIdeal.nD Cert.KernelIdeal.τ).loc Cert.KernelIdeal.main_v52_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v76) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v11) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v10) = v0 c
          ∧ r.2.mem ((c.tc : Thread Cert.Reference9Ideal.nD Cert.Reference9Ideal.τ).loc Cert.Reference9Ideal.main_v11) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S4096x16x192 : Shape := ⟨3, ![4096, 16, 192]⟩
abbrev S4096x16x128 : Shape := ⟨3, ![4096, 16, 128]⟩
abbrev S_ : Shape := ⟨0, ![]⟩

class Facts : Prop where
  bitsLt_bf16_f32 : FTy.bits .bf16 < FTy.bits .f32
  bcast_S_S4096x16x192 : S_.BroadcastsInDim S4096x16x192 (![] : Fin 0 → Fin S4096x16x192.rank)
  reducesTo_S4096x16x192_S_d0_1_2 : S4096x16x192.ReducesTo [0, 1, 2] S_
  h_S_ : 0 < S_.numel
  bcast_S_S4096x16x128 : S_.BroadcastsInDim S4096x16x128 (![] : Fin 0 → Fin S4096x16x128.rank)
  reducesTo_S4096x16x128_S_d0_1_2 : S4096x16x128.ReducesTo [0, 1, 2] S_

variable [Facts]

def fn_part1 {F : FTy → Type} [FloatOps F] (main_v16 : IVec S_ 1) (main_v17 : FVec F S4096x16x128 .f32) : IVec S_ 1 :=
  let main_v18 : FVec F S4096x16x128 .f32 := Host.absf main_v17
  let main_cst_4 : FVec F S_ .f32 := constant S_ .f32 0x7F800000#32
  let main_v19 : FVec F S4096x16x128 .f32 := broadcastInDim S4096x16x128 ![] bcast_S_S4096x16x128 main_cst_4
  let main_v20 : IVec S4096x16x128 1 := cmpf .olt main_v18 main_v19
  let main_c_5 : IVec S_ 1 := constantI S_ 1 1#1
  let main_v21 : IVec S_ 1 := (fun x v => Host.reduce IntOp.andi x v reducesTo_S4096x16x128_S_d0_1_2 h_S_) main_v20 main_c_5
  let main_v22 : IVec S_ 1 := andi main_v16 main_v21
  main_v22

def fn {F : FTy → Type} [FloatOps F] (main_arg0 : FVec F S4096x16x192 .bf16) (main_arg1 : FVec F S4096x16x192 .bf16) (main_arg2 : FVec F S4096x16x128 .bf16) (main_arg3 : FVec F S4096x16x128 .bf16) : IVec S_ 1 :=
  let main_v0 : FVec F S4096x16x192 .f32 := (extf .f32 · bitsLt_bf16_f32) main_arg0
  let main_v1 : FVec F S4096x16x192 .f32 := Host.absf main_v0
  let main_cst : FVec F S_ .f32 := constant S_ .f32 0x7F800000#32
  let main_v2 : FVec F S4096x16x192 .f32 := broadcastInDim S4096x16x192 ![] bcast_S_S4096x16x192 main_cst
  let main_v3 : IVec S4096x16x192 1 := cmpf .olt main_v1 main_v2
  let main_c : IVec S_ 1 := constantI S_ 1 1#1
  let main_v4 : IVec S_ 1 := (fun x v => Host.reduce IntOp.andi x v reducesTo_S4096x16x192_S_d0_1_2 h_S_) main_v3 main_c
  let main_v5 : FVec F S4096x16x192 .f32 := (extf .f32 · bitsLt_bf16_f32) main_arg1
  let main_v6 : FVec F S4096x16x192 .f32 := Host.absf main_v5
  let main_cst_0 : FVec F S_ .f32 := constant S_ .f32 0x7F800000#32
  let main_v7 : FVec F S4096x16x192 .f32 := broadcastInDim S4096x16x192 ![] bcast_S_S4096x16x192 main_cst_0
  let main_v8 : IVec S4096x16x192 1 := cmpf .olt main_v6 main_v7
  let main_c_1 : IVec S_ 1 := constantI S_ 1 1#1
  let main_v9 : IVec S_ 1 := (fun x v => Host.reduce IntOp.andi x v reducesTo_S4096x16x192_S_d0_1_2 h_S_) main_v8 main_c_1
  let main_v10 : IVec S_ 1 := andi main_v4 main_v9
  let main_v11 : FVec F S4096x16x128 .f32 := (extf .f32 · bitsLt_bf16_f32) main_arg2
  let main_v12 : FVec F S4096x16x128 .f32 := Host.absf main_v11
  let main_cst_2 : FVec F S_ .f32 := constant S_ .f32 0x7F800000#32
  let main_v13 : FVec F S4096x16x128 .f32 := broadcastInDim S4096x16x128 ![] bcast_S_S4096x16x128 main_cst_2
  let main_v14 : IVec S4096x16x128 1 := cmpf .olt main_v12 main_v13
  let main_c_3 : IVec S_ 1 := constantI S_ 1 1#1
  let main_v15 : IVec S_ 1 := (fun x v => Host.reduce IntOp.andi x v reducesTo_S4096x16x128_S_d0_1_2 h_S_) main_v14 main_c_3
  let main_v16 : IVec S_ 1 := andi main_v10 main_v15
  let main_v17 : FVec F S4096x16x128 .f32 := (extf .f32 · bitsLt_bf16_f32) main_arg3
  fn_part1 (F := F) main_v16 main_v17
-- ==== Pre_finite2.lean ====
abbrev S4096x2048 : Shape := ⟨2, ![4096, 2048]⟩
abbrev S1x5632x2048 : Shape := ⟨3, ![1, 5632, 2048]⟩
abbrev S4096x11264 : Shape := ⟨2, ![4096, 11264]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1x5632x2048 : S_.BroadcastsInDim S1x5632x2048 (![] : Fin 0 → Fin S1x5632x2048.rank)
  reducesTo_S1x5632x2048_S_d0_1_2 : S1x5632x2048.ReducesTo [0, 1, 2] S_
  bcast_S_S4096x11264 : S_.BroadcastsInDim S4096x11264 (![] : Fin 0 → Fin S4096x11264.rank)
  reducesTo_S4096x11264_S_d0_1 : S4096x11264.ReducesTo [0, 1] S_

variable [Facts]

def fn {F : FTy → Type} [FloatOps F] (main_arg0 : FVec F S4096x2048 .bf16) (main_arg1 : FVec F S1x5632x2048 .bf16) (main_arg2 : FVec F S4096x11264 .bf16) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S1x5632x2048 .f32 := (extf .f32 · bitsLt_bf16_f32) main_arg1
  let main_v6 : FVec F S1x5632x2048 .f32 := Host.absf main_v5
  let main_cst_0 : FVec F S_ .f32 := constant S_ .f32 0x7F800000#32
  let main_v7 : FVec F S1x5632x2048 .f32 := broadcastInDim S1x5632x2048 ![] bcast_S_S1x5632x2048 main_cst_0
  let main_v8 : IVec S1x5632x2048 1 := cmpf .olt main_v6 main_v7
  let main_c_1 : IVec S_ 1 := constantI S_ 1 1#1
  let main_v9 : IVec S_ 1 := (fun x v => Host.reduce IntOp.andi x v reducesTo_S1x5632x2048_S_d0_1_2 h_S_) main_v8 main_c_1
  let main_v10 : IVec S_ 1 := andi main_v4 main_v9
  let main_v11 : FVec F S4096x11264 .f32 := (extf .f32 · bitsLt_bf16_f32) main_arg2
  let main_v12 : FVec F S4096x11264 .f32 := Host.absf main_v11
  let main_cst_2 : FVec F S_ .f32 := constant S_ .f32 0x7F800000#32
  let main_v13 : FVec F S4096x11264 .f32 := broadcastInDim S4096x11264 ![] bcast_S_S4096x11264 main_cst_2
  let main_v14 : IVec S4096x11264 1 := cmpf .olt main_v12 main_v13
  let main_c_3 : IVec S_ 1 := constantI S_ 1 1#1
  let main_v15 : IVec S_ 1 := (fun x v => Host.reduce IntOp.andi x v reducesTo_S4096x11264_S_d0_1 h_S_) main_v14 main_c_3
  let main_v16 : IVec S_ 1 := andi main_v10 main_v15
  main_v16
-- ==== Kernel.lean ====
abbrev S4096x16x192 : Shape := ⟨3, ![4096, 16, 192]⟩
abbrev S4096x16x128 : Shape := ⟨3, ![4096, 16, 128]⟩
abbrev S36 : Shape := ⟨1, ![36]⟩
abbrev S_ : Shape := ⟨0, ![]⟩
abbrev S16x4096x4096 : Shape := ⟨3, ![16, 4096, 4096]⟩
abbrev S4096x4096 : Shape := ⟨2, ![4096, 4096]⟩
abbrev S1x4096x4096 : Shape := ⟨3, ![1, 4096, 4096]⟩
abbrev S16x4096 : Shape := ⟨2, ![16, 4096]⟩
abbrev S16x4096x1 : Shape := ⟨3, ![16, 4096, 1]⟩
abbrev S16x128x4096 : Shape := ⟨3, ![16, 128, 4096]⟩
abbrev S4096x16 : Shape := ⟨2, ![4096, 16]⟩
abbrev S4096x16x256 : Shape := ⟨3, ![4096, 16, 256]⟩
abbrev S4096x2048 : Shape := ⟨2, ![4096, 2048]⟩
abbrev S4096x16x1 : Shape := ⟨3, ![4096, 16, 1]⟩
abbrev S512x1024 : Shape := ⟨2, ![512, 1024]⟩
abbrev S1 : Shape := ⟨1, ![1]⟩
abbrev S512x512 : Shape := ⟨2, ![512, 512]⟩
abbrev S4096x1024 : Shape := ⟨2, ![4096, 1024]⟩
abbrev S512x256 : Shape := ⟨2, ![512, 256]⟩
abbrev S512x128 : Shape := ⟨2, ![512, 128]⟩
abbrev S512x1 : Shape := ⟨2, ![512, 1]⟩

abbrev nBuf : Space → Nat
  | .hbm => 75
  | .vmem => 21
  | .smem => 2
  | _ => 0

abbrev bufTy : (tb : Table) → Fin (tcTables nBuf tb) → BufTy
  | .hbm, ⟨0, _⟩ => ⟨S4096x16x192, .bf16⟩
  | .hbm, ⟨1, _⟩ => ⟨S4096x16x192, .bf16⟩
  | .hbm, ⟨2, _⟩ => ⟨S4096x16x128, .bf16⟩
  | .hbm, ⟨3, _⟩ => ⟨S4096x16x128, .bf16⟩
  | .hbm, ⟨4, _⟩ => ⟨S_, .f32⟩
  | .hbm, ⟨5, _⟩ => ⟨S_, .f32⟩
  | .hbm, ⟨6, _⟩ => ⟨S4096x16x192, .f32⟩
  | .hbm, ⟨7, _⟩ => ⟨S4096x16x192, .f32⟩
  | .hbm, ⟨8, _⟩ => ⟨S4096x16x128, .f32⟩
  | .hbm, ⟨9, _⟩ => ⟨S16x4096x4096, .f32⟩
  | .hbm, ⟨10, _⟩ => ⟨S_, .f32⟩
  | .hbm, ⟨11, _⟩ => ⟨S16x4096x4096, .f32⟩
  | .hbm, ⟨12, _⟩ => ⟨S16x4096x4096, .f32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S1x4096x4096, .i1⟩
  | .hbm, ⟨17, _⟩ => ⟨S_, .f32⟩
  | .hbm, ⟨18, _⟩ => ⟨S_, .f32⟩
  | .hbm, ⟨19, _⟩ => ⟨S16x4096x4096, .i1⟩
  | .hbm, ⟨20, _⟩ => ⟨S16x4096x4096, .f32⟩
  | .hbm, ⟨21, _⟩ => ⟨S16x4096x4096, .f32⟩
  | .hbm, ⟨22, _⟩ => ⟨S_, .f32⟩
  | .hbm, ⟨23, _⟩ => ⟨S16x4096, .f32⟩
  | .hbm, ⟨24, _⟩ => ⟨S16x4096x1, .f32⟩
  | .hbm, ⟨25, _⟩ => ⟨S16x4096x4096, .f32⟩
  | .hbm, ⟨26, _⟩ => ⟨S16x4096x4096, .f32⟩
  | .hbm, ⟨27, _⟩ => ⟨S16x4096x4096, .f32⟩
  | .hbm, ⟨28, _⟩ => ⟨S_, .f32⟩
  | .hbm, ⟨29, _⟩ => ⟨S16x4096, .f32⟩
  | .hbm, ⟨30, _⟩ => ⟨S16x4096x1, .f32⟩
  | .hbm, ⟨31, _⟩ => ⟨S16x4096x4096, .f32⟩
  | .hbm, ⟨32, _⟩ => ⟨S16x4096x4096, .f32⟩
  | .hbm, ⟨33, _⟩ => ⟨S16x128x4096, .f32⟩
  | .hbm, ⟨34, _⟩ => ⟨S4096x16x128, .f32⟩
  | .hbm, ⟨35, _⟩ => ⟨S4096x16x128, .bf16⟩
  | .hbm, ⟨36, _⟩ => ⟨S16x4096x1, .f32⟩
  | .hbm, ⟨37, _⟩ => ⟨S16x4096x1, .f32⟩
  | .hbm, ⟨38, _⟩ => ⟨S16x4096x1, .f32⟩
  | .hbm, ⟨39, _⟩ => ⟨S16x4096x1, .f32⟩
  | .hbm, ⟨40, _⟩ => ⟨S16x4096, .f32⟩
  | .hbm, ⟨41, _⟩ => ⟨S4096x16, .f32⟩
  | .hbm, ⟨42, _⟩ => ⟨S4096x16x128, .f32⟩
  | .hbm, ⟨43, _⟩ => ⟨S4096x16x128, .f32⟩
  | .hbm, ⟨44, _⟩ => ⟨S4096x16x128, .f32⟩
  | .hbm, ⟨45, _⟩ => ⟨S_, .f32⟩
  | .hbm, ⟨46, _⟩ => ⟨S4096x16, .f32⟩
  | .hbm, ⟨47, _⟩ => ⟨S_, .f32⟩
  | .hbm, ⟨48, _⟩ => ⟨S4096x16x192, .f32⟩
  | .hbm, ⟨49, _⟩ => ⟨S4096x16x192, .f32⟩
  | .hbm, ⟨50, _⟩ => ⟨S4096x16x192, .f32⟩
  | .hbm, ⟨51, _⟩ => ⟨S4096x16x192, .f32⟩
  | .hbm, ⟨52, _⟩ => ⟨S4096x16x192, .bf16⟩
  | .hbm, ⟨53, _⟩ => ⟨S_, .i32⟩
  | .hbm, ⟨54, _⟩ => ⟨S_, .bf16⟩
  | .hbm, ⟨55, _⟩ => ⟨S4096x16x256, .bf16⟩
  | .hbm, ⟨56, _⟩ => ⟨S4096x4096, .bf16⟩
  | .hbm, ⟨57, _⟩ => ⟨S_, .i32⟩
  | .hbm, ⟨58, _⟩ => ⟨S_, .bf16⟩
  | .hbm, ⟨59, _⟩ => ⟨S4096x16x256, .bf16⟩
  | .hbm, ⟨60, _⟩ => ⟨S4096x4096, .bf16⟩
  | .hbm, ⟨61, _⟩ => ⟨S_, .i32⟩
  | .hbm, ⟨62, _⟩ => ⟨S_, .bf16⟩
  | .hbm, ⟨63, _⟩ => ⟨S4096x16x256, .bf16⟩
  | .hbm, ⟨64, _⟩ => ⟨S4096x4096, .bf16⟩
  | .hbm, ⟨65, _⟩ => ⟨S4096x2048, .bf16⟩
  | .hbm, ⟨66, _⟩ => ⟨S4096x16x1, .f32⟩
  | .hbm, ⟨67, _⟩ => ⟨S4096x16x128, .f32⟩
  | .hbm, ⟨68, _⟩ => ⟨S4096x2048, .f32⟩
  | .hbm, ⟨69, _⟩ => ⟨S4096x16x1, .f32⟩
  | .hbm, ⟨70, _⟩ => ⟨S4096x16x128, .f32⟩
  | .hbm, ⟨71, _⟩ => ⟨S4096x2048, .f32⟩
  | .hbm, ⟨72, _⟩ => ⟨S4096x4096, .bf16⟩
  | .hbm, ⟨73, _⟩ => ⟨S4096x4096, .bf16⟩
  | .hbm, ⟨74, _⟩ => ⟨S4096x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S4096x1024, .bf16⟩
  | .local _ .vmem, ⟨13, _⟩ => ⟨S4096x1024, .bf16⟩
  | .local _ .vmem, ⟨14, _⟩ => ⟨S512x1024, .bf16⟩
  | .local _ .vmem, ⟨15, _⟩ => ⟨S512x1024, .bf16⟩
  | .local _ .vmem, ⟨16, _⟩ => ⟨S512x512, .bf16⟩
  | .local _ .vmem, ⟨17, _⟩ => ⟨S512x512, .bf16⟩
  | .local _ .vmem, ⟨18, _⟩ => ⟨S4096x1024, .f32⟩
  | .local _ .vmem, ⟨19, _⟩ => ⟨S512x1024, .f32⟩
  | .local _ .vmem, ⟨20, _⟩ => ⟨S512x512, .f32⟩
  | .local _ .smem, ⟨0, _⟩ => ⟨S36, .i32⟩
  | .local _ .smem, ⟨1, _⟩ => ⟨S36, .i32⟩
  | _, _ => ⟨S4096x16x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_7 : Ref sig .tc := ⟨.hbm, 53, rfl⟩
abbrev main_call1_v0 : Ref sig .tc := ⟨.hbm, 54, rfl⟩
abbrev main_v39 : Ref sig .tc := ⟨.hbm, 55, rfl⟩
abbrev main_v40 : Ref sig .tc := ⟨.hbm, 56, rfl⟩
abbrev main_c_8 : Ref sig .tc := ⟨.hbm, 57, rfl⟩
abbrev main_call2_v0 : Ref sig .tc := ⟨.hbm, 58, rfl⟩
abbrev main_v41 : Ref sig .tc := ⟨.hbm, 59, rfl⟩
abbrev main_v42 : Ref sig .tc := ⟨.hbm, 60, rfl⟩
abbrev main_c_9 : Ref sig .tc := ⟨.hbm, 61, rfl⟩
abbrev main_call3_v0 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52_0 : Ref sig .tc := ⟨.hbm, 72, rfl⟩
abbrev main_v52_1 : Ref sig .tc := ⟨.hbm, 73, rfl⟩
abbrev main_v52_2 : Ref sig .tc := ⟨.hbm, 74, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c512_i32 : BitVec 32 := 512#32
  let v19 : BitVec 32 := Scalar.muli v1 c512_i32
  v19
def k0_cond2 (v1 : BitVec 32) (v3 : BitVec 32) : BitVec 1 :=
  let v7 : BitVec 1 := Scalar.cmpi .eq v1 v3
  let v8 : BitVec 32 := Scalar.extui v7
  let c0_i32_1 : BitVec 32 := 0#32
  let v9 : BitVec 1 := Scalar.cmpi .ne v8 c0_i32_1
  v9

def k0_off2 (v1 : BitVec 32) : Fin 2 → Nat :=
  let c512_i32 : BitVec 32 := 512#32
  let v19 : BitVec 32 := Scalar.muli v1 c512_i32
  let v20 : BitVec 32 := v19
  let v56 : Index := Scalar.indexCast v20
  let c0_24 : Index := 0#32
  ![v56.toNat, 0]
def k0_off3 (v1 : BitVec 32) : Fin 2 → Nat :=
  let c512_i32 : BitVec 32 := 512#32
  let v19 : BitVec 32 := Scalar.muli v1 c512_i32
  let v20 : BitVec 32 := v19
  let v101 : Index := Scalar.indexCast v20
  let c256_47 : Index := 256#32
  ![v101.toNat, 256]
def k0_off4 (v1 : BitVec 32) : Fin 2 → Nat :=
  let c512_i32 : BitVec 32 := 512#32
  let v19 : BitVec 32 := Scalar.muli v1 c512_i32
  let v20 : BitVec 32 := v19
  let v146 : Index := Scalar.indexCast v20
  let c512_71 : Index := 512#32
  ![v146.toNat, 512]
def k0_off5 (v1 : BitVec 32) : Fin 2 → Nat :=
  let c512_i32 : BitVec 32 := 512#32
  let v19 : BitVec 32 := Scalar.muli v1 c512_i32
  let v20 : BitVec 32 := v19
  let v191 : Index := Scalar.indexCast v20
  let c768_94 : Index := 768#32
  ![v191.toNat, 768]
def k0_mult2 (v1 : BitVec 32) : BitVec 32 :=
  let c512_i32 : BitVec 32 := 512#32
  let v19 : BitVec 32 := Scalar.muli v1 c512_i32
  v19
def k0_cond3 (v1 : BitVec 32) (v3 : BitVec 32) : BitVec 1 :=
  let v10 : BitVec 1 := Scalar.cmpi .sgt v1 v3
  let v11 : BitVec 32 := Scalar.extui v10
  let c0_i32_2 : BitVec 32 := 0#32
  let v12 : BitVec 1 := Scalar.cmpi .ne v11 c0_i32_2
  v12

def k0_off6 (v1 : BitVec 32) : Fin 2 → Nat :=
  let c512_i32 : BitVec 32 := 512#32
  let v19 : BitVec 32 := Scalar.muli v1 c512_i32
  let v20 : BitVec 32 := v19
  let v55 : Index := Scalar.indexCast v20
  let c0_27 : Index := 0#32
  ![v55.toNat, 0]
def k0_off7 (v1 : BitVec 32) : Fin 2 → Nat :=
  let c512_i32 : BitVec 32 := 512#32
  let v19 : BitVec 32 := Scalar.muli v1 c512_i32
  let v20 : BitVec 32 := v19
  let v99 : Index := Scalar.indexCast v20
  let c256_53 : Index := 256#32
  ![v99.toNat, 256]
def k0_off8 (v1 : BitVec 32) : Fin 2 → Nat :=
  let c512_i32 : BitVec 32 := 512#32
  let v19 : BitVec 32 := Scalar.muli v1 c512_i32
  let v20 : BitVec 32 := v19
  let v143 : Index := Scalar.indexCast v20
  let c512_80 : Index := 512#32
  ![v143.toNat, 512]
def k0_off9 (v1 : BitVec 32) : Fin 2 → Nat :=
  let c512_i32 : BitVec 32 := 512#32
  let v19 : BitVec 32 := Scalar.muli v1 c512_i32
  let v20 : BitVec 32 := v19
  let v187 : Index := Scalar.indexCast v20
  let c768_106 : Index := 768#32
  ![v187.toNat, 768]

def k0_chk1 (v1 : BitVec 32) (v3 : BitVec 32) : Prop :=
  (∀ (k0_h2 : k0_cond2 v1 v3 = 1#1), 512 ∣ (k0_mult1 v1).toNat) ∧
  (∀ (k0_h2 : k0_cond2 v1 v3 = 1#1), ∀ a, (k0_off2 v1) a + S512x256.size a ≤ S4096x1024.size a) ∧
  (∀ (k0_h2 : k0_cond2 v1 v3 = 1#1), ∀ a, (k0_off3 v1) a + S512x256.size a ≤ S4096x1024.size a) ∧
  (∀ (k0_h2 : k0_cond2 v1 v3 = 1#1), ∀ a, (k0_off4 v1) a + S512x256.size a ≤ S4096x1024.size a) ∧
  (∀ (k0_h2 : k0_cond2 v1 v3 = 1#1), ∀ a, (k0_off5 v1) a + S512x256.size a ≤ S4096x1024.size a) ∧
  (∀ (k0_h3 : k0_cond3 v1 v3 = 1#1), 512 ∣ (k0_mult2 v1).toNat) ∧
  (∀ (k0_h3 : k0_cond3 v1 v3 = 1#1), ∀ a, (k0_off6 v1) a + S512x256.size a ≤ S4096x1024.size a) ∧
  (∀ (k0_h3 : k0_cond3 v1 v3 = 1#1), ∀ a, (k0_off7 v1) a + S512x256.size a ≤ S4096x1024.size a) ∧
  (∀ (k0_h3 : k0_cond3 v1 v3 = 1#1), ∀ a, (k0_off8 v1) a + S512x256.size a ≤ S4096x1024.size a) ∧
  (∀ (k0_h3 : k0_cond3 v1 v3 = 1#1), ∀ a, (k0_off9 v1) a + S512x256.size a ≤ S4096x1024.size a)
theorem k0_mult1_dvd : ∀ (v1 : BitVec 32) (v3 : BitVec 32) (k0_hw1 : k0_chk1 v1 v3), ∀ (k0_h2 : k0_cond2 v1 v3 = 1#1), 512 ∣ (k0_mult1 v1).toNat := fun v1 v3 k0_hw1 k0_h2 => k0_hw1.1 k0_h2
theorem k0_off2_inb : ∀ (v1 : BitVec 32) (v3 : BitVec 32) (k0_hw1 : k0_chk1 v1 v3), ∀ (k0_h2 : k0_cond2 v1 v3 = 1#1), ∀ a, (k0_off2 v1) a + S512x256.size a ≤ S4096x1024.size a := fun v1 v3 k0_hw1 k0_h2 => k0_hw1.2.1 k0_h2
theorem k0_off3_inb : ∀ (v1 : BitVec 32) (v3 : BitVec 32) (k0_hw1 : k0_chk1 v1 v3), ∀ (k0_h2 : k0_cond2 v1 v3 = 1#1), ∀ a, (k0_off3 v1) a + S512x256.size a ≤ S4096x1024.size a := fun v1 v3 k0_hw1 k0_h2 => k0_hw1.2.2.1 k0_h2
theorem k0_off4_inb : ∀ (v1 : BitVec 32) (v3 : BitVec 32) (k0_hw1 : k0_chk1 v1 v3), ∀ (k0_h2 : k0_cond2 v1 v3 = 1#1), ∀ a, (k0_off4 v1) a + S512x256.size a ≤ S4096x1024.size a := fun v1 v3 k0_hw1 k0_h2 => k0_hw1.2.2.2.1 k0_h2
theorem k0_off5_inb : ∀ (v1 : BitVec 32) (v3 : BitVec 32) (k0_hw1 : k0_chk1 v1 v3), ∀ (k0_h2 : k0_cond2 v1 v3 = 1#1), ∀ a, (k0_off5 v1) a + S512x256.size a ≤ S4096x1024.size a := fun v1 v3 k0_hw1 k0_h2 => k0_hw1.2.2.2.2.1 k0_h2
theorem k0_mult2_dvd : ∀ (v1 : BitVec 32) (v3 : BitVec 32) (k0_hw1 : k0_chk1 v1 v3), ∀ (k0_h3 : k0_cond3 v1 v3 = 1#1), 512 ∣ (k0_mult2 v1).toNat := fun v1 v3 k0_hw1 k0_h3 => k0_hw1.2.2.2.2.2.1 k0_h3
theorem k0_off6_inb : ∀ (v1 : BitVec 32) (v3 : BitVec 32) (k0_hw1 : k0_chk1 v1 v3), ∀ (k0_h3 : k0_cond3 v1 v3 = 1#1), ∀ a, (k0_off6 v1) a + S512x256.size a ≤ S4096x1024.size a := fun v1 v3 k0_hw1 k0_h3 => k0_hw1.2.2.2.2.2.2.1 k0_h3
theorem k0_off7_inb : ∀ (v1 : BitVec 32) (v3 : BitVec 32) (k0_hw1 : k0_chk1 v1 v3), ∀ (k0_h3 : k0_cond3 v1 v3 = 1#1), ∀ a, (k0_off7 v1) a + S512x256.size a ≤ S4096x1024.size a := fun v1 v3 k0_hw1 k0_h3 => k0_hw1.2.2.2.2.2.2.2.1 k0_h3
theorem k0_off8_inb : ∀ (v1 : BitVec 32) (v3 : BitVec 32) (k0_hw1 : k0_chk1 v1 v3), ∀ (k0_h3 : k0_cond3 v1 v3 = 1#1), ∀ a, (k0_off8 v1) a + S512x256.size a ≤ S4096x1024.size a := fun v1 v3 k0_hw1 k0_h3 => k0_hw1.2.2.2.2.2.2.2.2.1 k0_h3
theorem k0_off9_inb : ∀ (v1 : BitVec 32) (v3 : BitVec 32) (k0_hw1 : k0_chk1 v1 v3), ∀ (k0_h3 : k0_cond3 v1 v3 = 1#1), ∀ a, (k0_off9 v1) a + S512x256.size a ≤ S4096x1024.size a := fun v1 v3 k0_hw1 k0_h3 => k0_hw1.2.2.2.2.2.2.2.2.2 k0_h3

def k0_cond5 (i : grid0.Coords) : BitVec 1 :=
  let arg1 : BitVec 32 := BitVec.ofNat 32 (i 1).val
  let c35_i32 : BitVec 32 := 35#32
  let v16 : BitVec 1 := Scalar.cmpi .eq arg1 c35_i32
  let v17 : BitVec 32 := Scalar.extui v16
  let c0_i32_4 : BitVec 32 := 0#32
  let v18 : BitVec 1 := Scalar.cmpi .ne v17 c0_i32_4
  v18

def k0_cond4 (v1 : BitVec 32) : BitVec 1 :=
  let c7_i32 : BitVec 32 := 7#32
  let v13 : BitVec 1 := Scalar.cmpi .eq v1 c7_i32
  let v14 : BitVec 32 := Scalar.extui v13
  let c0_i32_3 : BitVec 32 := 0#32
  let v15 : BitVec 1 := Scalar.cmpi .ne v14 c0_i32_3
  v15

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_5 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_8 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "ln2" => some ((Real.log 2 : ℝ) : EReal)
  | "masked" => some ⊥
  | _ => none
-- ==== ReferenceIdeal.lean ====
abbrev S4096x16x192 : Shape := ⟨3, ![4096, 16, 192]⟩
abbrev S4096x16x128 : Shape := ⟨3, ![4096, 16, 128]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S16x4096 : Shape := ⟨2, ![16, 4096]⟩
abbrev S16x4096x1 : Shape := ⟨3, ![16, 4096, 1]⟩
abbrev S16x128x4096 : Shape := ⟨3, ![16, 128, 4096]⟩
abbrev S16x4096x192 : Shape := ⟨3, ![16, 4096, 192]⟩
abbrev S4096x16x256 : Shape := ⟨3, ![4096, 16, 256]⟩
abbrev S4096x2048 : Shape := ⟨2, ![4096, 2048]⟩

abbrev nBuf : Space → Nat
  | .hbm => 107
  | .vmem => 0
  | .smem => 0
  | _ => 0

abbrev bufTy : (tb : Table) → Fin (tcTables nBuf tb) → BufTy
  | .hbm, ⟨0, _⟩ => ⟨S4096x16x192, .bf16⟩
  | .hbm, ⟨1, _⟩ => ⟨S4096x16x192, .bf16⟩
  | .hbm, ⟨2, _⟩ => ⟨S4096x16x128, .bf16⟩
  | .hbm, ⟨3, _⟩ => ⟨S4096x16x128, .bf16⟩
  | .hbm, ⟨4, _⟩ => ⟨S4096x16x192, .f32⟩
  | .hbm, ⟨5, _⟩ => ⟨S4096x16x192, .f32⟩
  | .hbm, ⟨6, _⟩ => ⟨S16x4096x4096, .f32⟩
  | .hbm, ⟨7, _⟩ => ⟨S_, .f32⟩
  | .hbm, ⟨8, _⟩ => ⟨S16x4096x4096, .f32⟩
  | .hbm, ⟨9, _⟩ => ⟨S16x4096x4096, .f32⟩
  | .hbm, ⟨10, _⟩ => ⟨S4096, .i32⟩
  | .hbm, ⟨11, _⟩ => ⟨S1x4096, .i32⟩
  | .hbm, ⟨12, _⟩ => ⟨S4096x1, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S1x4096x4096, .i1⟩
  | .hbm, ⟨17, _⟩ => ⟨S_, .f32⟩
  | .hbm, ⟨18, _⟩ => ⟨S_, .f32⟩
  | .hbm, ⟨19, _⟩ => ⟨S16x4096x4096, .i1⟩
  | .hbm, ⟨20, _⟩ => ⟨S16x4096x4096, .f32⟩
  | .hbm, ⟨21, _⟩ => ⟨S16x4096x4096, .f32⟩
  | .hbm, ⟨22, _⟩ => ⟨S_, .f32⟩
  | .hbm, ⟨23, _⟩ => ⟨S16x4096x4096, .f32⟩
  | .hbm, ⟨24, _⟩ => ⟨S_, .f32⟩
  | .hbm, ⟨25, _⟩ => ⟨S16x4096, .f32⟩
  | .hbm, ⟨26, _⟩ => ⟨S16x4096x1, .f32⟩
  | .hbm, ⟨27, _⟩ => ⟨S16x4096x4096, .f32⟩
  | .hbm, ⟨28, _⟩ => ⟨S16x4096x4096, .i1⟩
  | .hbm, ⟨29, _⟩ => ⟨S16x4096x4096, .f32⟩
  | .hbm, ⟨30, _⟩ => ⟨S_, .f32⟩
  | .hbm, ⟨31, _⟩ => ⟨S16x4096, .f32⟩
  | .hbm, ⟨32, _⟩ => ⟨S_, .f32⟩
  | .hbm, ⟨33, _⟩ => ⟨S16x4096, .f32⟩
  | .hbm, ⟨34, _⟩ => ⟨S16x4096, .f32⟩
  | .hbm, ⟨35, _⟩ => ⟨S_, .f32⟩
  | .hbm, ⟨36, _⟩ => ⟨S16x4096, .f32⟩
  | .hbm, ⟨37, _⟩ => ⟨S16x4096, .i1⟩
  | .hbm, ⟨38, _⟩ => ⟨S_, .f32⟩
  | .hbm, ⟨39, _⟩ => ⟨S16x4096, .f32⟩
  | .hbm, ⟨40, _⟩ => ⟨S16x4096, .i1⟩
  | .hbm, ⟨41, _⟩ => ⟨S_, .f32⟩
  | .hbm, ⟨42, _⟩ => ⟨S16x4096, .f32⟩
  | .hbm, ⟨43, _⟩ => ⟨S_, .f32⟩
  | .hbm, ⟨44, _⟩ => ⟨S16x4096, .f32⟩
  | .hbm, ⟨45, _⟩ => ⟨S_, .f32⟩
  | .hbm, ⟨46, _⟩ => ⟨S16x4096, .f32⟩
  | .hbm, ⟨47, _⟩ => ⟨S16x4096, .f32⟩
  | .hbm, ⟨48, _⟩ => ⟨S16x4096, .f32⟩
  | .hbm, ⟨49, _⟩ => ⟨S16x4096x1, .f32⟩
  | .hbm, ⟨50, _⟩ => ⟨S16x4096x4096, .f32⟩
  | .hbm, ⟨51, _⟩ => ⟨S16x4096x4096, .f32⟩
  | .hbm, ⟨52, _⟩ => ⟨S16x4096x4096, .f32⟩
  | .hbm, ⟨53, _⟩ => ⟨S_, .f32⟩
  | .hbm, ⟨54, _⟩ => ⟨S16x4096, .f32⟩
  | .hbm, ⟨55, _⟩ => ⟨S16x4096x1, .f32⟩
  | .hbm, ⟨56, _⟩ => ⟨S16x4096x4096, .f32⟩
  | .hbm, ⟨57, _⟩ => ⟨S16x4096x4096, .f32⟩
  | .hbm, ⟨58, _⟩ => ⟨S16x4096x1, .f32⟩
  | .hbm, ⟨59, _⟩ => ⟨S_, .f32⟩
  | .hbm, ⟨60, _⟩ => ⟨S16x4096x1, .f32⟩
  | .hbm, ⟨61, _⟩ => ⟨S16x4096x1, .f32⟩
  | .hbm, ⟨62, _⟩ => ⟨S4096x16x128, .f32⟩
  | .hbm, ⟨63, _⟩ => ⟨S16x128x4096, .f32⟩
  | .hbm, ⟨64, _⟩ => ⟨S4096x16x128, .f32⟩
  | .hbm, ⟨65, _⟩ => ⟨S4096x16x128, .bf16⟩
  | .hbm, ⟨66, _⟩ => ⟨S4096x16x128, .f32⟩
  | .hbm, ⟨67, _⟩ => ⟨S16x128x4096, .f32⟩
  | .hbm, ⟨68, _⟩ => ⟨S16x4096x4096, .f32⟩
  | .hbm, ⟨69, _⟩ => ⟨S16x128x4096, .f32⟩
  | .hbm, ⟨70, _⟩ => ⟨S4096x16x128, .f32⟩
  | .hbm, ⟨71, _⟩ => ⟨S4096x16x128, .bf16⟩
  | .hbm, ⟨72, _⟩ => ⟨S16x4096x4096, .f32⟩
  | .hbm, ⟨73, _⟩ => ⟨S16x4096x4096, .f32⟩
  | .hbm, ⟨74, _⟩ => ⟨S16x4096x4096, .f32⟩
  | .hbm, ⟨75, _⟩ => ⟨S_, .f32⟩
  | .hbm, ⟨76, _⟩ => ⟨S16x4096, .f32⟩
  | .hbm, ⟨77, _⟩ => ⟨S16x4096x1, .f32⟩
  | .hbm, ⟨78, _⟩ => ⟨S16x4096x1, .f32⟩
  | .hbm, ⟨79, _⟩ => ⟨S16x4096x4096, .f32⟩
  | .hbm, ⟨80, _⟩ => ⟨S16x4096x4096, .f32⟩
  | .hbm, ⟨81, _⟩ => ⟨S_, .f32⟩
  | .hbm, ⟨82, _⟩ => ⟨S16x4096, .f32⟩
  | .hbm, ⟨83, _⟩ => ⟨S16x4096x4096, .f32⟩
  | .hbm, ⟨84, _⟩ => ⟨S16x4096x4096, .f32⟩
  | .hbm, ⟨85, _⟩ => ⟨S16x4096x4096, .f32⟩
  | .hbm, ⟨86, _⟩ => ⟨S_, .f32⟩
  | .hbm, ⟨87, _⟩ => ⟨S16x4096x4096, .f32⟩
  | .hbm, ⟨88, _⟩ => ⟨S16x4096x4096, .f32⟩
  | .hbm, ⟨89, _⟩ => ⟨S_, .f32⟩
  | .hbm, ⟨90, _⟩ => ⟨S16x4096x4096, .f32⟩
  | .hbm, ⟨91, _⟩ => ⟨S16x4096x4096, .f32⟩
  | .hbm, ⟨92, _⟩ => ⟨S16x4096x192, .f32⟩
  | .hbm, ⟨93, _⟩ => ⟨S4096x16x192, .f32⟩
  | .hbm, ⟨94, _⟩ => ⟨S16x4096x192, .f32⟩
  | .hbm, ⟨95, _⟩ => ⟨S4096x16x192, .f32⟩
  | .hbm, ⟨96, _⟩ => ⟨S4096x16x192, .bf16⟩
  | .hbm, ⟨97, _⟩ => ⟨S4096x16x192, .bf16⟩
  | .hbm, ⟨98, _⟩ => ⟨S_, .i32⟩
  | .hbm, ⟨99, _⟩ => ⟨S_, .bf16⟩
  | .hbm, ⟨100, _⟩ => ⟨S4096x16x256, .bf16⟩
  | .hbm, ⟨101, _⟩ => ⟨S4096x4096, .bf16⟩
  | .hbm, ⟨102, _⟩ => ⟨S_, .i32⟩
  | .hbm, ⟨103, _⟩ => ⟨S_, .bf16⟩
  | .hbm, ⟨104, _⟩ => ⟨S4096x16x256, .bf16⟩
  | .hbm, ⟨105, _⟩ => ⟨S4096x4096, .bf16⟩
  | .hbm, ⟨106, _⟩ => ⟨S4096x2048, .bf16⟩
  | _, _ => ⟨S4096x16x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_call0_v0 : Ref sig .tc := ⟨.hbm, 18, rfl⟩
abbrev main_v12_1 : Ref sig .tc := ⟨.hbm, 19, rfl⟩
abbrev main_call0_v2 : Ref sig .tc := ⟨.hbm, 20, rfl⟩
abbrev main_v12_0 : Ref sig .tc := ⟨.hbm, 21, rfl⟩
abbrev main_call0_cst : Ref sig .tc := ⟨.hbm, 22, rfl⟩
abbrev main_v12_2 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_cst_8 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_9 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_10 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_call1_cst : Ref sig .tc := ⟨.hbm, 86, rfl⟩
abbrev main_call1_v0 : Ref sig .tc := ⟨.hbm, 87, rfl⟩
abbrev main_v63 : Ref sig .tc := ⟨.hbm, 88, rfl⟩
abbrev main_cst_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c : Ref sig .tc := ⟨.hbm, 98, rfl⟩
abbrev main_call2_v0 : Ref sig .tc := ⟨.hbm, 99, rfl⟩
abbrev main_v72 : Ref sig .tc := ⟨.hbm, 100, rfl⟩
abbrev main_v73 : Ref sig .tc := ⟨.hbm, 101, rfl⟩
abbrev main_c_14 : Ref sig .tc := ⟨.hbm, 102, rfl⟩
abbrev main_call3_v0 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩

abbrev nD : Nat := 1
abbrev τ : Topo := Topo.v7x

variable {F : FTy → Type} [FloatOps F]
-- ==== Kernel2.lean ====
abbrev S4096x2048 : Shape := ⟨2, ![4096, 2048]⟩
abbrev S1x5632x2048 : Shape := ⟨3, ![1, 5632, 2048]⟩
abbrev S4096x11264 : Shape := ⟨2, ![4096, 11264]⟩
abbrev S512x2048 : Shape := ⟨2, ![512, 2048]⟩
abbrev S1x1408x2048 : Shape := ⟨3, ![1, 1408, 2048]⟩
abbrev S512x2816 : Shape := ⟨2, ![512, 2816]⟩
abbrev S1408x2048 : Shape := ⟨2, ![1408, 2048]⟩
abbrev S512x1408 : Shape := ⟨2, ![512, 1408]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S1x5632x2048, .bf16⟩
  | .hbm, ⟨2, _⟩ => ⟨S4096x11264, .bf16⟩
  | .hbm, ⟨3, _⟩ => ⟨S4096x11264, .bf16⟩
  | .local _ .vmem, ⟨0, _⟩ => ⟨S512x2048, .bf16⟩
  | .local _ .vmem, ⟨1, _⟩ => ⟨S512x2048, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4096x2048 : Shape := ⟨2, ![4096, 2048]⟩
abbrev S1x5632x2048 : Shape := ⟨3, ![1, 5632, 2048]⟩
abbrev S4096x11264 : Shape := ⟨2, ![4096, 11264]⟩
abbrev S4096x4x2x1408 : Shape := ⟨4, ![4096, 4, 2, 1408]⟩
abbrev S4096x4x1x1408 : Shape := ⟨4, ![4096, 4, 1, 1408]⟩
abbrev S_ : Shape := ⟨0, ![]⟩
abbrev S4096x5632 : Shape := ⟨2, ![4096, 5632]⟩
abbrev S5632x2048 : Shape := ⟨2, ![5632, 2048]⟩

abbrev nBuf : Space → Nat
  | .hbm => 43
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x5632x2048, .bf16⟩
  | .hbm, ⟨2, _⟩ => ⟨S4096x11264, .bf16⟩
  | .hbm, ⟨3, _⟩ => ⟨S4096x11264, .f32⟩
  | .hbm, ⟨4, _⟩ => ⟨S4096x4x2x1408, .f32⟩
  | .hbm, ⟨5, _⟩ => ⟨S4096x4x1x1408, .f32⟩
  | .hbm, ⟨6, _⟩ => ⟨S4096x4x1x1408, .f32⟩
  | .hbm, ⟨7, _⟩ => ⟨S4096x4x1x1408, .f32⟩
  | .hbm, ⟨8, _⟩ => ⟨S4096x4x1x1408, .f32⟩
  | .hbm, ⟨9, _⟩ => ⟨S_, .f32⟩
  | .hbm, ⟨10, _⟩ => ⟨S4096x4x1x1408, .f32⟩
  | .hbm, ⟨11, _⟩ => ⟨S4096x4x1x1408, .f32⟩
  | .hbm, ⟨12, _⟩ => ⟨S_, .f32⟩
  | .hbm, ⟨13, _⟩ => ⟨S4096x4x1x1408, .f32⟩
  | .hbm, ⟨14, _⟩ => ⟨S4096x4x1x1408, .f32⟩
  | .hbm, ⟨15, _⟩ => ⟨S_, .f32⟩
  | .hbm, ⟨16, _⟩ => ⟨S4096x4x1x1408, .f32⟩
  | .hbm, ⟨17, _⟩ => ⟨S4096x4x1x1408, .f32⟩
  | .hbm, ⟨18, _⟩ => ⟨S4096x4x1x1408, .f32⟩
  | .hbm, ⟨19, _⟩ => ⟨S4096x4x1x1408, .f32⟩
  | .hbm, ⟨20, _⟩ => ⟨S4096x4x1x1408, .f32⟩
  | .hbm, ⟨21, _⟩ => ⟨S4096x5632, .f32⟩
  | .hbm, ⟨22, _⟩ => ⟨S1x5632x2048, .f32⟩
  | .hbm, ⟨23, _⟩ => ⟨S5632x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S4096x5632, .f32⟩
  | .hbm, ⟨33, _⟩ => ⟨S4096x4x1x1408, .f32⟩
  | .hbm, ⟨34, _⟩ => ⟨S4096x4x1x1408, .f32⟩
  | .hbm, ⟨35, _⟩ => ⟨S4096x4x1x1408, .f32⟩
  | .hbm, ⟨36, _⟩ => ⟨S4096x4x1x1408, .f32⟩
  | .hbm, ⟨37, _⟩ => ⟨S4096x4x1x1408, .f32⟩
  | .hbm, ⟨38, _⟩ => ⟨S4096x4x1x1408, .f32⟩
  | .hbm, ⟨39, _⟩ => ⟨S4096x4x1x1408, .f32⟩
  | .hbm, ⟨40, _⟩ => ⟨S4096x4x2x1408, .f32⟩
  | .hbm, ⟨41, _⟩ => ⟨S4096x11264, .f32⟩
  | .hbm, ⟨42, _⟩ => ⟨S4096x11264, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v4_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v4_1 : Ref sig .tc := ⟨.hbm, 18, rfl⟩
abbrev main_v4_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩

abbrev nD : Nat := 1
abbrev τ : Topo := Topo.v7x

variable {F : FTy → Type} [FloatOps F]
-- ==== Kernel3.lean ====
abbrev S4096x2048 : Shape := ⟨2, ![4096, 2048]⟩
abbrev S4096x11264 : Shape := ⟨2, ![4096, 11264]⟩
abbrev S2048x11264 : Shape := ⟨2, ![2048, 11264]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S2048x11264, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2048 : Shape := ⟨2, ![4096, 2048]⟩
abbrev S4096x11264 : Shape := ⟨2, ![4096, 11264]⟩
abbrev S_ : Shape := ⟨0, ![]⟩
abbrev S2048x11264 : Shape := ⟨2, ![2048, 11264]⟩
abbrev S11264x2048 : Shape := ⟨2, ![11264, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S_, .bf16⟩
  | .hbm, ⟨3, _⟩ => ⟨S2048x11264, .bf16⟩
  | .hbm, ⟨4, _⟩ => ⟨S4096x2048, .f32⟩
  | .hbm, ⟨5, _⟩ => ⟨S2048x11264, .f32⟩
  | .hbm, ⟨6, _⟩ => ⟨S4096x11264, .f32⟩
  | .hbm, ⟨7, _⟩ => ⟨S4096x11264, .f32⟩
  | .hbm, ⟨8, _⟩ => ⟨S11264x2048, .f32⟩
  | .hbm, ⟨9, _⟩ => ⟨S2048x11264, .f32⟩
  | .hbm, ⟨10, _⟩ => ⟨S2048x11264, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S4096x11264 : Shape := ⟨2, ![4096, 11264]⟩
abbrev S1x2048x11264 : Shape := ⟨3, ![1, 2048, 11264]⟩
abbrev S4096x2048 : Shape := ⟨2, ![4096, 2048]⟩
abbrev S1024x2816 : Shape := ⟨2, ![1024, 2816]⟩
abbrev S1x1024x2816 : Shape := ⟨3, ![1, 1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x11264, .bf16⟩
  | .hbm, ⟨1, _⟩ => ⟨S1x2048x11264, .bf16⟩
  | .hbm, ⟨2, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x11264 : Shape := ⟨2, ![4096, 11264]⟩
abbrev S1x2048x11264 : Shape := ⟨3, ![1, 2048, 11264]⟩
abbrev S_ : Shape := ⟨0, ![]⟩
abbrev S4096x2048 : Shape := ⟨2, ![4096, 2048]⟩
abbrev S2048x11264 : Shape := ⟨2, ![2048, 11264]⟩

abbrev nBuf : Space → Nat
  | .hbm => 9
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S1x2048x11264, .bf16⟩
  | .hbm, ⟨2, _⟩ => ⟨S_, .f32⟩
  | .hbm, ⟨3, _⟩ => ⟨S4096x2048, .f32⟩
  | .hbm, ⟨4, _⟩ => ⟨S1x2048x11264, .f32⟩
  | .hbm, ⟨5, _⟩ => ⟨S2048x11264, .f32⟩
  | .hbm, ⟨6, _⟩ => ⟨S4096x11264, .f32⟩
  | .hbm, ⟨7, _⟩ => ⟨S4096x11264, .f32⟩
  | .hbm, ⟨8, _⟩ => ⟨S4096x2048, .f32⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S4096x5632 : Shape := ⟨2, ![4096, 5632]⟩
abbrev S4096x2048 : Shape := ⟨2, ![4096, 2048]⟩
abbrev S5632x2048 : Shape := ⟨2, ![5632, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 17
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .bf16⟩
  | .hbm, ⟨3, _⟩ => ⟨S5632x2048, .bf16⟩
  | .hbm, ⟨4, _⟩ => ⟨S4096x5632, .f32⟩
  | .hbm, ⟨5, _⟩ => ⟨S5632x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S2048x5632, .f32⟩
  | .hbm, ⟨15, _⟩ => ⟨S5632x2048, .f32⟩
  | .hbm, ⟨16, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel6.lean ====
abbrev S4096x2048 : Shape := ⟨2, ![4096, 2048]⟩
abbrev S4096x9216 : Shape := ⟨2, ![4096, 9216]⟩
abbrev S2048x9216 : Shape := ⟨2, ![2048, 9216]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x9216, .bf16⟩
  | .hbm, ⟨2, _⟩ => ⟨S2048x9216, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S4096x9216 : Shape := ⟨2, ![4096, 9216]⟩
abbrev S_ : Shape := ⟨0, ![]⟩
abbrev S2048x9216 : Shape := ⟨2, ![2048, 9216]⟩
abbrev S9216x2048 : Shape := ⟨2, ![9216, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x9216, .bf16⟩
  | .hbm, ⟨2, _⟩ => ⟨S_, .bf16⟩
  | .hbm, ⟨3, _⟩ => ⟨S2048x9216, .bf16⟩
  | .hbm, ⟨4, _⟩ => ⟨S4096x2048, .f32⟩
  | .hbm, ⟨5, _⟩ => ⟨S2048x9216, .f32⟩
  | .hbm, ⟨6, _⟩ => ⟨S4096x9216, .f32⟩
  | .hbm, ⟨7, _⟩ => ⟨S4096x9216, .f32⟩
  | .hbm, ⟨8, _⟩ => ⟨S9216x2048, .f32⟩
  | .hbm, ⟨9, _⟩ => ⟨S2048x9216, .f32⟩
  | .hbm, ⟨10, _⟩ => ⟨S2048x9216, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S4096x9216 : Shape := ⟨2, ![4096, 9216]⟩
abbrev S1x2048x9216 : Shape := ⟨3, ![1, 2048, 9216]⟩
abbrev S4096x2048 : Shape := ⟨2, ![4096, 2048]⟩
abbrev S1024x2304 : Shape := ⟨2, ![1024, 2304]⟩
abbrev S1x1024x2304 : Shape := ⟨3, ![1, 1024, 2304]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x9216, .bf16⟩
  | .hbm, ⟨1, _⟩ => ⟨S1x2048x9216, .bf16⟩
  | .hbm, ⟨2, _⟩ => ⟨S4096x2048, .f32⟩
  | .local _ .vmem, ⟨0, _⟩ => ⟨S1024x2304, .bf16⟩
  | .local _ .vmem, ⟨1, _⟩ => ⟨S1024x2304, .bf16⟩
  | .local _ .vmem, ⟨2, _⟩ => ⟨S1x1024x2304, .bf16⟩
  | .local _ .vmem, ⟨3, _⟩ => ⟨S1x1024x2304, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x9216 : Shape := ⟨2, ![4096, 9216]⟩
abbrev S1x2048x9216 : Shape := ⟨3, ![1, 2048, 9216]⟩
abbrev S_ : Shape := ⟨0, ![]⟩
abbrev S4096x2048 : Shape := ⟨2, ![4096, 2048]⟩
abbrev S2048x9216 : Shape := ⟨2, ![2048, 9216]⟩

abbrev nBuf : Space → Nat
  | .hbm => 9
  | .vmem => 0
  | .smem => 0
  | _ => 0

abbrev bufTy : (tb : Table) → Fin (tcTables nBuf tb) → BufTy
  | .hbm, ⟨0, _⟩ => ⟨S4096x9216, .bf16⟩
  | .hbm, ⟨1, _⟩ => ⟨S1x2048x9216, .bf16⟩
  | .hbm, ⟨2, _⟩ => ⟨S_, .f32⟩
  | .hbm, ⟨3, _⟩ => ⟨S4096x2048, .f32⟩
  | .hbm, ⟨4, _⟩ => ⟨S1x2048x9216, .f32⟩
  | .hbm, ⟨5, _⟩ => ⟨S2048x9216, .f32⟩
  | .hbm, ⟨6, _⟩ => ⟨S4096x9216, .f32⟩
  | .hbm, ⟨7, _⟩ => ⟨S4096x9216, .f32⟩
  | .hbm, ⟨8, _⟩ => ⟨S4096x2048, .f32⟩
  | _, _ => ⟨S4096x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S4096x2048 : Shape := ⟨2, ![4096, 2048]⟩
abbrev S1x2048x9216 : Shape := ⟨3, ![1, 2048, 9216]⟩
abbrev S4096x9216 : Shape := ⟨2, ![4096, 9216]⟩
abbrev S2048x2048 : Shape := ⟨2, ![2048, 2048]⟩
abbrev S1x2048x512 : Shape := ⟨3, ![1, 2048, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S1x2048x9216, .bf16⟩
  | .hbm, ⟨2, _⟩ => ⟨S4096x9216, .f32⟩
  | .local _ .vmem, ⟨0, _⟩ => ⟨S2048x2048, .bf16⟩
  | .local _ .vmem, ⟨1, _⟩ => ⟨S2048x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S2048x512, .f32⟩
  | .local _ .vmem, ⟨5, _⟩ => ⟨S2048x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 18, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S1x2048x9216 : Shape := ⟨3, ![1, 2048, 9216]⟩
abbrev S2048x9216 : Shape := ⟨2, ![2048, 9216]⟩
abbrev S4096x9216 : Shape := ⟨2, ![4096, 9216]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x2048x9216, .bf16⟩
  | .hbm, ⟨2, _⟩ => ⟨S4096x2048, .f32⟩
  | .hbm, ⟨3, _⟩ => ⟨S1x2048x9216, .f32⟩
  | .hbm, ⟨4, _⟩ => ⟨S2048x9216, .f32⟩
  | .hbm, ⟨5, _⟩ => ⟨S4096x9216, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S4096x2048 : Shape := ⟨2, ![4096, 2048]⟩
abbrev S1x2048x11264 : Shape := ⟨3, ![1, 2048, 11264]⟩
abbrev S4096x11264 : Shape := ⟨2, ![4096, 11264]⟩
abbrev S4096x5632 : Shape := ⟨2, ![4096, 5632]⟩
abbrev S512x2048 : Shape := ⟨2, ![512, 2048]⟩
abbrev S1x2048x2816 : Shape := ⟨3, ![1, 2048, 2816]⟩
abbrev S512x2816 : Shape := ⟨2, ![512, 2816]⟩
abbrev S512x1408 : Shape := ⟨2, ![512, 1408]⟩
abbrev S2048x2816 : Shape := ⟨2, ![2048, 2816]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S1x2048x11264, .bf16⟩
  | .hbm, ⟨2, _⟩ => ⟨S4096x11264, .bf16⟩
  | .hbm, ⟨3, _⟩ => ⟨S4096x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2816, .bf16⟩
  | .local _ .vmem, ⟨3, _⟩ => ⟨S1x2048x2816, .bf16⟩
  | .local _ .vmem, ⟨4, _⟩ => ⟨S512x2816, .bf16⟩
  | .local _ .vmem, ⟨5, _⟩ => ⟨S512x2816, .bf16⟩
  | .local _ .vmem, ⟨6, _⟩ => ⟨S512x1408, .bf16⟩
  | .local _ .vmem, ⟨7, _⟩ => ⟨S512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S4096x2048 : Shape := ⟨2, ![4096, 2048]⟩
abbrev S1x2048x11264 : Shape := ⟨3, ![1, 2048, 11264]⟩
abbrev S2048x11264 : Shape := ⟨2, ![2048, 11264]⟩
abbrev S4096x11264 : Shape := ⟨2, ![4096, 11264]⟩
abbrev S4096x4x2x1408 : Shape := ⟨4, ![4096, 4, 2, 1408]⟩
abbrev S4096x4x1x1408 : Shape := ⟨4, ![4096, 4, 1, 1408]⟩
abbrev S_ : Shape := ⟨0, ![]⟩
abbrev S4096x5632 : Shape := ⟨2, ![4096, 5632]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x2048x11264, .bf16⟩
  | .hbm, ⟨2, _⟩ => ⟨S4096x2048, .f32⟩
  | .hbm, ⟨3, _⟩ => ⟨S1x2048x11264, .f32⟩
  | .hbm, ⟨4, _⟩ => ⟨S2048x11264, .f32⟩
  | .hbm, ⟨5, _⟩ => ⟨S4096x11264, .f32⟩
  | .hbm, ⟨6, _⟩ => ⟨S4096x4x2x1408, .f32⟩
  | .hbm, ⟨7, _⟩ => ⟨S4096x4x1x1408, .f32⟩
  | .hbm, ⟨8, _⟩ => ⟨S4096x4x1x1408, .f32⟩
  | .hbm, ⟨9, _⟩ => ⟨S4096x4x1x1408, .f32⟩
  | .hbm, ⟨10, _⟩ => ⟨S4096x4x1x1408, .f32⟩
  | .hbm, ⟨11, _⟩ => ⟨S_, .f32⟩
  | .hbm, ⟨12, _⟩ => ⟨S4096x4x1x1408, .f32⟩
  | .hbm, ⟨13, _⟩ => ⟨S4096x4x1x1408, .f32⟩
  | .hbm, ⟨14, _⟩ => ⟨S_, .f32⟩
  | .hbm, ⟨15, _⟩ => ⟨S4096x4x1x1408, .f32⟩
  | .hbm, ⟨16, _⟩ => ⟨S4096x4x1x1408, .f32⟩
  | .hbm, ⟨17, _⟩ => ⟨S4096x4x1x1408, .f32⟩
  | .hbm, ⟨18, _⟩ => ⟨S4096x4x1x1408, .f32⟩
  | .hbm, ⟨19, _⟩ => ⟨S4096x5632, .f32⟩
  | .hbm, ⟨20, _⟩ => ⟨S4096x11264, .bf16⟩
  | .hbm, ⟨21, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Kernel10.lean ====
abbrev S4096x5632 : Shape := ⟨2, ![4096, 5632]⟩
abbrev S1x5632x2048 : Shape := ⟨3, ![1, 5632, 2048]⟩
abbrev S4096x2048 : Shape := ⟨2, ![4096, 2048]⟩
abbrev S512x5632 : Shape := ⟨2, ![512, 5632]⟩
abbrev S1x5632x1024 : Shape := ⟨3, ![1, 5632, 1024]⟩
abbrev S512x1024 : Shape := ⟨2, ![512, 1024]⟩
abbrev S5632x1024 : Shape := ⟨2, ![5632, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x5632, .bf16⟩
  | .hbm, ⟨1, _⟩ => ⟨S1x5632x2048, .bf16⟩
  | .hbm, ⟨2, _⟩ => ⟨S4096x2048, .f32⟩
  | .hbm, ⟨3, _⟩ => ⟨S4096x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x1024, .bf16⟩
  | .local _ .vmem, ⟨3, _⟩ => ⟨S1x5632x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S4096x5632 : Shape := ⟨2, ![4096, 5632]⟩
abbrev S1x5632x2048 : Shape := ⟨3, ![1, 5632, 2048]⟩
abbrev S4096x2048 : Shape := ⟨2, ![4096, 2048]⟩
abbrev S5632x2048 : Shape := ⟨2, ![5632, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1x5632x2048, .bf16⟩
  | .hbm, ⟨2, _⟩ => ⟨S4096x2048, .f32⟩
  | .hbm, ⟨3, _⟩ => ⟨S4096x5632, .f32⟩
  | .hbm, ⟨4, _⟩ => ⟨S1x5632x2048, .f32⟩
  | .hbm, ⟨5, _⟩ => ⟨S5632x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Flash.Table.lean ====
/- The two prefetched tables of the call, as @main's host constants hold them, and the pipeline at them: the block inside
   its array at every grid point, and what the body's conditions decide at every grid point. -/
module

public import proofs.«01_k».proof.Defs
public import proofs.«01_k».proof.Proof.Gen.KernelIdeal
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.KernelIdeal.Flash

open Cert.KernelIdeal Cert.KernelIdeal.Gen
open Idealize.ShloMosaic
open Idealize.ShloMosaic.TcCoe Idealize.ShloMosaic.Tactic
open Idealize.SL

/-- The tables and the three accumulators, whole. -/
abbrev tb0 : Memref sig .tc .smem S36 .i32 := Memref.whole main_c
abbrev tb1 : Memref sig .tc .smem S36 .i32 := Memref.whole main_c_0
abbrev sc0 : Memref sig .tc .vmem S4096x1024 .f32 := Memref.whole cc0_scratch0
abbrev sc1 : Memref sig .tc .vmem S512x1024 .f32 := Memref.whole cc0_scratch1
abbrev sc2 : Memref sig .tc .vmem S512x512 .f32 := Memref.whole cc0_scratch2

/-- The row block of every step. -/
def T0 : S36.Idx → BitVec 32 := fun x => lit0 (S36.rowMajor x)
/-- The column block of every step. -/
def T1 : S36.Idx → BitVec 32 := fun x => lit1 (S36.rowMajor x)

section Generic
variable {F : FTy → Type}

set_option backward.proofsInPublic true in
/-- The tables' contents. -/
def pf : pre0.Contents (Elt F) := fun | ⟨0, _⟩ => T0 | ⟨1, _⟩ => T1 | ⟨_ + 2, h⟩ => absurd h (by simp)

/-- The word a table holds at the step of grid point `i`, as the body reads it. -/
abbrev word0 (i : grid0.Coords) : BitVec 32 :=
  View.readAt (Elt F) tb0.view (Rect.unit (s := S36) (k0_off1 i) S1.size (k0_off1_inb i)).toLoadRect (T0 : S36.Idx → Elt F .i32) (Shape.Idx.first (numel1_S1.symm ▸ Nat.one_pos))
abbrev word1 (i : grid0.Coords) : BitVec 32 :=
  View.readAt (Elt F) tb1.view (Rect.unit (s := S36) (k0_off1 i) S1.size (k0_off1_inb i)).toLoadRect (T1 : S36.Idx → Elt F .i32) (Shape.Idx.first (numel1_S1.symm ▸ Nat.one_pos))

end Generic

/-! ## Every window's block lies inside its array -/

theorem inb0 : ∀ (i : grid0.Coords) (a : Fin 2), (cc0_transform_0 k0_off1_inb numel1_S1 (pf (F := Ideal)) i a + 1) * S512x1024.size a ≤ S4096x4096.size a := by decide +kernel
theorem inb1 : ∀ (i : grid0.Coords) (a : Fin 2), (cc0_transform_1 k0_off1_inb numel1_S1 (pf (F := Ideal)) i a + 1) * S512x1024.size a ≤ S4096x4096.size a := by decide +kernel
theorem inb2 : ∀ (i : grid0.Coords) (a : Fin 2), (cc0_transform_2 k0_off1_inb numel1_S1 (pf (F := Ideal)) i a + 1) * S512x1024.size a ≤ S4096x4096.size a := by decide +kernel
theorem inb3 : ∀ (i : grid0.Coords) (a : Fin 2), (cc0_transform_3 k0_off1_inb numel1_S1 (pf (F := Ideal)) i a + 1) * S512x512.size a ≤ S4096x2048.size a := by decide +kernel
theorem inb4 : ∀ (i : grid0.Coords) (a : Fin 2), (cc0_transform_4 k0_off1_inb numel1_S1 (pf (F := Ideal)) i a + 1) * S512x512.size a ≤ S4096x2048.size a := by decide +kernel
theorem inb5 : ∀ (i : grid0.Coords) (a : Fin 2), (cc0_transform_5 k0_off1_inb numel1_S1 (pf (F := Ideal)) i a + 1) * S512x512.size a ≤ S4096x2048.size a := by decide +kernel
theorem inb7 : ∀ (i : grid0.Coords) (a : Fin 2), (cc0_transform_7 k0_off1_inb numel1_S1 (pf (F := Ideal)) i a + 1) * S512x1024.size a ≤ S4096x4096.size a := by decide +kernel
theorem inb8 : ∀ (i : grid0.Coords) (a : Fin 2), (cc0_transform_8 k0_off1_inb numel1_S1 (pf (F := Ideal)) i a + 1) * S512x512.size a ≤ S4096x2048.size a := by decide +kernel

section Generic
variable {F : FTy → Type}

/-- The side condition of the tables. -/
theorem ok : ok0 (F := F) pf :=
  ⟨fun i => ⟨inb0 i, .inr (Affine.block_words_dvd (s := S4096x4096) (p := EltTy.packing .bf16) (by decide) (by decide))⟩,
   fun i => ⟨inb1 i, .inr (Affine.block_words_dvd (s := S4096x4096) (p := EltTy.packing .bf16) (by decide) (by decide))⟩,
   fun i => ⟨inb2 i, .inr (Affine.block_words_dvd (s := S4096x4096) (p := EltTy.packing .bf16) (by decide) (by decide))⟩,
   fun i => ⟨inb3 i, .inr (Affine.block_words_dvd (s := S4096x2048) (p := EltTy.packing .bf16) (by decide) (by decide))⟩,
   fun i => ⟨inb4 i, .inl rfl⟩,
   fun i => ⟨inb5 i, .inl rfl⟩,
   fun i => ⟨inb7 i, .inr (Affine.block_words_dvd (s := S4096x4096) (p := EltTy.packing .bf16) (by decide) (by decide))⟩,
   fun i => ⟨inb8 i, .inr (Affine.block_words_dvd (s := S4096x2048) (p := EltTy.packing .bf16) (by decide) (by decide))⟩⟩

variable [FloatOps F] [Named F]

/-- The tables' contents, admissible, and the pipeline at them. -/
def adm : (pcfg0 (F := F)).Adm := ⟨pf, ok⟩
variable (F) in
abbrev cfgA : Pipeline.Cfg sig Λ₀ := cfg0 (F := F) adm
variable (F) in
abbrev pcs : Fin 1 → Pipeline.Cfg sig Λ₀ := Pipeline.pin (pcfgs (F := F)) fun _ => adm

end Generic

/-! ## What the body's conditions decide -/

/-- The step of a grid point. -/
abbrev stepOf (i : grid0.Coords) : Fin 36 := i 1
/-- The row block and the column block of a step. -/
def rowB (s : Fin 36) : Fin 8 := ⟨(lit0 s).toNat % 8, Nat.mod_lt _ (by decide)⟩
def colB (s : Fin 36) : Fin 8 := ⟨(lit1 s).toNat % 8, Nat.mod_lt _ (by decide)⟩

/-- The first condition: the step is the head group's first. -/
abbrev cond1 (i : grid0.Coords) : BitVec 1 := Scalar.cmpi .ne (Scalar.extui (Scalar.cmpi .eq (BitVec.ofNat 32 (i 1).val) 0#32)) 0#32

theorem word0_all : ∀ i : grid0.Coords, word0 (F := Ideal) i = BitVec.ofNat 32 (rowB (i 1)).val := by decide +kernel
theorem word1_all : ∀ i : grid0.Coords, word1 (F := Ideal) i = BitVec.ofNat 32 (colB (i 1)).val := by decide +kernel

theorem decisions : ∀ i : grid0.Coords,
    (cond1 i = 1#1 ↔ (i 1).val = 0)
    ∧ (k0_cond2 (BitVec.ofNat 32 (rowB (i 1)).val) (BitVec.ofNat 32 (colB (i 1)).val) = 1#1 ↔ rowB (i 1) = colB (i 1))
    ∧ (k0_cond3 (BitVec.ofNat 32 (rowB (i 1)).val) (BitVec.ofNat 32 (colB (i 1)).val) = 1#1 ↔ rowB (i 1) ≠ colB (i 1))
    ∧ (k0_cond4 (BitVec.ofNat 32 (rowB (i 1)).val) = 1#1 ↔ rowB (i 1) = 7)
    ∧ (k0_cond5 i = 1#1 ↔ (i 1).val = 35) := by decide +kernel

theorem checks : ∀ i : grid0.Coords, k0_chk1 (BitVec.ofNat 32 (rowB (i 1)).val) (BitVec.ofNat 32 (colB (i 1)).val) := by decide +kernel

/-- The schedule's order: what the first step and the last step are, and that a column block starts on the diagonal. -/
theorem schedule : ∀ s : Fin 36, (s.val = 0 → rowB s = colB s ∧ rowB s ≠ 7) ∧ (s.val = 35 → rowB s = colB s ∧ rowB s = 7)
    ∧ (rowB s = colB s → rowB s = 7 → s.val = 35) := by decide +kernel

theorem idles : ∀ i : grid0.Coords,
    (cfgA Ideal).idle (6 : Fin 9) i = !decide ((i 1).val = 35)
    ∧ (cfgA Ideal).idle (7 : Fin 9) i = !decide (rowB (i 1) = 7)
    ∧ (cfgA Ideal).idle (8 : Fin 9) i = !decide (rowB (i 1) = 7) := by decide +kernel

theorem flush6 : ∀ t : Fin (cfgA Ideal).N, ((cfgA Ideal).win (6 : Fin 9)).flush t = decide ((((cfgA Ideal).grid.coords t) 1).val = 35) := by decide +kernel
theorem flush7 : ∀ t : Fin (cfgA Ideal).N, ((cfgA Ideal).win (7 : Fin 9)).flush t = decide (rowB (((cfgA Ideal).grid.coords t) 1) = 7) := by decide +kernel
theorem flush8 : ∀ t : Fin (cfgA Ideal).N, ((cfgA Ideal).win (8 : Fin 9)).flush t = decide (rowB (((cfgA Ideal).grid.coords t) 1) = 7) := by decide +kernel

section Transport
variable {F : FTy → Type} [FloatOps F] [Named F]

theorem word0_eq (i : grid0.Coords) : word0 (F := F) i = BitVec.ofNat 32 (rowB (i 1)).val := word0_all i
theorem word1_eq (i : grid0.Coords) : word1 (F := F) i = BitVec.ofNat 32 (colB (i 1)).val := word1_all i
theorem idle6 (i : grid0.Coords) : (cfgA F).idle (6 : Fin 9) i = !decide ((i 1).val = 35) := (idles i).1
theorem idle7 (i : grid0.Coords) : (cfgA F).idle (7 : Fin 9) i = !decide (rowB (i 1) = 7) := (idles i).2.1
theorem idle8 (i : grid0.Coords) : (cfgA F).idle (8 : Fin 9) i = !decide (rowB (i 1) = 7) := (idles i).2.2
theorem flush6_eq (t : Fin (cfgA F).N) : ((cfgA F).win (6 : Fin 9)).flush t = decide ((((cfgA F).grid.coords t) 1).val = 35) := flush6 t
theorem flush7_eq (t : Fin (cfgA F).N) : ((cfgA F).win (7 : Fin 9)).flush t = decide (rowB (((cfgA F).grid.coords t) 1) = 7) := flush7 t
theorem flush8_eq (t : Fin (cfgA F).N) : ((cfgA F).win (8 : Fin 9)).flush t = decide (rowB (((cfgA F).grid.coords t) 1) = 7) := flush8 t

end Transport

end Cert.KernelIdeal.Flash

end
-- ==== Proof.Flash.Run.lean ====
/- The body of the call run once, on every path its conditions leave: what the three accumulators hold afterwards and what
   is stored into the results' staging buffers. A result's buffer that a path does not store into is not mentioned. -/
module

public import proofs.«01_k».proof.Proof.Flash.Table
public import proofs.«01_k».proof.Proof.Gen.KernelIdeal.Skeleton
public import Idealize.ShloMosaic.Lib.VecWindow

@[expose] public section

set_option maxRecDepth 16384
set_option Elab.async false

noncomputable section

namespace Cert.KernelIdeal.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (c : Dev nD) (i : grid0.Coords)
  (arg4 : Memref sig .tc .vmem S512x1024 .bf16) (harg4 : arg4.IsWhole) (arg5 : Memref sig .tc .vmem S512x1024 .bf16) (harg5 : arg5.IsWhole)
  (arg6 : Memref sig .tc .vmem S512x1024 .bf16) (harg6 : arg6.IsWhole) (arg7 : Memref sig .tc .vmem S512x512 .bf16) (harg7 : arg7.IsWhole)
  (arg8 : Memref sig .tc .vmem S512x512 .f32) (harg8 : arg8.IsWhole) (arg9 : Memref sig .tc .vmem S512x512 .f32) (harg9 : arg9.IsWhole)
  (arg10 : Memref sig .tc .vmem S4096x1024 .bf16) (harg10 : arg10.IsWhole) (arg11 : Memref sig .tc .vmem S512x1024 .bf16) (harg11 : arg11.IsWhole)
  (arg12 : Memref sig .tc .vmem S512x512 .bf16) (harg12 : arg12.IsWhole)
  (x0 : S512x1024.Idx → Elt F .bf16) (x1 : S512x1024.Idx → Elt F .bf16) (x2 : S512x1024.Idx → Elt F .bf16)
  (x3 : S512x512.Idx → Elt F .bf16) (x4 : S512x512.Idx → Elt F .f32) (x5 : S512x512.Idx → Elt F .f32)
  (a0 : S4096x1024.Idx → Elt F .f32) (a1 : S512x1024.Idx → Elt F .f32) (a2 : S512x512.Idx → Elt F .f32)

/-- The body at one grid point. -/
abbrev bodyAt :=
  cc0_flash_bwd (F := F) i tb0 (Memref.isWhole_whole _) tb1 (Memref.isWhole_whole _) arg4 harg4 arg5 harg5 arg6 harg6 arg7 harg7 arg8 harg8 arg9 harg9
    arg10 harg10 arg11 harg11 arg12 harg12 sc0 (Memref.isWhole_whole _) sc1 (Memref.isWhole_whole _) sc2 (Memref.isWhole_whole _)

/-- The blocks of the six arguments and the two tables, held for reading. -/
abbrev readers : sProp 𝕄 :=
  iprop((arg4.view.loc (c : Thread nD τ) ↦[arg4.view.set]{fullShare} arg4.view.rep x0)
    ∗ (arg5.view.loc (c : Thread nD τ) ↦[arg5.view.set]{fullShare} arg5.view.rep x1)
    ∗ (arg6.view.loc (c : Thread nD τ) ↦[arg6.view.set]{fullShare} arg6.view.rep x2)
    ∗ (arg7.view.loc (c : Thread nD τ) ↦[arg7.view.set]{fullShare} arg7.view.rep x3)
    ∗ (arg8.view.loc (c : Thread nD τ) ↦[arg8.view.set]{fullShare} arg8.view.rep x4)
    ∗ (arg9.view.loc (c : Thread nD τ) ↦[arg9.view.set]{fullShare} arg9.view.rep x5)
    ∗ (tb0.view.loc (c : Thread nD τ) ↦{fullShare.right} (T0 : S36.Idx → Elt F .i32))
    ∗ (tb1.view.loc (c : Thread nD τ) ↦{fullShare.right} (T1 : S36.Idx → Elt F .i32)))

/-- The three accumulators. -/
abbrev accs (b0 : S4096x1024.Idx → Elt F .f32) (b1 : S512x1024.Idx → Elt F .f32) (b2 : S512x512.Idx → Elt F .f32) : sProp 𝕄 :=
  iprop((sc0.view.loc (c : Thread nD τ) ↦{fullShare} b0) ∗ (sc1.view.loc (c : Thread nD τ) ↦{fullShare} b1) ∗ (sc2.view.loc (c : Thread nD τ) ↦{fullShare} b2))

set_option backward.proofsInPublic true in
set_option maxHeartbeats 8000000 in
/-- The first step of a head group: the accumulator of the queries' gradient zeroed, then the masked step. -/
def runA (hw : k0_chk1 (word0 (F := F) i) (word1 (F := F) i)) (h1 : cond1 i = 1#1) (h2 : k0_cond2 (word0 (F := F) i) (word1 (F := F) i) = 1#1) (h3 : ¬(k0_cond3 (word0 (F := F) i) (word1 (F := F) i) = 1#1)) (h4 : ¬(k0_cond4 (word0 (F := F) i) = 1#1)) (h5 : ¬(k0_cond5 i = 1#1)) :
    Σ' (b0 : S4096x1024.Idx → Elt F .f32) (b1 : S512x1024.Idx → Elt F .f32), { b2 : S512x512.Idx → Elt F .f32 //
      ∀ (a0 : S4096x1024.Idx → Elt F .f32) (a1 : S512x1024.Idx → Elt F .f32) (a2 : S512x512.Idx → Elt F .f32) (K : PUnit → sProp 𝕄),
        iprop(readers c arg4 arg5 arg6 arg7 arg8 arg9 x0 x1 x2 x3 x4 x5 ∗ accs c a0 a1 a2
            ∗ (iprop(readers c arg4 arg5 arg6 arg7 arg8 arg9 x0 x1 x2 x3 x4 x5 ∗ accs c b0 b1 b2) -∗ K ⟨⟩))
          ⊢ wp frame (wpE (defs₀ (F := F)) Variants.none c none) Set.univ
              (bodyAt i arg4 harg4 arg5 harg5 arg6 harg6 arg7 harg7 arg8 harg8 arg9 harg9 arg10 harg10 arg11 harg11 arg12 harg12) K } :=
  ⟨_, _, _, fun a0 a1 a2 K => by
    unfold readers accs bodyAt
    rw [cc0_flash_bwd_eq_skeleton]; unfold cc0_flash_bwd_skel
    iintro ⟨⟨H0, H1, H2, H3, H4, H5, HT0, HT1⟩, ⟨HS0, HS1, HS2⟩, Hk⟩
    have hS0 : (sc0 : Memref sig .tc .vmem S4096x1024 .f32).IsWhole := Memref.isWhole_whole _
    have hS1 : (sc1 : Memref sig .tc .vmem S512x1024 .f32).IsWhole := Memref.isWhole_whole _
    have hS2 : (sc2 : Memref sig .tc .vmem S512x512 .f32).IsWhole := Memref.isWhole_whole _
    have hT0 : (tb0 : Memref sig .tc .smem S36 .i32).IsWhole := Memref.isWhole_whole _
    have hT1 : (tb1 : Memref sig .tc .smem S36 .i32).IsWhole := Memref.isWhole_whole _
    sl_exec! (disch := first
      | (guard_target = k0_chk1 _ _; exact hw)
      | (guard_target = Scalar.cmpi .ne _ _ = _; exact h1)
      | (guard_target = k0_cond2 _ _ = _; exact h2)
      | (guard_target = ¬(k0_cond3 _ _ = _); exact h3)
      | (guard_target = ¬(k0_cond4 _ = _); exact h4)
      | (guard_target = ¬(k0_cond5 _ = _); exact h5))
    sl_step
    iapply Hk
    isplitl [H0 H1 H2 H3 H4 H5 HT0 HT1]
    · isplitl [H0]; · iexact H0
      isplitl [H1]; · iexact H1
      isplitl [H2]; · iexact H2
      isplitl [H3]; · iexact H3
      isplitl [H4]; · iexact H4
      isplitl [H5]; · iexact H5
      isplitl [HT0]; · iexact HT0
      iexact HT1
    isplitl [HS0]; · iexact HS0
    isplitl [HS1]; · iexact HS1
    iexact HS2⟩

set_option backward.proofsInPublic true in
set_option maxHeartbeats 8000000 in
/-- A step below the diagonal that is not its column block's last. -/
def runB (hw : k0_chk1 (word0 (F := F) i) (word1 (F := F) i)) (h1 : ¬(cond1 i = 1#1)) (h2 : ¬(k0_cond2 (word0 (F := F) i) (word1 (F := F) i) = 1#1)) (h3 : k0_cond3 (word0 (F := F) i) (word1 (F := F) i) = 1#1) (h4 : ¬(k0_cond4 (word0 (F := F) i) = 1#1)) (h5 : ¬(k0_cond5 i = 1#1)) :
    Σ' (b0 : S4096x1024.Idx → Elt F .f32) (b1 : S512x1024.Idx → Elt F .f32), { b2 : S512x512.Idx → Elt F .f32 //
      ∀ K : PUnit → sProp 𝕄,
        iprop(readers c arg4 arg5 arg6 arg7 arg8 arg9 x0 x1 x2 x3 x4 x5 ∗ accs c a0 a1 a2
            ∗ (iprop(readers c arg4 arg5 arg6 arg7 arg8 arg9 x0 x1 x2 x3 x4 x5 ∗ accs c b0 b1 b2) -∗ K ⟨⟩))
          ⊢ wp frame (wpE (defs₀ (F := F)) Variants.none c none) Set.univ
              (bodyAt i arg4 harg4 arg5 harg5 arg6 harg6 arg7 harg7 arg8 harg8 arg9 harg9 arg10 harg10 arg11 harg11 arg12 harg12) K } :=
  ⟨_, _, _, fun K => by
    unfold readers accs bodyAt
    rw [cc0_flash_bwd_eq_skeleton]; unfold cc0_flash_bwd_skel
    iintro ⟨⟨H0, H1, H2, H3, H4, H5, HT0, HT1⟩, ⟨HS0, HS1, HS2⟩, Hk⟩
    have hS0 : (sc0 : Memref sig .tc .vmem S4096x1024 .f32).IsWhole := Memref.isWhole_whole _
    have hS1 : (sc1 : Memref sig .tc .vmem S512x1024 .f32).IsWhole := Memref.isWhole_whole _
    have hS2 : (sc2 : Memref sig .tc .vmem S512x512 .f32).IsWhole := Memref.isWhole_whole _
    have hT0 : (tb0 : Memref sig .tc .smem S36 .i32).IsWhole := Memref.isWhole_whole _
    have hT1 : (tb1 : Memref sig .tc .smem S36 .i32).IsWhole := Memref.isWhole_whole _
    sl_exec! (disch := first
      | (guard_target = k0_chk1 _ _; exact hw)
      | (guard_target = ¬(Scalar.cmpi .ne _ _ = _); exact h1)
      | (guard_target = ¬(k0_cond2 _ _ = _); exact h2)
      | (guard_target = k0_cond3 _ _ = _; exact h3)
      | (guard_target = ¬(k0_cond4 _ = _); exact h4)
      | (guard_target = ¬(k0_cond5 _ = _); exact h5))
    sl_step
    iapply Hk
    isplitl [H0 H1 H2 H3 H4 H5 HT0 HT1]
    · isplitl [H0]; · iexact H0
      isplitl [H1]; · iexact H1
      isplitl [H2]; · iexact H2
      isplitl [H3]; · iexact H3
      isplitl [H4]; · iexact H4
      isplitl [H5]; · iexact H5
      isplitl [HT0]; · iexact HT0
      iexact HT1
    isplitl [HS0]; · iexact HS0
    isplitl [HS1]; · iexact HS1
    iexact HS2⟩

set_option backward.proofsInPublic true in
set_option maxHeartbeats 8000000 in
/-- A step below the diagonal, its column block's last: the keys' and the values' gradients are stored. -/
def runC (hw : k0_chk1 (word0 (F := F) i) (word1 (F := F) i)) (h1 : ¬(cond1 i = 1#1)) (h2 : ¬(k0_cond2 (word0 (F := F) i) (word1 (F := F) i) = 1#1)) (h3 : k0_cond3 (word0 (F := F) i) (word1 (F := F) i) = 1#1) (h4 : k0_cond4 (word0 (F := F) i) = 1#1) (h5 : ¬(k0_cond5 i = 1#1)) :
    Σ' (y11 : S512x1024.Idx → Elt F .bf16) (y12 : S512x512.Idx → Elt F .bf16) (b0 : S4096x1024.Idx → Elt F .f32) (b1 : S512x1024.Idx → Elt F .f32), { b2 : S512x512.Idx → Elt F .f32 //
      ∀ K : PUnit → sProp 𝕄,
        iprop(readers c arg4 arg5 arg6 arg7 arg8 arg9 x0 x1 x2 x3 x4 x5 ∗ accs c a0 a1 a2 ∗ (∃ d, owns (c : Thread nD τ) arg11 fullShare d) ∗ (∃ d, owns (c : Thread nD τ) arg12 fullShare d)
            ∗ (iprop(readers c arg4 arg5 arg6 arg7 arg8 arg9 x0 x1 x2 x3 x4 x5 ∗ accs c b0 b1 b2 ∗ owns (c : Thread nD τ) arg11 fullShare y11 ∗ owns (c : Thread nD τ) arg12 fullShare y12) -∗ K ⟨⟩))
          ⊢ wp frame (wpE (defs₀ (F := F)) Variants.none c none) Set.univ
              (bodyAt i arg4 harg4 arg5 harg5 arg6 harg6 arg7 harg7 arg8 harg8 arg9 harg9 arg10 harg10 arg11 harg11 arg12 harg12) K } :=
  ⟨_, _, _, _, _, fun K => by
    unfold readers accs bodyAt owns
    rw [cc0_flash_bwd_eq_skeleton]; unfold cc0_flash_bwd_skel
    iintro ⟨⟨H0, H1, H2, H3, H4, H5, HT0, HT1⟩, ⟨HS0, HS1, HS2⟩, ⟨%d11, %f11, -, HO11⟩, ⟨%d12, %f12, -, HO12⟩, Hk⟩
    have hS0 : (sc0 : Memref sig .tc .vmem S4096x1024 .f32).IsWhole := Memref.isWhole_whole _
    have hS1 : (sc1 : Memref sig .tc .vmem S512x1024 .f32).IsWhole := Memref.isWhole_whole _
    have hS2 : (sc2 : Memref sig .tc .vmem S512x512 .f32).IsWhole := Memref.isWhole_whole _
    have hT0 : (tb0 : Memref sig .tc .smem S36 .i32).IsWhole := Memref.isWhole_whole _
    have hT1 : (tb1 : Memref sig .tc .smem S36 .i32).IsWhole := Memref.isWhole_whole _
    sl_exec! (disch := first
      | (guard_target = k0_chk1 _ _; exact hw)
      | (guard_target = ¬(Scalar.cmpi .ne _ _ = _); exact h1)
      | (guard_target = ¬(k0_cond2 _ _ = _); exact h2)
      | (guard_target = k0_cond3 _ _ = _; exact h3)
      | (guard_target = k0_cond4 _ = _; exact h4)
      | (guard_target = ¬(k0_cond5 _ = _); exact h5))
    sl_step
    iapply Hk
    isplitl [H0 H1 H2 H3 H4 H5 HT0 HT1]
    · isplitl [H0]; · iexact H0
      isplitl [H1]; · iexact H1
      isplitl [H2]; · iexact H2
      isplitl [H3]; · iexact H3
      isplitl [H4]; · iexact H4
      isplitl [H5]; · iexact H5
      isplitl [HT0]; · iexact HT0
      iexact HT1
    isplitl [HS0 HS1 HS2]
    · isplitl [HS0]; · iexact HS0
      isplitl [HS1]; · iexact HS1
      iexact HS2
    isplitl [HO11]
    · iexists _
      isplitr
      swap; · iexact HO11
      ipureintro; exact View.read_writes_full _ _ _ _ _
    iexists _
    isplitr
    swap; · iexact HO12
    ipureintro; exact View.read_writes_full _ _ _ _ _⟩

set_option backward.proofsInPublic true in
set_option maxHeartbeats 8000000 in
/-- A masked step that is neither the first nor the last. -/
def runD (hw : k0_chk1 (word0 (F := F) i) (word1 (F := F) i)) (h1 : ¬(cond1 i = 1#1)) (h2 : k0_cond2 (word0 (F := F) i) (word1 (F := F) i) = 1#1) (h3 : ¬(k0_cond3 (word0 (F := F) i) (word1 (F := F) i) = 1#1)) (h4 : ¬(k0_cond4 (word0 (F := F) i) = 1#1)) (h5 : ¬(k0_cond5 i = 1#1)) :
    Σ' (b0 : S4096x1024.Idx → Elt F .f32) (b1 : S512x1024.Idx → Elt F .f32), { b2 : S512x512.Idx → Elt F .f32 //
      ∀ K : PUnit → sProp 𝕄,
        iprop(readers c arg4 arg5 arg6 arg7 arg8 arg9 x0 x1 x2 x3 x4 x5 ∗ accs c a0 a1 a2
            ∗ (iprop(readers c arg4 arg5 arg6 arg7 arg8 arg9 x0 x1 x2 x3 x4 x5 ∗ accs c b0 b1 b2) -∗ K ⟨⟩))
          ⊢ wp frame (wpE (defs₀ (F := F)) Variants.none c none) Set.univ
              (bodyAt i arg4 harg4 arg5 harg5 arg6 harg6 arg7 harg7 arg8 harg8 arg9 harg9 arg10 harg10 arg11 harg11 arg12 harg12) K } :=
  ⟨_, _, _, fun K => by
    unfold readers accs bodyAt
    rw [cc0_flash_bwd_eq_skeleton]; unfold cc0_flash_bwd_skel
    iintro ⟨⟨H0, H1, H2, H3, H4, H5, HT0, HT1⟩, ⟨HS0, HS1, HS2⟩, Hk⟩
    have hS0 : (sc0 : Memref sig .tc .vmem S4096x1024 .f32).IsWhole := Memref.isWhole_whole _
    have hS1 : (sc1 : Memref sig .tc .vmem S512x1024 .f32).IsWhole := Memref.isWhole_whole _
    have hS2 : (sc2 : Memref sig .tc .vmem S512x512 .f32).IsWhole := Memref.isWhole_whole _
    have hT0 : (tb0 : Memref sig .tc .smem S36 .i32).IsWhole := Memref.isWhole_whole _
    have hT1 : (tb1 : Memref sig .tc .smem S36 .i32).IsWhole := Memref.isWhole_whole _
    sl_exec! (disch := first
      | (guard_target = k0_chk1 _ _; exact hw)
      | (guard_target = ¬(Scalar.cmpi .ne _ _ = _); exact h1)
      | (guard_target = k0_cond2 _ _ = _; exact h2)
      | (guard_target = ¬(k0_cond3 _ _ = _); exact h3)
      | (guard_target = ¬(k0_cond4 _ = _); exact h4)
      | (guard_target = ¬(k0_cond5 _ = _); exact h5))
    sl_step
    iapply Hk
    isplitl [H0 H1 H2 H3 H4 H5 HT0 HT1]
    · isplitl [H0]; · iexact H0
      isplitl [H1]; · iexact H1
      isplitl [H2]; · iexact H2
      isplitl [H3]; · iexact H3
      isplitl [H4]; · iexact H4
      isplitl [H5]; · iexact H5
      isplitl [HT0]; · iexact HT0
      iexact HT1
    isplitl [HS0]; · iexact HS0
    isplitl [HS1]; · iexact HS1
    iexact HS2⟩

set_option backward.proofsInPublic true in
set_option maxHeartbeats 8000000 in
/-- The last step of a head group: masked, and all three gradients are stored. -/
def runE (hw : k0_chk1 (word0 (F := F) i) (word1 (F := F) i)) (h1 : ¬(cond1 i = 1#1)) (h2 : k0_cond2 (word0 (F := F) i) (word1 (F := F) i) = 1#1) (h3 : ¬(k0_cond3 (word0 (F := F) i) (word1 (F := F) i) = 1#1)) (h4 : k0_cond4 (word0 (F := F) i) = 1#1) (h5 : k0_cond5 i = 1#1) :
    Σ' (y10 : S4096x1024.Idx → Elt F .bf16) (y11 : S512x1024.Idx → Elt F .bf16) (y12 : S512x512.Idx → Elt F .bf16) (b0 : S4096x1024.Idx → Elt F .f32) (b1 : S512x1024.Idx → Elt F .f32), { b2 : S512x512.Idx → Elt F .f32 //
      ∀ K : PUnit → sProp 𝕄,
        iprop(readers c arg4 arg5 arg6 arg7 arg8 arg9 x0 x1 x2 x3 x4 x5 ∗ accs c a0 a1 a2 ∗ (∃ d, owns (c : Thread nD τ) arg10 fullShare d) ∗ (∃ d, owns (c : Thread nD τ) arg11 fullShare d) ∗ (∃ d, owns (c : Thread nD τ) arg12 fullShare d)
            ∗ (iprop(readers c arg4 arg5 arg6 arg7 arg8 arg9 x0 x1 x2 x3 x4 x5 ∗ accs c b0 b1 b2 ∗ owns (c : Thread nD τ) arg10 fullShare y10 ∗ owns (c : Thread nD τ) arg11 fullShare y11 ∗ owns (c : Thread nD τ) arg12 fullShare y12) -∗ K ⟨⟩))
          ⊢ wp frame (wpE (defs₀ (F := F)) Variants.none c none) Set.univ
              (bodyAt i arg4 harg4 arg5 harg5 arg6 harg6 arg7 harg7 arg8 harg8 arg9 harg9 arg10 harg10 arg11 harg11 arg12 harg12) K } :=
  ⟨_, _, _, _, _, _, fun K => by
    unfold readers accs bodyAt owns
    rw [cc0_flash_bwd_eq_skeleton]; unfold cc0_flash_bwd_skel
    iintro ⟨⟨H0, H1, H2, H3, H4, H5, HT0, HT1⟩, ⟨HS0, HS1, HS2⟩, ⟨%d10, %f10, -, HO10⟩, ⟨%d11, %f11, -, HO11⟩, ⟨%d12, %f12, -, HO12⟩, Hk⟩
    have hS0 : (sc0 : Memref sig .tc .vmem S4096x1024 .f32).IsWhole := Memref.isWhole_whole _
    have hS1 : (sc1 : Memref sig .tc .vmem S512x1024 .f32).IsWhole := Memref.isWhole_whole _
    have hS2 : (sc2 : Memref sig .tc .vmem S512x512 .f32).IsWhole := Memref.isWhole_whole _
    have hT0 : (tb0 : Memref sig .tc .smem S36 .i32).IsWhole := Memref.isWhole_whole _
    have hT1 : (tb1 : Memref sig .tc .smem S36 .i32).IsWhole := Memref.isWhole_whole _
    sl_exec! (disch := first
      | (guard_target = k0_chk1 _ _; exact hw)
      | (guard_target = ¬(Scalar.cmpi .ne _ _ = _); exact h1)
      | (guard_target = k0_cond2 _ _ = _; exact h2)
      | (guard_target = ¬(k0_cond3 _ _ = _); exact h3)
      | (guard_target = k0_cond4 _ = _; exact h4)
      | (guard_target = k0_cond5 _ = _; exact h5))
    sl_step
    iapply Hk
    isplitl [H0 H1 H2 H3 H4 H5 HT0 HT1]
    · isplitl [H0]; · iexact H0
      isplitl [H1]; · iexact H1
      isplitl [H2]; · iexact H2
      isplitl [H3]; · iexact H3
      isplitl [H4]; · iexact H4
      isplitl [H5]; · iexact H5
      isplitl [HT0]; · iexact HT0
      iexact HT1
    isplitl [HS0 HS1 HS2]
    · isplitl [HS0]; · iexact HS0
      isplitl [HS1]; · iexact HS1
      iexact HS2
    isplitl [HO10]
    · iexists _
      isplitr
      swap; · iexact HO10
      ipureintro; exact View.read_writes_full _ _ _ _ _
    isplitl [HO11]
    · iexists _
      isplitr
      swap; · iexact HO11
      ipureintro; exact View.read_writes_full _ _ _ _ _
    iexists _
    isplitr
    swap; · iexact HO12
    ipureintro; exact View.read_writes_full _ _ _ _ _⟩

end Cert.KernelIdeal.Flash

end
-- ==== Proof.Flash.Points.lean ====
/- The pipeline's proof data: what the accumulators and the results' staging buffers hold after every grid point, and the
   body obligation at every point. The arrays at the region's entry are a parameter `V`. -/
module

public import proofs.«01_k».proof.Proof.Flash.Run
public import Idealize.ShloMosaic.Lib.Pipeline.Quiescent

@[expose] public section

set_option maxRecDepth 16384
set_option Elab.async false

noncomputable section

namespace Cert.KernelIdeal.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-! ## The conditions at a grid point -/

section Conditions
variable (i : grid0.Coords)

theorem hw_at : k0_chk1 (word0 (F := F) i) (word1 (F := F) i) := by rw [word0_eq, word1_eq]; exact checks i
theorem c1_pos (h : (i 1).val = 0) : cond1 i = 1#1 := (decisions i).1.2 h
theorem c1_neg (h : ¬(i 1).val = 0) : ¬(cond1 i = 1#1) := fun e => h ((decisions i).1.1 e)
theorem c2_pos (h : rowB (i 1) = colB (i 1)) : k0_cond2 (word0 (F := F) i) (word1 (F := F) i) = 1#1 := by
  rw [word0_eq, word1_eq]; exact (decisions i).2.1.2 h
theorem c2_neg (h : ¬rowB (i 1) = colB (i 1)) : ¬(k0_cond2 (word0 (F := F) i) (word1 (F := F) i) = 1#1) := by
  rw [word0_eq, word1_eq]; exact fun e => h ((decisions i).2.1.1 e)
theorem c3_pos (h : ¬rowB (i 1) = colB (i 1)) : k0_cond3 (word0 (F := F) i) (word1 (F := F) i) = 1#1 := by
  rw [word0_eq, word1_eq]; exact (decisions i).2.2.1.2 h
theorem c3_neg (h : rowB (i 1) = colB (i 1)) : ¬(k0_cond3 (word0 (F := F) i) (word1 (F := F) i) = 1#1) := by
  rw [word0_eq, word1_eq]; exact fun e => (decisions i).2.2.1.1 e h
theorem c4_pos (h : rowB (i 1) = 7) : k0_cond4 (word0 (F := F) i) = 1#1 := by rw [word0_eq]; exact (decisions i).2.2.2.1.2 h
theorem c4_neg (h : ¬rowB (i 1) = 7) : ¬(k0_cond4 (word0 (F := F) i) = 1#1) := by rw [word0_eq]; exact fun e => h ((decisions i).2.2.2.1.1 e)
theorem c5_pos (h : (i 1).val = 35) : k0_cond5 i = 1#1 := (decisions i).2.2.2.2.2 h
theorem c5_neg (h : ¬(i 1).val = 35) : ¬(k0_cond5 i = 1#1) := fun e => h ((decisions i).2.2.2.2.1 e)

end Conditions

/-- The first grid point is a first step. -/
theorem first_step : ∀ t : Fin (cfgA Ideal).N, t.val = 0 → (((cfgA Ideal).grid.coords t) 1).val = 0 := by decide +kernel

/-! ## The staging buffers and the blocks -/

/-- Point `t`'s coordinates and its step. -/
abbrev crd (t : Fin (cfgA F).N) : grid0.Coords := (cfgA F).grid.coords t
abbrev stp (t : Fin (cfgA F).N) : Fin 36 := (crd t) 1

abbrev ms0 (t : Fin (cfgA F).N) : Memref sig .tc .vmem S512x1024 .bf16 := spec0_0.stage ((cfgA F).slots t (0 : Fin 9))
abbrev hs0 (t : Fin (cfgA F).N) : (ms0 t).IsWhole := hstage0_0 (((cfgA F).slots t (0 : Fin 9)).cast nbuf0_0)
abbrev ms1 (t : Fin (cfgA F).N) : Memref sig .tc .vmem S512x1024 .bf16 := spec0_1.stage ((cfgA F).slots t (1 : Fin 9))
abbrev hs1 (t : Fin (cfgA F).N) : (ms1 t).IsWhole := hstage0_1 (((cfgA F).slots t (1 : Fin 9)).cast nbuf0_1)
abbrev ms2 (t : Fin (cfgA F).N) : Memref sig .tc .vmem S512x1024 .bf16 := spec0_2.stage ((cfgA F).slots t (2 : Fin 9))
abbrev hs2 (t : Fin (cfgA F).N) : (ms2 t).IsWhole := hstage0_2 (((cfgA F).slots t (2 : Fin 9)).cast nbuf0_2)
abbrev ms3 (t : Fin (cfgA F).N) : Memref sig .tc .vmem S512x512 .bf16 := spec0_3.stage ((cfgA F).slots t (3 : Fin 9))
abbrev hs3 (t : Fin (cfgA F).N) : (ms3 t).IsWhole := hstage0_3 (((cfgA F).slots t (3 : Fin 9)).cast nbuf0_3)
abbrev ms4 (t : Fin (cfgA F).N) : Memref sig .tc .vmem S512x512 .f32 := spec0_4.stage ((cfgA F).slots t (4 : Fin 9))
abbrev hs4 (t : Fin (cfgA F).N) : (ms4 t).IsWhole := hstage0_4 (((cfgA F).slots t (4 : Fin 9)).cast nbuf0_4)
abbrev ms5 (t : Fin (cfgA F).N) : Memref sig .tc .vmem S512x512 .f32 := spec0_5.stage ((cfgA F).slots t (5 : Fin 9))
abbrev hs5 (t : Fin (cfgA F).N) : (ms5 t).IsWhole := hstage0_5 (((cfgA F).slots t (5 : Fin 9)).cast nbuf0_5)
abbrev ms6 (t : Fin (cfgA F).N) : Memref sig .tc .vmem S4096x1024 .bf16 := spec0_6.stage ((cfgA F).slots t (6 : Fin 9))
abbrev hs6 (t : Fin (cfgA F).N) : (ms6 t).IsWhole := hstage0_6 (((cfgA F).slots t (6 : Fin 9)).cast nbuf0_6)
abbrev ms7 (t : Fin (cfgA F).N) : Memref sig .tc .vmem S512x1024 .bf16 := spec0_7.stage ((cfgA F).slots t (7 : Fin 9))
abbrev hs7 (t : Fin (cfgA F).N) : (ms7 t).IsWhole := hstage0_7 (((cfgA F).slots t (7 : Fin 9)).cast nbuf0_7)
abbrev ms8 (t : Fin (cfgA F).N) : Memref sig .tc .vmem S512x512 .bf16 := spec0_8.stage ((cfgA F).slots t (8 : Fin 9))
abbrev hs8 (t : Fin (cfgA F).N) : (ms8 t).IsWhole := hstage0_8 (((cfgA F).slots t (8 : Fin 9)).cast nbuf0_8)

-- `V`: the arrays' contents when the region is entered
variable (V : (c : Dev nD) → (b : Ref sig .tc) → Buf (Elt F) ((c : Thread nD τ).loc b)) (c : Dev nD)

/-- Window `w`'s block at point `t`. -/
def iblk (w : Fin (cfgA F).W) (t : Fin (cfgA F).N) : (((cfgA F).win w).xblock (crd t)).Idx → Elt F ((cfgA F).win w).elt :=
  (((cfgA F).win w).blk t).view.read (Elt F) (V c (Pipeline.arrRef spec0 w))

/-- The arguments' blocks at point `t`, at their literal shapes. -/
def b0 (t : Fin (cfgA F).N) : S512x1024.Idx → Elt F .bf16 := iblk V c (0 : Fin 9) t
def b1 (t : Fin (cfgA F).N) : S512x1024.Idx → Elt F .bf16 := iblk V c (1 : Fin 9) t
def b2 (t : Fin (cfgA F).N) : S512x1024.Idx → Elt F .bf16 := iblk V c (2 : Fin 9) t
def b3 (t : Fin (cfgA F).N) : S512x512.Idx → Elt F .bf16 := iblk V c (3 : Fin 9) t
def b4 (t : Fin (cfgA F).N) : S512x512.Idx → Elt F .f32 := iblk V c (4 : Fin 9) t
def b5 (t : Fin (cfgA F).N) : S512x512.Idx → Elt F .f32 := iblk V c (5 : Fin 9) t

/-! ## What every point leaves -/

variable (F) in
/-- The three accumulators' contents. -/
abbrev Acc : Type := (S4096x1024.Idx → Elt F .f32) × (S512x1024.Idx → Elt F .f32) × (S512x512.Idx → Elt F .f32)
variable (F) in
/-- The three results' staging buffers' contents. -/
abbrev Outs : Type := (S4096x1024.Idx → Elt F .bf16) × (S512x1024.Idx → Elt F .bf16) × (S512x512.Idx → Elt F .bf16)

/-- Contents that nobody reads. -/
def anyVec (s : Shape) (e : EltTy) : s.Idx → Elt F e := fun _ => Classical.arbitrary _

/-- The run of the body at a point on path A: what it leaves does not depend on the accumulators before. -/
abbrev atA (t : Fin (cfgA F).N) (h : (stp t).val = 0) :=
  runA (F := F) c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)
    (b0 V c t) (b1 V c t) (b2 V c t) (b3 V c t) (b4 V c t) (b5 V c t)
    (hw_at _) (c1_pos _ h) (c2_pos _ ((schedule _).1 h).1) (c3_neg _ ((schedule _).1 h).1) (c4_neg _ ((schedule _).1 h).2) (c5_neg _ (by rw [h]; decide))

/-- The run of the body at a point on path B, from the accumulators `a`. -/
abbrev atB (t : Fin (cfgA F).N) (a : Acc F) (h : ¬(stp t).val = 0) (hd : ¬rowB (stp t) = colB (stp t)) (h7 : ¬rowB (stp t) = 7) :=
  runB (F := F) c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)
    (b0 V c t) (b1 V c t) (b2 V c t) (b3 V c t) (b4 V c t) (b5 V c t)
    a.1 a.2.1 a.2.2 (hw_at _) (c1_neg _ h) (c2_neg _ hd) (c3_pos _ hd) (c4_neg _ h7) (c5_neg _ fun e => h7 ((schedule _).2.1 e).2)

/-- The run of the body at a point on path C, from the accumulators `a`. -/
abbrev atC (t : Fin (cfgA F).N) (a : Acc F) (h : ¬(stp t).val = 0) (hd : ¬rowB (stp t) = colB (stp t)) (h7 : rowB (stp t) = 7) :=
  runC (F := F) c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)
    (b0 V c t) (b1 V c t) (b2 V c t) (b3 V c t) (b4 V c t) (b5 V c t)
    a.1 a.2.1 a.2.2 (hw_at _) (c1_neg _ h) (c2_neg _ hd) (c3_pos _ hd) (c4_pos _ h7) (c5_neg _ fun e => hd ((schedule _).2.1 e).1)

/-- The run of the body at a point on path D, from the accumulators `a`. -/
abbrev atD (t : Fin (cfgA F).N) (a : Acc F) (h : ¬(stp t).val = 0) (hd : rowB (stp t) = colB (stp t)) (h7 : ¬rowB (stp t) = 7) :=
  runD (F := F) c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)
    (b0 V c t) (b1 V c t) (b2 V c t) (b3 V c t) (b4 V c t) (b5 V c t)
    a.1 a.2.1 a.2.2 (hw_at _) (c1_neg _ h) (c2_pos _ hd) (c3_neg _ hd) (c4_neg _ h7) (c5_neg _ fun e => h7 ((schedule _).2.1 e).2)

/-- The run of the body at a point on path E, from the accumulators `a`. -/
abbrev atE (t : Fin (cfgA F).N) (a : Acc F) (h : ¬(stp t).val = 0) (hd : rowB (stp t) = colB (stp t)) (h7 : rowB (stp t) = 7) :=
  runE (F := F) c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)
    (b0 V c t) (b1 V c t) (b2 V c t) (b3 V c t) (b4 V c t) (b5 V c t)
    a.1 a.2.1 a.2.2 (hw_at _) (c1_neg _ h) (c2_pos _ hd) (c3_neg _ hd) (c4_pos _ h7) (c5_pos _ ((schedule _).2.2 hd h7))

/-- What point `t` leaves in the accumulators and stores into the results' staging buffers, from the accumulators `a`. -/
def step (t : Fin (cfgA F).N) (a : Acc F) : Acc F × Outs F :=
  if h : (stp t).val = 0 then
    let r := atA V c t h; ((r.1, r.2.1, r.2.2.1), (anyVec _ _, anyVec _ _, anyVec _ _))
  else if hd : rowB (stp t) = colB (stp t) then
    if h7 : rowB (stp t) = 7 then
      let r := atE V c t a h hd h7; ((r.2.2.2.1, r.2.2.2.2.1, r.2.2.2.2.2.1), (r.1, r.2.1, r.2.2.1))
    else
      let r := atD V c t a h hd h7; ((r.1, r.2.1, r.2.2.1), (anyVec _ _, anyVec _ _, anyVec _ _))
  else
    if h7 : rowB (stp t) = 7 then
      let r := atC V c t a h hd h7; ((r.2.2.1, r.2.2.2.1, r.2.2.2.2.1), (anyVec _ _, r.1, r.2.1))
    else
      let r := atB V c t a h hd h7; ((r.1, r.2.1, r.2.2.1), (anyVec _ _, anyVec _ _, anyVec _ _))

/-- The accumulators before position `n` (before the first point: contents that nobody reads). -/
def accAt : ℕ → Acc F
  | 0 => (anyVec _ _, anyVec _ _, anyVec _ _)
  | n + 1 => if h : n < (cfgA F).N then (step V c ⟨n, h⟩ (accAt n)).1 else accAt n

theorem accAt_succ (t : Fin (cfgA F).N) : accAt V c (t.val + 1) = (step V c t (accAt V c t.val)).1 := by
  rw [accAt, dif_pos t.isLt]

/-- What point `t` stores into the results' staging buffers. -/
def outAt (t : Fin (cfgA F).N) : Outs F := (step V c t (accAt V c t.val)).2

/-- What `step` is on each path. -/
theorem step_A (t : Fin (cfgA F).N) (a : Acc F) (h : (stp t).val = 0) :
    step V c t a = (((atA V c t h).1, (atA V c t h).2.1, (atA V c t h).2.2.1), (anyVec _ _, anyVec _ _, anyVec _ _)) := by
  unfold step; exact dif_pos h
theorem step_B (t : Fin (cfgA F).N) (a : Acc F) (h : ¬(stp t).val = 0) (hd : ¬rowB (stp t) = colB (stp t)) (h7 : ¬rowB (stp t) = 7) :
    step V c t a = (((atB V c t a h hd h7).1, (atB V c t a h hd h7).2.1, (atB V c t a h hd h7).2.2.1), (anyVec _ _, anyVec _ _, anyVec _ _)) := by
  unfold step; exact (dif_neg h).trans ((dif_neg hd).trans (dif_neg h7))
theorem step_C (t : Fin (cfgA F).N) (a : Acc F) (h : ¬(stp t).val = 0) (hd : ¬rowB (stp t) = colB (stp t)) (h7 : rowB (stp t) = 7) :
    step V c t a = (((atC V c t a h hd h7).2.2.1, (atC V c t a h hd h7).2.2.2.1, (atC V c t a h hd h7).2.2.2.2.1), (anyVec _ _, (atC V c t a h hd h7).1, (atC V c t a h hd h7).2.1)) := by
  unfold step; exact (dif_neg h).trans ((dif_neg hd).trans (dif_pos h7))
theorem step_D (t : Fin (cfgA F).N) (a : Acc F) (h : ¬(stp t).val = 0) (hd : rowB (stp t) = colB (stp t)) (h7 : ¬rowB (stp t) = 7) :
    step V c t a = (((atD V c t a h hd h7).1, (atD V c t a h hd h7).2.1, (atD V c t a h hd h7).2.2.1), (anyVec _ _, anyVec _ _, anyVec _ _)) := by
  unfold step; exact (dif_neg h).trans ((dif_pos hd).trans (dif_neg h7))
theorem step_E (t : Fin (cfgA F).N) (a : Acc F) (h : ¬(stp t).val = 0) (hd : rowB (stp t) = colB (stp t)) (h7 : rowB (stp t) = 7) :
    step V c t a = (((atE V c t a h hd h7).2.2.2.1, (atE V c t a h hd h7).2.2.2.2.1, (atE V c t a h hd h7).2.2.2.2.2.1), ((atE V c t a h hd h7).1, (atE V c t a h hd h7).2.1, (atE V c t a h hd h7).2.2.1)) := by
  unfold step; exact (dif_neg h).trans ((dif_pos hd).trans (dif_pos h7))

attribute [local irreducible] runA runB runC runD runE step accAt outAt b0 b1 b2 b3 b4 b5

/-- The invariant between two points: the accumulators at what the points before left, the body's half of the tables. -/
def Phi (t : Fin ((cfgA F).N + 1)) : sProp 𝕄 :=
  iprop((∃ a : Acc F, ⌜t.val ≠ 0 → a = accAt V c t.val⌝ ∗ accs c a.1 a.2.1 a.2.2)
    ∗ (tb0.view.loc (c : Thread nD τ) ↦{fullShare.right} (T0 : S36.Idx → Elt F .i32))
    ∗ (tb1.view.loc (c : Thread nD τ) ↦{fullShare.right} (T1 : S36.Idx → Elt F .i32)))

/-- The proof data of the one pipeline on core `c`. -/
def dats (_ : Fin 1) (c : Dev nD) : Dat τ (Elt F) Unit ℕ (UR sig nD τ) ℕ (cfgA F) c where
  A w := V c (Pipeline.arrRef spec0 w)
  after w t := match w with
    | ⟨0, _⟩ => iblk V c (0 : Fin 9) t
    | ⟨1, _⟩ => iblk V c (1 : Fin 9) t
    | ⟨2, _⟩ => iblk V c (2 : Fin 9) t
    | ⟨3, _⟩ => iblk V c (3 : Fin 9) t
    | ⟨4, _⟩ => iblk V c (4 : Fin 9) t
    | ⟨5, _⟩ => iblk V c (5 : Fin 9) t
    | ⟨6, _⟩ => (outAt V c t).1
    | ⟨7, _⟩ => (outAt V c t).2.1
    | ⟨8, _⟩ => (outAt V c t).2.2
  Φ t := Phi V c t
  q _ := fullShare
  owed _ := 0

/-! ## An argument's staging buffer holds its block -/

theorem before0 (t : Fin (cfgA F).N) (d) : (dats V 0 c).before (0 : Fin 9) t d = iblk V c (0 : Fin 9) t :=
  ((dats V 0 c).before_in_eq_fetched (0 : Fin 9) rfl (fun _ => rfl) (fun _ _ _ => rfl)
    (fun t => by rw [show (dats V 0 c).after (0 : Fin 9) t = iblk V c (0 : Fin 9) t from rfl]; unfold Dat.blockOf iblk; rfl) t d).trans
    (by unfold Dat.fetched Dat.blockOf iblk; rfl)
theorem before1 (t : Fin (cfgA F).N) (d) : (dats V 0 c).before (1 : Fin 9) t d = iblk V c (1 : Fin 9) t :=
  ((dats V 0 c).before_in_eq_fetched (1 : Fin 9) rfl (fun _ => rfl) (fun _ _ _ => rfl)
    (fun t => by rw [show (dats V 0 c).after (1 : Fin 9) t = iblk V c (1 : Fin 9) t from rfl]; unfold Dat.blockOf iblk; rfl) t d).trans
    (by unfold Dat.fetched Dat.blockOf iblk; rfl)
theorem before2 (t : Fin (cfgA F).N) (d) : (dats V 0 c).before (2 : Fin 9) t d = iblk V c (2 : Fin 9) t :=
  ((dats V 0 c).before_in_eq_fetched (2 : Fin 9) rfl (fun _ => rfl) (fun _ _ _ => rfl)
    (fun t => by rw [show (dats V 0 c).after (2 : Fin 9) t = iblk V c (2 : Fin 9) t from rfl]; unfold Dat.blockOf iblk; rfl) t d).trans
    (by unfold Dat.fetched Dat.blockOf iblk; rfl)
theorem before3 (t : Fin (cfgA F).N) (d) : (dats V 0 c).before (3 : Fin 9) t d = iblk V c (3 : Fin 9) t :=
  ((dats V 0 c).before_in_eq_fetched (3 : Fin 9) rfl (fun _ => rfl) (fun _ _ _ => rfl)
    (fun t => by rw [show (dats V 0 c).after (3 : Fin 9) t = iblk V c (3 : Fin 9) t from rfl]; unfold Dat.blockOf iblk; rfl) t d).trans
    (by unfold Dat.fetched Dat.blockOf iblk; rfl)
theorem before4 (t : Fin (cfgA F).N) (d) : (dats V 0 c).before (4 : Fin 9) t d = iblk V c (4 : Fin 9) t :=
  ((dats V 0 c).before_in_eq_fetched (4 : Fin 9) rfl (fun _ => rfl) (fun _ _ _ => rfl)
    (fun t => by rw [show (dats V 0 c).after (4 : Fin 9) t = iblk V c (4 : Fin 9) t from rfl]; unfold Dat.blockOf iblk; rfl) t d).trans
    (by unfold Dat.fetched Dat.blockOf iblk; rfl)
theorem before5 (t : Fin (cfgA F).N) (d) : (dats V 0 c).before (5 : Fin 9) t d = iblk V c (5 : Fin 9) t :=
  ((dats V 0 c).before_in_eq_fetched (5 : Fin 9) rfl (fun _ => rfl) (fun _ _ _ => rfl)
    (fun t => by rw [show (dats V 0 c).after (5 : Fin 9) t = iblk V c (5 : Fin 9) t from rfl]; unfold Dat.blockOf iblk; rfl) t d).trans
    (by unfold Dat.fetched Dat.blockOf iblk; rfl)

/-! ## The body obligation -/

/-- What the pipeline holds of result window `w`'s staging buffer before the body, and what it asks of it after. -/
def held (w : Fin 9) (t : Fin (cfgA F).N) : sProp 𝕄 :=
  iprop(∃ d, owns (c : Thread nD τ) (((cfgA F).win w).stage ((cfgA F).slots t w)) fullShare ((dats V 0 c).before w t d))
def asked (w : Fin 9) (t : Fin (cfgA F).N) : sProp 𝕄 :=
  match (cfgA F).idle w ((cfgA F).grid.coords t) with
  | true =>
    match ((cfgA F).win w).flush t with
    | false => held V c w t
    | true => owns (c : Thread nD τ) (((cfgA F).win w).stage ((cfgA F).slots t w)) fullShare ((dats V 0 c).after w t)
  | false => owns (c : Thread nD τ) (((cfgA F).win w).stage ((cfgA F).slots t w)) fullShare ((dats V 0 c).after w t)

/-- The arguments' blocks and the tables at point `t`. -/
abbrev readersAt (t : Fin (cfgA F).N) : sProp 𝕄 :=
  readers c (ms0 t) (ms1 t) (ms2 t) (ms3 t) (ms4 t) (ms5 t) (b0 V c t) (b1 V c t) (b2 V c t) (b3 V c t) (b4 V c t) (b5 V c t)

abbrev bodyOf (t : Fin (cfgA F).N) := bodyAt (F := F) (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)

/-- The body at point `t` takes the accumulators `a` to `b`, and `Pre` to `Post`. -/
def RunsTo (t : Fin (cfgA F).N) (a b : Acc F) (Pre Post : sProp 𝕄) : Prop :=
  ∀ K : PUnit → sProp 𝕄,
    iprop(readersAt V c t ∗ accs c a.1 a.2.1 a.2.2 ∗ Pre ∗ (iprop(readersAt V c t ∗ accs c b.1 b.2.1 b.2.2 ∗ Post) -∗ K ⟨⟩))
      ⊢ wp frame (wpE (defs₀ (F := F)) Variants.none c none) Set.univ (bodyOf t) K

/-- What the obligation asks of every point, the windows written one by one. -/
def Sound (t : Fin (cfgA F).N) : Prop :=
  iprop((dats V 0 c).Φ t.castSucc ∗ (dats V 0 c).owesAt () t.castSucc
      ∗ held V c 0 t ∗ held V c 1 t ∗ held V c 2 t ∗ held V c 3 t ∗ held V c 4 t ∗ held V c 5 t ∗ held V c 6 t ∗ held V c 7 t ∗ held V c 8 t)
    ⊢ wp frame (wpE (defs₀ (F := F)) Variants.none c none) Set.univ (bodyOf t) fun _ =>
        iprop((dats V 0 c).Φ t.succ ∗ (dats V 0 c).owesAt () t.succ
          ∗ asked V c 0 t ∗ asked V c 1 t ∗ asked V c 2 t ∗ asked V c 3 t ∗ asked V c 4 t ∗ asked V c 5 t ∗ asked V c 6 t ∗ asked V c 7 t ∗ asked V c 8 t)

theorem held_in0 (t : Fin (cfgA F).N) : held V c 0 t ⊢ (((ms0 t).view.loc (c : Thread nD τ) ↦[(ms0 t).view.set]{fullShare} (ms0 t).view.rep (b0 V c t)) : sProp 𝕄) := by
  unfold held b0; simp only [before0]
  iintro ⟨%d, H⟩; iapply rep_of_owns; iexact H
theorem asked_in0 (t : Fin (cfgA F).N) : (((ms0 t).view.loc (c : Thread nD τ) ↦[(ms0 t).view.set]{fullShare} (ms0 t).view.rep (b0 V c t)) : sProp 𝕄) ⊢ asked V c 0 t := by
  unfold b0 asked; iintro H; iapply owns_of_rep; iexact H
theorem held_in1 (t : Fin (cfgA F).N) : held V c 1 t ⊢ (((ms1 t).view.loc (c : Thread nD τ) ↦[(ms1 t).view.set]{fullShare} (ms1 t).view.rep (b1 V c t)) : sProp 𝕄) := by
  unfold held b1; simp only [before1]
  iintro ⟨%d, H⟩; iapply rep_of_owns; iexact H
theorem asked_in1 (t : Fin (cfgA F).N) : (((ms1 t).view.loc (c : Thread nD τ) ↦[(ms1 t).view.set]{fullShare} (ms1 t).view.rep (b1 V c t)) : sProp 𝕄) ⊢ asked V c 1 t := by
  unfold b1 asked; iintro H; iapply owns_of_rep; iexact H
theorem held_in2 (t : Fin (cfgA F).N) : held V c 2 t ⊢ (((ms2 t).view.loc (c : Thread nD τ) ↦[(ms2 t).view.set]{fullShare} (ms2 t).view.rep (b2 V c t)) : sProp 𝕄) := by
  unfold held b2; simp only [before2]
  iintro ⟨%d, H⟩; iapply rep_of_owns; iexact H
theorem asked_in2 (t : Fin (cfgA F).N) : (((ms2 t).view.loc (c : Thread nD τ) ↦[(ms2 t).view.set]{fullShare} (ms2 t).view.rep (b2 V c t)) : sProp 𝕄) ⊢ asked V c 2 t := by
  unfold b2 asked; iintro H; iapply owns_of_rep; iexact H
theorem held_in3 (t : Fin (cfgA F).N) : held V c 3 t ⊢ (((ms3 t).view.loc (c : Thread nD τ) ↦[(ms3 t).view.set]{fullShare} (ms3 t).view.rep (b3 V c t)) : sProp 𝕄) := by
  unfold held b3; simp only [before3]
  iintro ⟨%d, H⟩; iapply rep_of_owns; iexact H
theorem asked_in3 (t : Fin (cfgA F).N) : (((ms3 t).view.loc (c : Thread nD τ) ↦[(ms3 t).view.set]{fullShare} (ms3 t).view.rep (b3 V c t)) : sProp 𝕄) ⊢ asked V c 3 t := by
  unfold b3 asked; iintro H; iapply owns_of_rep; iexact H
theorem held_in4 (t : Fin (cfgA F).N) : held V c 4 t ⊢ (((ms4 t).view.loc (c : Thread nD τ) ↦[(ms4 t).view.set]{fullShare} (ms4 t).view.rep (b4 V c t)) : sProp 𝕄) := by
  unfold held b4; simp only [before4]
  iintro ⟨%d, H⟩; iapply rep_of_owns; iexact H
theorem asked_in4 (t : Fin (cfgA F).N) : (((ms4 t).view.loc (c : Thread nD τ) ↦[(ms4 t).view.set]{fullShare} (ms4 t).view.rep (b4 V c t)) : sProp 𝕄) ⊢ asked V c 4 t := by
  unfold b4 asked; iintro H; iapply owns_of_rep; iexact H
theorem held_in5 (t : Fin (cfgA F).N) : held V c 5 t ⊢ (((ms5 t).view.loc (c : Thread nD τ) ↦[(ms5 t).view.set]{fullShare} (ms5 t).view.rep (b5 V c t)) : sProp 𝕄) := by
  unfold held b5; simp only [before5]
  iintro ⟨%d, H⟩; iapply rep_of_owns; iexact H
theorem asked_in5 (t : Fin (cfgA F).N) : (((ms5 t).view.loc (c : Thread nD τ) ↦[(ms5 t).view.set]{fullShare} (ms5 t).view.rep (b5 V c t)) : sProp 𝕄) ⊢ asked V c 5 t := by
  unfold b5 asked; iintro H; iapply owns_of_rep; iexact H

/-- Where a result's window is idle and not written back, what is held is what is asked; where it is stored, its buffer at
    what the point stores is. -/
theorem asked_idle (w : Fin 9) (t : Fin (cfgA F).N) (hi : (cfgA F).idle w ((cfgA F).grid.coords t) = true) (hf : ((cfgA F).win w).flush t = false) :
    held V c w t ⊢ asked V c w t := by
  unfold asked; rw [hi, hf]
theorem asked_stored (w : Fin 9) (t : Fin (cfgA F).N) (hi : (cfgA F).idle w ((cfgA F).grid.coords t) = false) :
    (owns (c : Thread nD τ) (((cfgA F).win w).stage ((cfgA F).slots t w)) fullShare ((dats V 0 c).after w t) : sProp 𝕄) ⊢ asked V c w t := by
  unfold asked; rw [hi]
theorem held_some (w : Fin 9) (t : Fin (cfgA F).N) :
    held V c w t ⊢ (iprop(∃ d, owns (c : Thread nD τ) (((cfgA F).win w).stage ((cfgA F).slots t w)) fullShare d) : sProp 𝕄) := by
  unfold held; iintro ⟨%d, H⟩; iexists _; iexact H

end Cert.KernelIdeal.Flash

end
-- ==== Proof.Flash.Sound.lean ====
/- The body obligation at every grid point: the path's run, the invariant, and the results' staging buffers carried across
   the points that leave them alone. -/
module

public import proofs.«01_k».proof.Proof.Flash.Points

@[expose] public section

set_option maxRecDepth 16384
set_option Elab.async false

noncomputable section

namespace Cert.KernelIdeal.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b)) (c : Dev nD)

attribute [local irreducible] runA runB runC runD runE step accAt outAt b0 b1 b2 b3 b4 b5
attribute [local irreducible] held asked

omit [FloatOps F] [Named F] in
/-- The bookkeeping around one run, for propositions of any kind: six arguments and two tables read and returned, the
    accumulators taken from one value to another, three results' buffers exchanged. -/
theorem carry {α : Type} (W : (PUnit → sProp 𝕄) → sProp 𝕄) (ok ok' : α → Prop) (A : α → sProp 𝕄) (b : α)
    (p0 p1 p2 p3 p4 p5 r0 r1 r2 r3 r4 r5 q0 q1 q2 q3 q4 q5 T U O p6 p7 p8 q6 q7 q8 Pre Post Rest : sProp 𝕄)
    (hrun : ∀ a, ok a → ∀ K, iprop((r0 ∗ r1 ∗ r2 ∗ r3 ∗ r4 ∗ r5 ∗ T ∗ U) ∗ A a ∗ Pre ∗ (iprop((r0 ∗ r1 ∗ r2 ∗ r3 ∗ r4 ∗ r5 ∗ T ∗ U) ∗ A b ∗ Post) -∗ K ⟨⟩)) ⊢ W K)
    (hb : ok' b)
    (i0 : p0 ⊢ r0) (i1 : p1 ⊢ r1) (i2 : p2 ⊢ r2) (i3 : p3 ⊢ r3) (i4 : p4 ⊢ r4) (i5 : p5 ⊢ r5)
    (o0 : r0 ⊢ q0) (o1 : r1 ⊢ q1) (o2 : r2 ⊢ q2) (o3 : r3 ⊢ q3) (o4 : r4 ⊢ q4) (o5 : r5 ⊢ q5)
    (hpre : iprop(p6 ∗ p7 ∗ p8) ⊢ iprop(Pre ∗ Rest)) (hpost : iprop(Post ∗ Rest) ⊢ iprop(q6 ∗ q7 ∗ q8)) :
    iprop(((∃ a, ⌜ok a⌝ ∗ A a) ∗ T ∗ U) ∗ O ∗ p0 ∗ p1 ∗ p2 ∗ p3 ∗ p4 ∗ p5 ∗ p6 ∗ p7 ∗ p8)
      ⊢ W fun _ => iprop(((∃ a, ⌜ok' a⌝ ∗ A a) ∗ T ∗ U) ∗ O ∗ q0 ∗ q1 ∗ q2 ∗ q3 ∗ q4 ∗ q5 ∗ q6 ∗ q7 ∗ q8) := by
  iintro ⟨⟨⟨%a, %ha, HS⟩, HT0, HT1⟩, Ho, H0, H1, H2, H3, H4, H5, H6, H7, H8⟩
  ihave HP := hpre $$ [H6 H7 H8]
  · isplitl [H6]; · iexact H6
    isplitl [H7]; · iexact H7
    iexact H8
  icases HP with ⟨HP, HR⟩
  iapply (hrun a ha)
  isplitl [H0 H1 H2 H3 H4 H5 HT0 HT1]
  · isplitl [H0]; · iapply i0; iexact H0
    isplitl [H1]; · iapply i1; iexact H1
    isplitl [H2]; · iapply i2; iexact H2
    isplitl [H3]; · iapply i3; iexact H3
    isplitl [H4]; · iapply i4; iexact H4
    isplitl [H5]; · iapply i5; iexact H5
    isplitl [HT0]; · iexact HT0
    iexact HT1
  isplitl [HS]; · iexact HS
  isplitl [HP]; · iexact HP
  iintro ⟨⟨H0, H1, H2, H3, H4, H5, HT0, HT1⟩, HS, HP⟩
  ihave HQ := hpost $$ [HP HR]
  · isplitl [HP]; · iexact HP
    iexact HR
  icases HQ with ⟨H6, H7, H8⟩
  isplitl [HS HT0 HT1]
  · isplitl [HS]
    · iexists b; isplitr; swap
      · iexact HS
      · ipureintro; exact hb
    isplitl [HT0]; · iexact HT0
    iexact HT1
  isplitl [Ho]; · iexact Ho
  isplitl [H0]; · iapply o0; iexact H0
  isplitl [H1]; · iapply o1; iexact H1
  isplitl [H2]; · iapply o2; iexact H2
  isplitl [H3]; · iapply o3; iexact H3
  isplitl [H4]; · iapply o4; iexact H4
  isplitl [H5]; · iapply o5; iexact H5
  isplitl [H6]; · iexact H6
  isplitl [H7]; · iexact H7
  iexact H8

/-- The invariant written out at a position. -/
theorem phi_at (n : Fin ((cfgA F).N + 1)) (m : ℕ) (h : n.val = m) : (dats V 0 c).Φ n = iprop((∃ a : Acc F, ⌜m ≠ 0 → a = accAt V c m⌝ ∗ accs c a.1 a.2.1 a.2.2)
    ∗ (tb0.view.loc (c : Thread nD τ) ↦{fullShare.right} (T0 : S36.Idx → Elt F .i32))
    ∗ (tb1.view.loc (c : Thread nD τ) ↦{fullShare.right} (T1 : S36.Idx → Elt F .i32))) := by subst h; rfl
theorem owes_in (t : Fin (cfgA F).N) : (dats V 0 c).owesAt () t.succ = (dats V 0 c).owesAt () t.castSucc := rfl

/-- A run from whatever accumulators the invariant allows to what the next position holds, with the results' buffers carried
    across it, is what the obligation asks. -/
theorem sound_of_run (t : Fin (cfgA F).N) (Pre Post Rest : sProp 𝕄)
    (hrun : ∀ a : Acc F, (t.val ≠ 0 → a = accAt V c t.val) → RunsTo V c t a (accAt V c (t.val + 1)) Pre Post)
    (hpre : iprop(held V c 6 t ∗ held V c 7 t ∗ held V c 8 t) ⊢ iprop(Pre ∗ Rest))
    (hpost : iprop(Post ∗ Rest) ⊢ iprop(asked V c 6 t ∗ asked V c 7 t ∗ asked V c 8 t)) : Sound V c t := by
  unfold Sound
  rw [phi_at V c t.castSucc t.val (Fin.val_castSucc t), phi_at V c t.succ (t.val + 1) (Fin.val_succ t), owes_in]
  unfold RunsTo at hrun
  exact carry (fun K => wp frame (wpE (defs₀ (F := F)) Variants.none c none) Set.univ (bodyOf t) K)
    (fun a => t.val ≠ 0 → a = accAt V c t.val) (fun a => t.val + 1 ≠ 0 → a = accAt V c (t.val + 1)) (fun a => accs c a.1 a.2.1 a.2.2) (accAt V c (t.val + 1))
    _ _ _ _ _ _ _ _ _ _ _ _ _ _ _ _ _ _ _ _ ((dats V 0 c).owesAt () t.castSucc) _ _ _ _ _ _ _ _ _ hrun (fun _ => rfl)
    (held_in0 V c t) (held_in1 V c t) (held_in2 V c t) (held_in3 V c t) (held_in4 V c t) (held_in5 V c t)
    (asked_in0 V c t) (asked_in1 V c t) (asked_in2 V c t) (asked_in3 V c t) (asked_in4 V c t) (asked_in5 V c t) hpre hpost

/-- A path that stores no result. -/
theorem sound_none (t : Fin (cfgA F).N) (h6 : ¬(stp t).val = 35) (h7 : ¬rowB (stp t) = 7)
    (hrun : ∀ a : Acc F, (t.val ≠ 0 → a = accAt V c t.val) → ∀ K : PUnit → sProp 𝕄,
      iprop(readersAt V c t ∗ accs c a.1 a.2.1 a.2.2
          ∗ (iprop(readersAt V c t ∗ accs c (accAt V c (t.val + 1)).1 (accAt V c (t.val + 1)).2.1 (accAt V c (t.val + 1)).2.2) -∗ K ⟨⟩))
        ⊢ wp frame (wpE (defs₀ (F := F)) Variants.none c none) Set.univ (bodyOf t) K) : Sound V c t := by
  refine sound_of_run V c t iprop(emp) iprop(emp) iprop(held V c 6 t ∗ held V c 7 t ∗ held V c 8 t) (fun a ha K => ?_) ?_ ?_
  · iintro ⟨Hr, Ha, -, Hk⟩
    iapply (hrun a ha K)
    isplitl [Hr]; · iexact Hr
    isplitl [Ha]; · iexact Ha
    iintro ⟨Hr, Ha⟩; iapply Hk
    isplitl [Hr]; · iexact Hr
    isplitl [Ha]
    · iexact Ha
    · iempintro
  · iintro H; isplitr
    · iempintro
    · iexact H
  · iintro ⟨-, H6, H7, H8⟩
    isplitl [H6]; · iapply (asked_idle V c 6 t (by rw [idle6]; simp [h6]) (by rw [flush6_eq]; simp [h6])); iexact H6
    isplitl [H7]; · iapply (asked_idle V c 7 t (by rw [idle7]; simp [h7]) (by rw [flush7_eq]; simp [h7])); iexact H7
    iapply (asked_idle V c 8 t (by rw [idle8]; simp [h7]) (by rw [flush8_eq]; simp [h7])); iexact H8

theorem sound (t : Fin (cfgA F).N) : Sound V c t := by
  by_cases h : (stp t).val = 0
  · refine sound_none V c t (by rw [h]; decide) ((schedule _).1 h).2 fun a ha => ?_
    rw [accAt_succ, step_A V c t _ h]
    exact (atA V c t h).2.2.2 a.1 a.2.1 a.2.2
  have hz : t.val ≠ 0 := fun e => h (first_step t e)
  by_cases hd : rowB (stp t) = colB (stp t)
  · by_cases h7 : rowB (stp t) = 7
    · have h5 := (schedule _).2.2 hd h7
      refine sound_of_run V c t iprop((∃ d, owns (c : Thread nD τ) (ms6 t) fullShare d) ∗ (∃ d, owns (c : Thread nD τ) (ms7 t) fullShare d) ∗ (∃ d, owns (c : Thread nD τ) (ms8 t) fullShare d))
        iprop(owns (c : Thread nD τ) (ms6 t) fullShare (outAt V c t).1 ∗ owns (c : Thread nD τ) (ms7 t) fullShare (outAt V c t).2.1 ∗ owns (c : Thread nD τ) (ms8 t) fullShare (outAt V c t).2.2)
        iprop(emp) (fun a ha K => ?_) ?_ ?_
      · obtain rfl := ha hz
        rw [accAt_succ]; unfold outAt; rw [step_E V c t _ h hd h7]
        iintro ⟨Hr, Ha, ⟨H6, H7, H8⟩, Hk⟩
        iapply ((atE V c t (accAt V c t.val) h hd h7).2.2.2.2.2.2 K)
        isplitl [Hr]; · iexact Hr
        isplitl [Ha]; · iexact Ha
        isplitl [H6]; · iexact H6
        isplitl [H7]; · iexact H7
        isplitl [H8]; · iexact H8
        iintro ⟨Hr, Ha, H6, H7, H8⟩; iapply Hk
        isplitl [Hr]; · iexact Hr
        isplitl [Ha]; · iexact Ha
        isplitl [H6]; · iexact H6
        isplitl [H7]; · iexact H7
        iexact H8
      · iintro ⟨H6, H7, H8⟩; isplitl; swap; · iempintro
        isplitl [H6]; · iapply (held_some V c 6 t); iexact H6
        isplitl [H7]; · iapply (held_some V c 7 t); iexact H7
        iapply (held_some V c 8 t); iexact H8
      · iintro ⟨⟨H6, H7, H8⟩, -⟩
        isplitl [H6]; · iapply (asked_stored V c 6 t (by rw [idle6]; simp [h5])); iexact H6
        isplitl [H7]; · iapply (asked_stored V c 7 t (by rw [idle7]; simp [h7])); iexact H7
        iapply (asked_stored V c 8 t (by rw [idle8]; simp [h7])); iexact H8
    · refine sound_none V c t (fun e => h7 ((schedule _).2.1 e).2) h7 fun a ha => ?_
      obtain rfl := ha hz
      rw [accAt_succ, step_D V c t _ h hd h7]; exact (atD V c t (accAt V c t.val) h hd h7).2.2.2
  · by_cases h7 : rowB (stp t) = 7
    · have h5 : ¬(stp t).val = 35 := fun e => hd ((schedule _).2.1 e).1
      refine sound_of_run V c t iprop((∃ d, owns (c : Thread nD τ) (ms7 t) fullShare d) ∗ (∃ d, owns (c : Thread nD τ) (ms8 t) fullShare d))
        iprop(owns (c : Thread nD τ) (ms7 t) fullShare (outAt V c t).2.1 ∗ owns (c : Thread nD τ) (ms8 t) fullShare (outAt V c t).2.2)
        (held V c 6 t) (fun a ha K => ?_) ?_ ?_
      · obtain rfl := ha hz
        rw [accAt_succ]; unfold outAt; rw [step_C V c t _ h hd h7]
        iintro ⟨Hr, Ha, ⟨H7, H8⟩, Hk⟩
        iapply ((atC V c t (accAt V c t.val) h hd h7).2.2.2.2.2 K)
        isplitl [Hr]; · iexact Hr
        isplitl [Ha]; · iexact Ha
        isplitl [H7]; · iexact H7
        isplitl [H8]; · iexact H8
        iintro ⟨Hr, Ha, H7, H8⟩; iapply Hk
        isplitl [Hr]; · iexact Hr
        isplitl [Ha]; · iexact Ha
        isplitl [H7]; · iexact H7
        iexact H8
      · iintro ⟨H6, H7, H8⟩; isplitr [H6]; swap; · iexact H6
        isplitl [H7]; · iapply (held_some V c 7 t); iexact H7
        iapply (held_some V c 8 t); iexact H8
      · iintro ⟨⟨H7, H8⟩, H6⟩
        isplitl [H6]; · iapply (asked_idle V c 6 t (by rw [idle6]; simp [h5]) (by rw [flush6_eq]; simp [h5])); iexact H6
        isplitl [H7]; · iapply (asked_stored V c 7 t (by rw [idle7]; simp [h7])); iexact H7
        iapply (asked_stored V c 8 t (by rw [idle8]; simp [h7])); iexact H8
    · refine sound_none V c t (fun e => h7 ((schedule _).2.1 e).2) h7 fun a ha => ?_
      obtain rfl := ha hz
      rw [accAt_succ, step_B V c t _ h hd h7]; exact (atB V c t (accAt V c t.val) h hd h7).2.2.2

/-- The body the region runs at a point. -/
theorem body_eq (t : Fin (cfgA F).N) : defs₀ (F := F) .tc (cfgA F).body ((cfgA F).bodyArgs t ((cfgA F).slots t)) = bodyOf t := rfl

/-- The library's body obligation. -/
theorem body_obligation : BodyObligation (dats V 0 c) (defs₀ (F := F)) Variants.none () Set.univ := by
  unfold BodyObligation
  intro t
  have h := sound V c t
  unfold Sound at h
  have e1 : (bigSep Finset.univ fun w : Fin 9 => held V c w t) = _ := bigSep_W0 _
  have e2 : (bigSep Finset.univ fun w : Fin 9 => asked V c w t) = _ := bigSep_W0 _
  rw [← e1, ← e2, ← body_eq] at h
  refine Eq.mpr (congrArg₂ (fun X Y : sProp 𝕄 => iprop((dats V 0 c).Φ t.castSucc ∗ (dats V 0 c).owesAt () t.castSucc ∗ X)
    ⊢ wp frame (wpE (defs₀ (F := F)) Variants.none c none) Set.univ (defs₀ (F := F) .tc (cfgA F).body ((cfgA F).bodyArgs t ((cfgA F).slots t))) fun _ =>
        iprop((dats V 0 c).Φ t.succ ∗ (dats V 0 c).owesAt () t.succ ∗ Y)) ?_ ?_) h
  · refine bigSep_congr fun w _ => ?_
    unfold held; rfl
  · refine bigSep_congr fun w _ => ?_
    unfold asked held
    generalize (cfgA F).idle w ((cfgA F).grid.coords t) = x
    generalize ((cfgA F).win w).flush t = y
    cases x <;> cases y <;> rfl

end Cert.KernelIdeal.Flash

end
-- ==== Proof.Flash.Launch.lean ====
/- The launch: @main is nine stretches of host operations and the region. From any memory with zero counters every run ends
   with each window's array at what the pipeline's data compute, every other buffer as the host operations left it, and the
   counters at zero. -/
module

public import proofs.«01_k».proof.Proof.Flash.Sound
public import proofs.«01_k».proof.Proof.Gen.KernelIdeal.Launch
public import Idealize.ShloMosaic.Lib.Pipeline.Frame
public import Idealize.ShloMosaic.Lib.StableHlo.RunRead

@[expose] public section

set_option maxRecDepth 16384
set_option Elab.async false

noncomputable section

namespace Cert.KernelIdeal.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-! ## The host operations before the region -/

abbrev hostOps0_W : List (Ref sig .tc) := [main_c, main_c_0, main_cst, main_v0, main_v1, main_v2, main_v3, main_v4, main_cst_1, main_v5, main_v6, main_v7, main_v8, main_v9, main_v10, main_cst_2]
theorem hostOps0_writes : (hostOps0 : List (HloOp τ sig (Elt F))).Forall fun op => op.writes ⊆ (hostOps0_W.map (Proc.devRef (τ := τ) .tc)).toFinset :=
  StableHlo.forall_writes_sub_of_map rfl
theorem hostOps0_fresh : (hostOps0 : List (HloOp τ sig (Elt F))).Forall fun op => op.fresh = ∅ := StableHlo.forall_fresh_of_map rfl
abbrev hostOps0_1_W : List (Ref sig .tc) := [main_call0_v0, main_call0_v1, main_call0_v2, main_v11]
theorem hostOps0_1_writes : (hostOps0_1 : List (HloOp τ sig (Elt F))).Forall fun op => op.writes ⊆ (hostOps0_1_W.map (Proc.devRef (τ := τ) .tc)).toFinset :=
  StableHlo.forall_writes_sub_of_map rfl
theorem hostOps0_1_fresh : (hostOps0_1 : List (HloOp τ sig (Elt F))).Forall fun op => op.fresh = ∅ := StableHlo.forall_fresh_of_map rfl
abbrev hostOps0_2_W : List (Ref sig .tc) := [main_cst_3, main_v12, main_v13, main_v14, main_v15, main_v16, main_cst_4, main_v17, main_v18, main_v19, main_v20, main_v21, main_v22, main_v23, main_v24, main_v25, main_v26, main_v27, main_v28, main_v29, main_v30, main_v31, main_v32, main_cst_5, main_v33, main_cst_6, main_v34, main_v35, main_v36, main_v37, main_v38, main_c_7]
theorem hostOps0_2_writes : (hostOps0_2 : List (HloOp τ sig (Elt F))).Forall fun op => op.writes ⊆ (hostOps0_2_W.map (Proc.devRef (τ := τ) .tc)).toFinset :=
  StableHlo.forall_writes_sub_of_map rfl
theorem hostOps0_2_fresh : (hostOps0_2 : List (HloOp τ sig (Elt F))).Forall fun op => op.fresh = ∅ := StableHlo.forall_fresh_of_map rfl
abbrev hostOps0_3_W : List (Ref sig .tc) := [main_call1_v0, main_v39]
theorem hostOps0_3_writes : (hostOps0_3 : List (HloOp τ sig (Elt F))).Forall fun op => op.writes ⊆ (hostOps0_3_W.map (Proc.devRef (τ := τ) .tc)).toFinset :=
  StableHlo.forall_writes_sub_of_map rfl
theorem hostOps0_3_fresh : (hostOps0_3 : List (HloOp τ sig (Elt F))).Forall fun op => op.fresh = ∅ := StableHlo.forall_fresh_of_map rfl
abbrev hostOps0_4_W : List (Ref sig .tc) := [main_v40, main_c_8]
theorem hostOps0_4_writes : (hostOps0_4 : List (HloOp τ sig (Elt F))).Forall fun op => op.writes ⊆ (hostOps0_4_W.map (Proc.devRef (τ := τ) .tc)).toFinset :=
  StableHlo.forall_writes_sub_of_map rfl
theorem hostOps0_4_fresh : (hostOps0_4 : List (HloOp τ sig (Elt F))).Forall fun op => op.fresh = ∅ := StableHlo.forall_fresh_of_map rfl
abbrev hostOps0_5_W : List (Ref sig .tc) := [main_call2_v0, main_v41]
theorem hostOps0_5_writes : (hostOps0_5 : List (HloOp τ sig (Elt F))).Forall fun op => op.writes ⊆ (hostOps0_5_W.map (Proc.devRef (τ := τ) .tc)).toFinset :=
  StableHlo.forall_writes_sub_of_map rfl
theorem hostOps0_5_fresh : (hostOps0_5 : List (HloOp τ sig (Elt F))).Forall fun op => op.fresh = ∅ := StableHlo.forall_fresh_of_map rfl
abbrev hostOps0_6_W : List (Ref sig .tc) := [main_v42, main_c_9]
theorem hostOps0_6_writes : (hostOps0_6 : List (HloOp τ sig (Elt F))).Forall fun op => op.writes ⊆ (hostOps0_6_W.map (Proc.devRef (τ := τ) .tc)).toFinset :=
  StableHlo.forall_writes_sub_of_map rfl
theorem hostOps0_6_fresh : (hostOps0_6 : List (HloOp τ sig (Elt F))).Forall fun op => op.fresh = ∅ := StableHlo.forall_fresh_of_map rfl
abbrev hostOps0_7_W : List (Ref sig .tc) := [main_call3_v0, main_v43]
theorem hostOps0_7_writes : (hostOps0_7 : List (HloOp τ sig (Elt F))).Forall fun op => op.writes ⊆ (hostOps0_7_W.map (Proc.devRef (τ := τ) .tc)).toFinset :=
  StableHlo.forall_writes_sub_of_map rfl
theorem hostOps0_7_fresh : (hostOps0_7 : List (HloOp τ sig (Elt F))).Forall fun op => op.fresh = ∅ := StableHlo.forall_fresh_of_map rfl
abbrev hostOps0_8_W : List (Ref sig .tc) := [main_v44, main_v45, main_v46, main_v47, main_v48, main_v49, main_v50, main_v51]
theorem hostOps0_8_writes : (hostOps0_8 : List (HloOp τ sig (Elt F))).Forall fun op => op.writes ⊆ (hostOps0_8_W.map (Proc.devRef (τ := τ) .tc)).toFinset :=
  StableHlo.forall_writes_sub_of_map rfl
theorem hostOps0_8_fresh : (hostOps0_8 : List (HloOp τ sig (Elt F))).Forall fun op => op.fresh = ∅ := StableHlo.forall_fresh_of_map rfl

/-- The nine stretches. -/
abbrev opss : List (List (HloOp τ sig (Elt F))) :=
  [hostOps0, hostOps0_1, hostOps0_2, hostOps0_3, hostOps0_4, hostOps0_5, hostOps0_6, hostOps0_7, hostOps0_8]

variable (m : (ℓ : Loc nD τ sig) → Buf (Elt F) ℓ) (ρ : Dev nD → PrngReg)

/-- What the unscoped buffers hold when the region is entered. -/
def V (c : Dev nD) (b : Ref sig .tc) : Buf (Elt F) ((c.tc : Thread nD τ).loc b) := StableHlo.after (opss (F := F)).flatten (fun b => m (c, b)) b

/-- A buffer no stretch writes keeps its contents. -/
theorem V_of_not_written (c : Dev nD) (b : Ref sig .tc)
    (h : b ∉ hostOps0_W ++ hostOps0_1_W ++ hostOps0_2_W ++ hostOps0_3_W ++ hostOps0_4_W ++ hostOps0_5_W ++ hostOps0_6_W ++ hostOps0_7_W ++ hostOps0_8_W) :
    V m c b = m ((c.tc : Thread nD τ).loc b) := by
  simp only [List.mem_append, not_or] at h
  obtain ⟨⟨⟨⟨⟨⟨⟨⟨h0, h1⟩, h2⟩, h3⟩, h4⟩, h5⟩, h6⟩, h7⟩, h8⟩ := h
  unfold V
  rw [List.flatten_cons, List.flatten_cons, List.flatten_cons, List.flatten_cons, List.flatten_cons, List.flatten_cons, List.flatten_cons, List.flatten_cons, List.flatten_cons, List.flatten_nil, List.append_nil]
  rw [StableHlo.after_append, StableHlo.after_append, StableHlo.after_append, StableHlo.after_append, StableHlo.after_append, StableHlo.after_append, StableHlo.after_append, StableHlo.after_append]
  rw [StableHlo.after_of_writes_sub _ _ hostOps0_8_writes h8, StableHlo.after_of_writes_sub _ _ hostOps0_7_writes h7, StableHlo.after_of_writes_sub _ _ hostOps0_6_writes h6,
    StableHlo.after_of_writes_sub _ _ hostOps0_5_writes h5, StableHlo.after_of_writes_sub _ _ hostOps0_4_writes h4, StableHlo.after_of_writes_sub _ _ hostOps0_3_writes h3,
    StableHlo.after_of_writes_sub _ _ hostOps0_2_writes h2, StableHlo.after_of_writes_sub _ _ hostOps0_1_writes h1, StableHlo.after_of_writes_sub _ _ hostOps0_writes h0]

/-- What the stretches write, in order. -/
abbrev written : List (Ref sig .tc) :=
  hostOps0_W ++ hostOps0_1_W ++ hostOps0_2_W ++ hostOps0_3_W ++ hostOps0_4_W ++ hostOps0_5_W ++ hostOps0_6_W ++ hostOps0_7_W ++ hostOps0_8_W

/-- The tables hold the constants. -/
theorem V_table0 (c : Dev nD) : V m c main_c = (T0 : S36.Idx → Elt F .i32) := by
  unfold V
  refine (StableHlo.after_last_write (ops := (opss (F := F)).flatten) (i := 0) (written.drop 1) rfl rfl (by decide) _).trans ?_
  rw [StableHlo.nullary_result']; rfl
theorem V_table1 (c : Dev nD) : V m c main_c_0 = (T1 : S36.Idx → Elt F .i32) := by
  unfold V
  refine (StableHlo.after_last_write (ops := (opss (F := F)).flatten) (i := 1) (written.drop 2) rfl rfl (by decide) _).trans ?_
  rw [StableHlo.nullary_result']; rfl
theorem V_tables (c : Dev nD) (k : Fin 2) : V m c (pre0.ref k) = (adm (F := F)).1 k := by
  fin_cases k
  · exact V_table0 m c
  · exact V_table1 m c

/-! ## The run -/

theorem share_eq (c : Dev nD) (w : Fin (cfgA F).W) : (dats (V m) 0 c).share w = fullShare := by unfold Dat.share; split <;> rfl

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the accumulators; -/
theorem phi_first (c : Dev nD) :
    iprop(BI.emp ∗ Pipeline.prefHeld pre0 c (fun _ => fullShare.right) (adm (F := F)).1 ∗ Pipeline.scopedRest spec0 c) ⊢ (dats (V m) 0 c).Φ 0 := by
  rw [prefHeld_eq, scopedRest0_eq, phi_at (V m) c 0 0 rfl]
  iintro ⟨-, ⟨HT0, HT1⟩, ⟨%a0, HS0⟩, ⟨%a1, HS1⟩, ⟨%a2, HS2⟩⟩
  isplitl [HS0 HS1 HS2]
  · iexists (a0, a1, a2); isplitr
    · ipureintro; intro h; exact absurd rfl h
    isplitl [HS0]; · iexact HS0
    isplitl [HS1]; · iexact HS1
    iexact HS2
  isplitl [HT0]
  · iexact HT0
  iexact HT1

/-- at the last it gives the accumulators back. -/
theorem phi_last (c : Dev nD) : (dats (V m) 0 c).Φ (Fin.last (cfgA F).N) ⊢ iprop(BI.emp ∗ Pipeline.scopedRest spec0 c) := by
  rw [scopedRest0_eq, phi_at (V m) c (Fin.last _) _ rfl]
  iintro ⟨⟨%a, -, HS0, HS1, HS2⟩, -, -⟩
  isplitr; · iempintro
  isplitl [HS0]
  · iexists a.1; iexact HS0
  isplitl [HS1]
  · iexists a.2.1; iexact HS1
  iexists a.2.2; iexact HS2

set_option backward.isDefEq.respectTransparency.types false in
/-- @main reduces to the region at the contents the stretches leave. -/
theorem main_reduces : Pipeline.HMainP (Ix := Unit) (Name := ℕ) (U := UR sig nD τ) (Lvl := ℕ) (pcfgs (F := F)) (0 : Fin 1) defs₀ Variants.none m main (V m) :=
  Pipeline.hmainP_prefixes (pcfgs (F := F)) (0 : Fin 1) defs₀ Variants.none m main opss
    ⟨hostOps0_sub, hostOps0_1_sub, hostOps0_2_sub, hostOps0_3_sub, hostOps0_4_sub, hostOps0_5_sub, hostOps0_6_sub, hostOps0_7_sub, hostOps0_8_sub⟩
    ⟨hostOps0_fresh, hostOps0_1_fresh, hostOps0_2_fresh, hostOps0_3_fresh, hostOps0_4_fresh, hostOps0_5_fresh, hostOps0_6_fresh, hostOps0_7_fresh, hostOps0_8_fresh⟩
    (fun c => main_chain c)

/-- What every final state satisfies. -/
def Ends (r : PUnit × MemSt nD τ sig (Elt F)) : Prop :=
  ∀ c : Dev nD, (∀ w : Fin (cfgA F).W, r.2.mem (((cfgA F).win w).arr.view.loc (c : Thread nD τ)) = (dats (V m) 0 c).arrAt w (cfgA F).N)
    ∧ ∀ b ∈ Pipeline.restRefsP sig pre0 spec0, r.2.mem ((c.tc : Thread nD τ).loc b) = V m c b

set_option backward.isDefEq.respectTransparency.types false in
/-- At the compiled mesh, for any float values, from any memory with zero counters: every weakly fair execution of @main
    terminates without fault, and every final state is as `Ends` says, every counter at zero. -/
theorem run_main : θ_run (defs (F := F)) (onTc (τ := τ) (main (F := F))) (s₀ m ρ) (fun r => Ends m r ∧ r.2.sem = fun _ => 0) :=
  Pipeline.θ_run_region_noSem_pf_quiescent (pcfgs (F := F)) (fun _ => adm) (dats (V m)) () ((launch0 (F := F)).cellOf_inj fun _ => adm) (0 : Fin 1)
    (launch0 (F := F)).win.to₀ (launch0 (F := F)).pre emb₁ defs₀ Variants.none m ρ main
    (hbody := fun c => (body_obligation (V m) c).loose) (hne := (launch0 (F := F)).block_pos)
    (harr := (launch0 (F := F)).arr_whole) (hstage := (launch0 (F := F)).stage_whole) (howed := fun _ _ => rfl)
    (u₀ := initOf (Pipeline.cells (pcs F) ((launch0 (F := F)).cellOf_inj fun _ => adm)) (Pipeline.launchToks (pcs F) ((launch0 (F := F)).cellOf_inj fun _ => adm)))
    (hu₀ := .rfl)
    (V := V m) (hmain := main_reduces m)
    (hsplit := fun c => Pipeline.arrays_split (pcs F) (dats (V m)) 0 (launch0 (F := F)).win.arr_inj c (launch0 (F := F)).arr_whole (share_eq m c) _ _ fun _ => rfl)
    (hpf := V_tables m)
    (X := fun _ => iprop(emp)) (Y := fun _ => iprop(emp)) (Z := fun c => Pipeline.unscopedRestP pre0 spec0 c (V m c))
    (hX := fun c => by iintro H; isplitr; · iempintro
                       iexact H)
    (hin := phi_first m) (hout := phi_last m)
    (QY := fun c s => ∀ b ∈ Pipeline.restRefsP sig pre0 spec0, s.mem ((c.tc : Thread nD τ).loc b) = V m c b)
    (hY := fun c s' => by
      iintro ⟨-, HU, HSI⟩
      unfold Pipeline.unscopedRestP
      imodintro
      iapply (pointsTo_read_all (Pipeline.restRefsP sig pre0 spec0) (fun b => (c.tc : Thread nD τ).loc b) (V m c) s')
      isplitl [HU] <;> iassumption)
    (hQ := fun s h hz => ⟨fun c => ⟨(h c).1, (h c).2.2⟩, hz⟩)

/-- An unscoped buffer that is neither a window's array nor a table nor written by a stretch ends as it began. -/
theorem arg_unchanged {r : PUnit × MemSt nD τ sig (Elt F)} (h : Ends m r) (c : Dev nD) (b : Ref sig .tc) (hs : b.isScoped = false)
    (ha : ∀ w, (spec0 w).arr.view.ref ≠ b) (ht : ∀ k, pre0.ref k ≠ b) (hw : b ∉ written) :
    r.2.mem ((c.tc : Thread nD τ).loc b) = m ((c.tc : Thread nD τ).loc b) :=
  ((h c).2 b (Finset.mem_sdiff.mpr ⟨Pipeline.mem_restRefs_of b hs ha, by simpa using ht⟩)).trans (V_of_not_written m c b hw)

/-- The frame: the four arguments end unchanged and every counter is zero. -/
theorem frame_main : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨arg_unchanged m h.1 c main_arg0 rfl (by decide) (by decide) (by decide), arg_unchanged m h.1 c main_arg1 rfl (by decide) (by decide) (by decide),
     arg_unchanged m h.1 c main_arg2 rfl (by decide) (by decide) (by decide), arg_unchanged m h.1 c main_arg3 rfl (by decide) (by decide) (by decide)⟩, h.2⟩)
    (run_main m ρ)

end Cert.KernelIdeal.Flash

end
-- ==== Proof.Flash.Frames.lean ====
/- The frames of the kernel as printed and of its idealization, of the reference, and the statement of the two named
   constants. The kernel as printed has its named constants as words, so its run is a text of its own (FlashBits/). -/
module

public import proofs.«01_k».proof.Defs
public import proofs.«01_k».proof.Proof.Flash.Launch
public import proofs.«01_k».proof.Proof.FlashBits.Launch
public import proofs.«01_k».proof.Proof.Gen.Kernel
public import proofs.«01_k».proof.Proof.Gen.KernelIdeal
public import proofs.«01_k».proof.Proof.Gen.Pre_finite
public import proofs.«01_k».proof.Proof.Gen.ReferenceIdeal.Run

@[expose] public section

noncomputable section

namespace Cert.Proof

open Idealize.ShloMosaic Idealize.SL.Sem

/-- The idealization's frame. -/
theorem frame_kernelIdeal : Cert.quiescent_KernelIdeal := fun m g _ => Cert.KernelIdeal.Flash.frame_main m g

/-- The kernel's frame. -/
theorem frame_kernel : Cert.quiescent_Kernel := fun m g _ => Cert.Kernel.Flash.frame_main m g

/-- The reference's frame: it launches nothing, so every semaphore stays at zero. -/
theorem frame_reference : Cert.quiescent_ReferenceIdeal := fun m g _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m g)

/-- The two named constants are the two values the table gives them. -/
theorem preserves : Cert.preserves_Kernel_KernelIdeal :=
  ⟨IdealRules.named_const.statement Cert.KernelIdeal.κ "masked" .f32 0xF149F2CA#32 ⊥ rfl,
   IdealRules.named_const.statement Cert.KernelIdeal.κ "ln2" .f32 0x3F317218#32 ((Real.log 2 : ℝ) : EReal) rfl⟩

/-- The idealization's frame under the precondition of the value claim. -/
theorem frame_kernelIdeal_finite : Cert.quiescent_KernelIdeal_pre_finite := fun m g _ => Cert.KernelIdeal.Flash.frame_main m g

/-- The reference's frame under the precondition of the value claim. -/
theorem frame_reference_finite : Cert.quiescent_ReferenceIdeal_pre_finite := fun m g _ => frame_reference m g trivial

end Cert.Proof

end
-- ==== Proof.Flash.Pieces.lean ====
/- What the five runs of the body leave, in closed form: an accumulator is the accumulator before with a block put into it
   for each of the four heads, `acc4`; a block is a pure function of the windows of the arguments' blocks. -/
module

public import proofs.«01_k».proof.Proof.Flash.Points

@[expose] public section

noncomputable section

namespace Cert.KernelIdeal.Flash

open Cert.KernelIdeal Cert.KernelIdeal.Gen
open Idealize.ShloMosaic
open Idealize.ShloMosaic.TcCoe Idealize.ShloMosaic.Tactic
open VecWindow

variable {F : FTy → Type} [FloatOps F] [Named F]

/-- The array `x` with the blocks `W 0`, `W 1`, `W 2`, `W 3` of `h` rows and `w` columns put side by side from row `r` on. -/
def acc4 {α : Type} {n m : ℕ} (h w : ℕ) (x : (⟨2, ![n, m]⟩ : Shape).Idx → α) (r : ℕ) (W : Fin 4 → ((a : Fin 2) → Fin (![h, w] a)) → α) :
    (⟨2, ![n, m]⟩ : Shape).Idx → α :=
  put (s := ⟨2, ![n, m]⟩) (put (s := ⟨2, ![n, m]⟩) (put (s := ⟨2, ![n, m]⟩) (put (s := ⟨2, ![n, m]⟩) x ![r, 0] ![h, w] (W 0)) ![r, w] ![h, w] (W 1)) ![r, 2 * w] ![h, w] (W 2)) ![r, 3 * w] ![h, w] (W 3)

/-- An entry outside the rows of the blocks is the array's own. -/
theorem acc4_miss {α : Type} {n m : ℕ} (h w : ℕ) (x : (⟨2, ![n, m]⟩ : Shape).Idx → α) (r : ℕ) (W : Fin 4 → ((a : Fin 2) → Fin (![h, w] a)) → α)
    (y : (⟨2, ![n, m]⟩ : Shape).Idx) (hy : (y 0).val < r ∨ r + h ≤ (y 0).val) : acc4 h w x r W y = x y := by
  have key : ∀ c : ℕ, ¬ ∀ a : Fin 2, ![r, c] a ≤ (y a).val ∧ (y a).val < ![r, c] a + ![h, w] a := fun c hall => by
    have h0 : r ≤ (y 0).val ∧ (y 0).val < r + h := hall 0
    omega
  unfold acc4 put
  rw [dif_neg (key _), dif_neg (key _), dif_neg (key _), dif_neg (key _)]

/-- An entry inside block `g`, at row `ρ` and column `e` of it. -/
theorem acc4_hit {α : Type} {n m : ℕ} (h w : ℕ) (x : (⟨2, ![n, m]⟩ : Shape).Idx → α) (r : ℕ) (W : Fin 4 → ((a : Fin 2) → Fin (![h, w] a)) → α)
    (y : (⟨2, ![n, m]⟩ : Shape).Idx) (g : Fin 4) (z : (a : Fin 2) → Fin (![h, w] a)) (h0 : (y 0).val = r + (z 0).val) (h1 : (y 1).val = g.val * w + (z 1).val) :
    acc4 h w x r W y = W g z := by
  have b0 : (z 0).val < h := (z 0).isLt
  have b1 : (z 1).val < w := (z 1).isLt
  have miss : ∀ c : ℕ, ((y 1).val < c ∨ c + w ≤ (y 1).val) → ¬ ∀ a : Fin 2, ![r, c] a ≤ (y a).val ∧ (y a).val < ![r, c] a + ![h, w] a := fun c hc hall => by
    have h1 : c ≤ (y 1).val ∧ (y 1).val < c + w := hall 1
    omega
  have hit : ∀ c : ℕ, c = g.val * w → ∀ a : Fin 2, ![r, c] a ≤ (y a).val ∧ (y a).val < ![r, c] a + ![h, w] a := fun c hc a => by
    match a with
    | 0 => exact (by omega : r ≤ (y 0).val ∧ (y 0).val < r + h)
    | 1 => exact (by omega : c ≤ (y 1).val ∧ (y 1).val < c + w)
  have val : ∀ (c : ℕ) (hc : c = g.val * w) (hh : ∀ a : Fin 2, ![r, c] a ≤ (y a).val ∧ (y a).val < ![r, c] a + ![h, w] a),
      Rect.unitLocal (s := ⟨2, ![n, m]⟩) (off := ![r, c]) (size := ![h, w]) y hh = z := fun c hc hh => by
    funext a
    apply Fin.ext
    match a with
    | 0 => show (y 0).val - r = (z 0).val; omega
    | 1 => show (y 1).val - c = (z 1).val; omega
  unfold acc4 put
  match g, h1, hit, val with
  | 0, h1, hit, val =>
    simp only [Fin.val_zero, zero_mul, zero_add] at h1 hit val
    rw [dif_neg (miss _ (by omega)), dif_neg (miss _ (by omega)), dif_neg (miss _ (by omega)), dif_pos (hit _ rfl), val _ rfl]
  | 1, h1, hit, val =>
    simp only [Fin.val_one, one_mul] at h1 hit val
    rw [dif_neg (miss _ (by omega)), dif_neg (miss _ (by omega)), dif_pos (hit _ rfl), val _ rfl]
  | 2, h1, hit, val =>
    simp only [Fin.val_two] at h1 hit val
    rw [dif_neg (miss _ (by omega)), dif_pos (hit _ rfl), val _ rfl]
  | 3, h1, hit, val =>
    have e3 : ((3 : Fin 4).val) = 3 := rfl
    simp only [e3] at h1 hit val
    rw [dif_pos (hit _ rfl), val _ rfl]

/-! ## The blocks a step computes for one head -/

section Blocks
variable (q k : Vec F S512x256 .bf16) (d v : Vec F S512x128 .bf16) (l δ : Vec F S512x1 .f32)

/-- On the diagonal: the addends of the values', the keys' and (onto `p`) the queries' gradient. -/
def dvM : FVec F S512x128 .f32 := k0_pay16 q k d l
def dkM : FVec F S512x256 .f32 := k0_pay17 q k d v l δ
def dqM (p : Vec F S512x256 .f32) : FVec F S512x256 .f32 := k0_pay18 (k0_pay12 k) (k0_pay15 q k d v l δ) p
/-- Below the diagonal: the same, each onto what the accumulator held. -/
def dvU (p : Vec F S512x128 .f32) : FVec F S512x128 .f32 := k0_pay47 q k d l p
def dkU (p : Vec F S512x256 .f32) : FVec F S512x256 .f32 := k0_pay49 (k0_pay48 q k d v l δ p)
def dqU (p : Vec F S512x256 .f32) : FVec F S512x256 .f32 := k0_pay50 (k0_pay43 k) (k0_pay46 q k d v l δ) p

end Blocks

/-! ## The windows of head `g` -/

theorem in256 (g : Fin 4) : ∀ a, ![0, g.val * 256] a + S512x256.size a ≤ S512x1024.size a := by
  intro a; match a with
  | 0 => simp [S512x256, S512x1024]
  | 1 => have := g.isLt; simp [S512x256, S512x1024]; omega
theorem in128v (g : Fin 4) : ∀ a, ![0, g.val * 256] a + S512x128.size a ≤ S512x1024.size a := by
  intro a; match a with
  | 0 => simp [S512x128, S512x1024]
  | 1 => have := g.isLt; simp [S512x128, S512x1024]; omega
theorem in128 (g : Fin 4) : ∀ a, ![0, g.val * 128] a + S512x128.size a ≤ S512x512.size a := by
  intro a; match a with
  | 0 => simp [S512x128, S512x512]
  | 1 => have := g.isLt; simp [S512x128, S512x512]; omega
theorem in1 (g : Fin 4) : ∀ a, ![0, g.val * 128] a + S512x1.size a ≤ S512x512.size a := by
  intro a; match a with
  | 0 => simp [S512x1, S512x512]
  | 1 => have := g.isLt; simp [S512x1, S512x512]; omega
theorem inQ (r : Fin 8) (g : Fin 4) : ∀ a, ![512 * r.val, g.val * 256] a + S512x256.size a ≤ S4096x1024.size a := by
  intro a; match a with
  | 0 => have := r.isLt; simp [S512x256, S4096x1024]; omega
  | 1 => have := g.isLt; simp [S512x256, S4096x1024]; omega

/-- Head `g`'s 256 columns of a block of queries, keys or of the keys' accumulator. -/
def w256 {α : Type} (x : S512x1024.Idx → α) (g : Fin 4) : S512x256.Idx → α := window (s := S512x1024) x ![0, g.val * 256] S512x256.size (in256 g)
/-- Head `g`'s 128 columns of a block of values. -/
def w128v {α : Type} (x : S512x1024.Idx → α) (g : Fin 4) : S512x128.Idx → α := window (s := S512x1024) x ![0, g.val * 256] S512x128.size (in128v g)
/-- Head `g`'s 128 columns of a block of the results' cotangent or of the values' accumulator. -/
def w128 {α : Type} (x : S512x512.Idx → α) (g : Fin 4) : S512x128.Idx → α := window (s := S512x512) x ![0, g.val * 128] S512x128.size (in128 g)
/-- Head `g`'s first column of a block of row statistics. -/
def w1 {α : Type} (x : S512x512.Idx → α) (g : Fin 4) : S512x1.Idx → α := window (s := S512x512) x ![0, g.val * 128] S512x1.size (in1 g)
/-- Head `g`'s columns of row block `r` of the queries' accumulator. -/
def wQ {α : Type} (x : S4096x1024.Idx → α) (r : Fin 8) (g : Fin 4) : S512x256.Idx → α := window (s := S4096x1024) x ![512 * r.val, g.val * 256] S512x256.size (inQ r g)

/-! ## What a list of stores leaves -/

/-- Four stores side by side into the accumulator of the keys' gradient. -/
theorem chain1 (f : S512x1024.Idx → Elt F .f32) (i0 i1 i2 i3) (W : Fin 4 → S512x256.Idx → Elt F .f32) :
    (View.whole cc0_scratch1).read (Elt F) ((View.whole cc0_scratch1).writes (Elt F) f
        [⟨Rect.unit (s := S512x1024) ![0, 768] S512x256.size i3, W 3⟩, ⟨Rect.unit (s := S512x1024) ![0, 512] S512x256.size i2, W 2⟩,
         ⟨Rect.unit (s := S512x1024) ![0, 256] S512x256.size i1, W 1⟩, ⟨Rect.unit (s := S512x1024) ![0, 0] S512x256.size i0, W 0⟩])
      = acc4 512 256 f 0 W := by
  rw [View.read_writes_cons_put _ _ _ _ _ rfl, View.read_writes_cons_put _ _ _ _ _ rfl, View.read_writes_cons_put _ _ _ _ _ rfl, View.read_writes_cons_put _ _ _ _ _ rfl]
  rfl

/-- Four stores side by side into the accumulator of the values' gradient. -/
theorem chain2 (f : S512x512.Idx → Elt F .f32) (i0 i1 i2 i3) (W : Fin 4 → S512x128.Idx → Elt F .f32) :
    (View.whole cc0_scratch2).read (Elt F) ((View.whole cc0_scratch2).writes (Elt F) f
        [⟨Rect.unit (s := S512x512) ![0, 384] S512x128.size i3, W 3⟩, ⟨Rect.unit (s := S512x512) ![0, 256] S512x128.size i2, W 2⟩,
         ⟨Rect.unit (s := S512x512) ![0, 128] S512x128.size i1, W 1⟩, ⟨Rect.unit (s := S512x512) ![0, 0] S512x128.size i0, W 0⟩])
      = acc4 512 128 f 0 W := by
  rw [View.read_writes_cons_put _ _ _ _ _ rfl, View.read_writes_cons_put _ _ _ _ _ rfl, View.read_writes_cons_put _ _ _ _ _ rfl, View.read_writes_cons_put _ _ _ _ _ rfl]
  rfl

/-- Four read-and-add stores side by side into rows of the accumulator of the queries' gradient, after the stores `L`. -/
theorem chain0 (f : S4096x1024.Idx → Elt F .f32) (L : List (View.Piece (Elt F) S4096x1024 .f32)) (x : S4096x1024.Idx → Elt F .f32)
    (hx : (View.whole cc0_scratch0).read (Elt F) ((View.whole cc0_scratch0).writes (Elt F) f L) = x) (r : Fin 8)
    {o0 o1 o2 o3 : Fin 2 → ℕ} (i0 i1 i2 i3) (h0 : o0 = ![512 * r.val, 0]) (h1 : o1 = ![512 * r.val, 256]) (h2 : o2 = ![512 * r.val, 512]) (h3 : o3 = ![512 * r.val, 768])
    (W : Fin 4 → (S512x256.Idx → Elt F .f32) → S512x256.Idx → Elt F .f32) (L0 L1 L2 : List (View.Piece (Elt F) S4096x1024 .f32))
    (e0 : L0 = ⟨Rect.unit (s := S4096x1024) o0 S512x256.size i0, W 0 ((View.whole cc0_scratch0).readAt (Elt F) (Rect.unit (s := S4096x1024) o0 S512x256.size i0).toLoadRect ((View.whole cc0_scratch0).writes (Elt F) f L))⟩ :: L)
    (e1 : L1 = ⟨Rect.unit (s := S4096x1024) o1 S512x256.size i1, W 1 ((View.whole cc0_scratch0).readAt (Elt F) (Rect.unit (s := S4096x1024) o1 S512x256.size i1).toLoadRect ((View.whole cc0_scratch0).writes (Elt F) f L0))⟩ :: L0)
    (e2 : L2 = ⟨Rect.unit (s := S4096x1024) o2 S512x256.size i2, W 2 ((View.whole cc0_scratch0).readAt (Elt F) (Rect.unit (s := S4096x1024) o2 S512x256.size i2).toLoadRect ((View.whole cc0_scratch0).writes (Elt F) f L1))⟩ :: L1) :
    (View.whole cc0_scratch0).read (Elt F) ((View.whole cc0_scratch0).writes (Elt F) f
        (⟨Rect.unit (s := S4096x1024) o3 S512x256.size i3, W 3 ((View.whole cc0_scratch0).readAt (Elt F) (Rect.unit (s := S4096x1024) o3 S512x256.size i3).toLoadRect ((View.whole cc0_scratch0).writes (Elt F) f L2))⟩ :: L2))
      = acc4 512 256 x (512 * r.val) (fun g => W g (wQ x r g)) := by
  subst h0; subst h1; subst h2; subst h3
  have d0 : (View.whole cc0_scratch0).read (Elt F) ((View.whole cc0_scratch0).writes (Elt F) f L0) = put (s := S4096x1024) x ![512 * r.val, 0] ![512, 256] (W 0 (wQ x r 0)) := by
    rw [e0, View.read_writes_cons_put _ _ _ _ _ rfl, View.readAt_unit _ _ _ rfl i0, hx]; rfl
  have d1 : (View.whole cc0_scratch0).read (Elt F) ((View.whole cc0_scratch0).writes (Elt F) f L1)
      = put (s := S4096x1024) (put (s := S4096x1024) x ![512 * r.val, 0] ![512, 256] (W 0 (wQ x r 0))) ![512 * r.val, 256] ![512, 256] (W 1 (wQ x r 1)) := by
    rw [e1, View.read_writes_cons_put _ _ _ _ _ rfl, View.readAt_unit _ _ _ rfl i1, d0]
    rw [window_put_of_disjoint _ _ _ _ _ _ _ (1 : Fin 2) (Or.inr (by simp))]; rfl
  have d2 : (View.whole cc0_scratch0).read (Elt F) ((View.whole cc0_scratch0).writes (Elt F) f L2)
      = put (s := S4096x1024) (put (s := S4096x1024) (put (s := S4096x1024) x ![512 * r.val, 0] ![512, 256] (W 0 (wQ x r 0))) ![512 * r.val, 256] ![512, 256] (W 1 (wQ x r 1))) ![512 * r.val, 512] ![512, 256] (W 2 (wQ x r 2)) := by
    rw [e2, View.read_writes_cons_put _ _ _ _ _ rfl, View.readAt_unit _ _ _ rfl i2, d1]
    rw [window_put_of_disjoint _ _ _ _ _ _ _ (1 : Fin 2) (Or.inr (by simp)), window_put_of_disjoint _ _ _ _ _ _ _ (1 : Fin 2) (Or.inr (by simp))]; rfl
  rw [View.read_writes_cons_put _ _ _ _ _ rfl, View.readAt_unit _ _ _ rfl i3, d2]
  rw [window_put_of_disjoint _ _ _ _ _ _ _ (1 : Fin 2) (Or.inr (by simp)), window_put_of_disjoint _ _ _ _ _ _ _ (1 : Fin 2) (Or.inr (by simp)), window_put_of_disjoint _ _ _ _ _ _ _ (1 : Fin 2) (Or.inr (by simp))]
  rfl

end Cert.KernelIdeal.Flash

end
-- ==== Proof.Flash.Outs.lean ====
/- What each of the five runs of the body leaves in the accumulators and in the results' staging buffers, as blocks put into
   the accumulators before (`acc4`). -/
module

public import proofs.«01_k».proof.Proof.Flash.Pieces

@[expose] public section

noncomputable section

namespace Cert.KernelIdeal.Flash

open Cert.KernelIdeal Cert.KernelIdeal.Gen
open Idealize.ShloMosaic
open Idealize.ShloMosaic.TcCoe Idealize.ShloMosaic.Tactic
open VecWindow

variable {F : FTy → Type} [FloatOps F] [Named F]

variable (c : Dev nD) (i : grid0.Coords)
  (arg4 : Memref sig .tc .vmem S512x1024 .bf16) (harg4 : arg4.IsWhole) (arg5 : Memref sig .tc .vmem S512x1024 .bf16) (harg5 : arg5.IsWhole)
  (arg6 : Memref sig .tc .vmem S512x1024 .bf16) (harg6 : arg6.IsWhole) (arg7 : Memref sig .tc .vmem S512x512 .bf16) (harg7 : arg7.IsWhole)
  (arg8 : Memref sig .tc .vmem S512x512 .f32) (harg8 : arg8.IsWhole) (arg9 : Memref sig .tc .vmem S512x512 .f32) (harg9 : arg9.IsWhole)
  (arg10 : Memref sig .tc .vmem S4096x1024 .bf16) (harg10 : arg10.IsWhole) (arg11 : Memref sig .tc .vmem S512x1024 .bf16) (harg11 : arg11.IsWhole)
  (arg12 : Memref sig .tc .vmem S512x512 .bf16) (harg12 : arg12.IsWhole)
  (x0 : S512x1024.Idx → Elt F .bf16) (x1 : S512x1024.Idx → Elt F .bf16) (x2 : S512x1024.Idx → Elt F .bf16)
  (x3 : S512x512.Idx → Elt F .bf16) (x4 : S512x512.Idx → Elt F .f32) (x5 : S512x512.Idx → Elt F .f32)
  (a0 : S4096x1024.Idx → Elt F .f32) (a1 : S512x1024.Idx → Elt F .f32) (a2 : S512x512.Idx → Elt F .f32)

/-! ## The loads of a step, as windows of the blocks -/

/-- The loads of one head, in the order queries, keys, cotangents, values, log-sum-exps, deltas. -/
abbrev L4 (g : Fin 4) : Vec F S512x256 .bf16 := View.readAt (Elt F) arg4.view (Rect.unit (s := S512x1024) ![0, g.val * 256] S512x256.size (in256 g)).toLoadRect (arg4.view.rep x0)
abbrev L6 (g : Fin 4) : Vec F S512x128 .bf16 := View.readAt (Elt F) arg6.view (Rect.unit (s := S512x1024) ![0, g.val * 256] S512x128.size (in128v g)).toLoadRect (arg6.view.rep x2)
abbrev L7 (g : Fin 4) : Vec F S512x128 .bf16 := View.readAt (Elt F) arg7.view (Rect.unit (s := S512x512) ![0, g.val * 128] S512x128.size (in128 g)).toLoadRect (arg7.view.rep x3)
abbrev L8 (g : Fin 4) : Vec F S512x1 .f32 := View.readAt (Elt F) arg8.view (Rect.unit (s := S512x512) ![0, g.val * 128] S512x1.size (in1 g)).toLoadRect (arg8.view.rep x4)

theorem ld4 (g : Fin 4) : L4 arg4 x0 g = w256 x0 g := View.readAt_rep_unit _ _ _ rfl _
theorem ld6 (g : Fin 4) : L6 arg6 x2 g = w128v x2 g := View.readAt_rep_unit _ _ _ rfl _
theorem ld7 (g : Fin 4) : L7 arg7 x3 g = w128 x3 g := View.readAt_rep_unit _ _ _ rfl _
theorem ld8 (g : Fin 4) : L8 arg8 x4 g = w1 x4 g := View.readAt_rep_unit _ _ _ rfl _

/-- A load of a whole accumulator reads its contents. -/
theorem full0 (f : S4096x1024.Idx → Elt F .f32) (inb) :
    View.readAt (Elt F) (View.whole cc0_scratch0) (Rect.unit (s := S4096x1024) ![0, 0] S4096x1024.size inb).toLoadRect f = f := View.readAt_full _ _ _
theorem full1 (f : S512x1024.Idx → Elt F .f32) (inb) :
    View.readAt (Elt F) (View.whole cc0_scratch1) (Rect.unit (s := S512x1024) ![0, 0] S512x1024.size inb).toLoadRect f = f := View.readAt_full _ _ _
theorem full2 (f : S512x512.Idx → Elt F .f32) (inb) :
    View.readAt (Elt F) (View.whole cc0_scratch2) (Rect.unit (s := S512x512) ![0, 0] S512x512.size inb).toLoadRect f = f := View.readAt_full _ _ _

theorem rows_all : ∀ r : Fin 8, (Scalar.indexCast (Scalar.muli (BitVec.ofNat 32 r.val) 512#32)).toNat = 512 * r.val := by decide +kernel

/-- The rows of the queries' accumulator a step reads and writes start at 512 times its row block. -/
theorem rows_at : (Scalar.indexCast (Scalar.muli (word0 (F := F) i) 512#32)).toNat = 512 * (rowB (i 1)).val := by
  rw [word0_eq]; exact rows_all _

/-! ## The first step of a head group. -/

section RunA
variable (hw : k0_chk1 (word0 (F := F) i) (word1 (F := F) i)) (h1 : cond1 i = 1#1) (h2 : k0_cond2 (word0 (F := F) i) (word1 (F := F) i) = 1#1) (h3 : ¬(k0_cond3 (word0 (F := F) i) (word1 (F := F) i) = 1#1)) (h4 : ¬(k0_cond4 (word0 (F := F) i) = 1#1)) (h5 : ¬(k0_cond5 i = 1#1))

theorem runA_2 : ∃ a2 : S512x512.Idx → Elt F .f32, (runA (F := F) c i arg4 harg4 arg5 harg5 arg6 harg6 arg7 harg7 arg8 harg8 arg9 harg9 arg10 harg10 arg11 harg11 arg12 harg12 x0 x1 x2 x3 x4 x5 hw h1 h2 h3 h4 h5).2.2.1 = acc4 512 128 a2 0 (fun g => dvM (w256 x0 g) (w256 x1 g) (w128 x3 g) (w1 x4 g)) := by
  delta runA
  dsimp only
  apply Exists.intro
  refine (chain2 _ _ _ _ _ (fun g => dvM (L4 arg4 x0 g) (L4 arg5 x1 g) (L7 arg7 x3 g) (L8 arg8 x4 g))).trans ?_
  refine congrArg (acc4 _ _ _ _) (funext fun g => ?_)
  rw [ld4 arg4, ld4 arg5, ld7 arg7, ld8 arg8]

theorem runA_1 : ∃ a1 : S512x1024.Idx → Elt F .f32, (runA (F := F) c i arg4 harg4 arg5 harg5 arg6 harg6 arg7 harg7 arg8 harg8 arg9 harg9 arg10 harg10 arg11 harg11 arg12 harg12 x0 x1 x2 x3 x4 x5 hw h1 h2 h3 h4 h5).2.1 = acc4 512 256 a1 0 (fun g => dkM (w256 x0 g) (w256 x1 g) (w128 x3 g) (w128v x2 g) (w1 x4 g) (w1 x5 g)) := by
  delta runA
  dsimp only
  apply Exists.intro
  refine (chain1 _ _ _ _ _ (fun g => dkM (L4 arg4 x0 g) (L4 arg5 x1 g) (L7 arg7 x3 g) (L6 arg6 x2 g) (L8 arg8 x4 g) (L8 arg9 x5 g))).trans ?_
  refine congrArg (acc4 _ _ _ _) (funext fun g => ?_)
  rw [ld4 arg4, ld4 arg5, ld6 arg6, ld7 arg7, ld8 arg8, ld8 arg9]

set_option maxHeartbeats 1000000 in
theorem runA_0 : (runA (F := F) c i arg4 harg4 arg5 harg5 arg6 harg6 arg7 harg7 arg8 harg8 arg9 harg9 arg10 harg10 arg11 harg11 arg12 harg12 x0 x1 x2 x3 x4 x5 hw h1 h2 h3 h4 h5).1 = acc4 512 256 (fun _ => (Scalar.ofBits .f32 0x00000000#32 : F .f32)) (512 * (rowB (i 1)).val) (fun g => dqM (w256 x0 g) (w256 x1 g) (w128 x3 g) (w128v x2 g) (w1 x4 g) (w1 x5 g) (wQ (fun _ => (Scalar.ofBits .f32 0x00000000#32 : F .f32)) (rowB (i 1)) g)) := by
  have e := rows_at (F := F) i
  delta runA
  dsimp only
  refine (chain0 (x := (fun _ => (Scalar.ofBits .f32 0x00000000#32 : F .f32))) _ _ (View.read_writes_full _ _ _ _ _) (rowB (i 1)) _ _ _ _ (congrArg (fun n => ![n, 0]) e) (congrArg (fun n => ![n, 256]) e) (congrArg (fun n => ![n, 512]) e) (congrArg (fun n => ![n, 768]) e)
    (fun g p => dqM (L4 arg4 x0 g) (L4 arg5 x1 g) (L7 arg7 x3 g) (L6 arg6 x2 g) (L8 arg8 x4 g) (L8 arg9 x5 g) p) _ _ _ rfl rfl rfl).trans ?_
  refine congrArg (acc4 _ _ _ _) (funext fun g => ?_)
  rw [ld4 arg4, ld4 arg5, ld6 arg6, ld7 arg7, ld8 arg8, ld8 arg9]

end RunA

/-! ## A step below the diagonal that is not its column block's last. -/

section RunB
variable (hw : k0_chk1 (word0 (F := F) i) (word1 (F := F) i)) (h1 : ¬(cond1 i = 1#1)) (h2 : ¬(k0_cond2 (word0 (F := F) i) (word1 (F := F) i) = 1#1)) (h3 : k0_cond3 (word0 (F := F) i) (word1 (F := F) i) = 1#1) (h4 : ¬(k0_cond4 (word0 (F := F) i) = 1#1)) (h5 : ¬(k0_cond5 i = 1#1))

theorem runB_2 : ∃ a : S512x512.Idx → Elt F .f32, (runB (F := F) c i arg4 harg4 arg5 harg5 arg6 harg6 arg7 harg7 arg8 harg8 arg9 harg9 arg10 harg10 arg11 harg11 arg12 harg12 x0 x1 x2 x3 x4 x5 a0 a1 a2 hw h1 h2 h3 h4 h5).2.2.1 = acc4 512 128 a 0 (fun g => dvU (w256 x0 g) (w256 x1 g) (w128 x3 g) (w1 x4 g) (w128 a2 g)) := by
  delta runB
  dsimp only
  apply Exists.intro
  refine (chain2 _ _ _ _ _ (fun g => dvU (L4 arg4 x0 g) (L4 arg5 x1 g) (L7 arg7 x3 g) (L8 arg8 x4 g) (View.readAt (Elt F) (View.whole cc0_scratch2) (Rect.unit (s := S512x512) ![0, g.val * 128] S512x128.size (in128 g)).toLoadRect a2))).trans ?_
  refine congrArg (acc4 _ _ _ _) (funext fun g => ?_)
  rw [ld4 arg4, ld4 arg5, ld7 arg7, ld8 arg8]
  rfl

theorem runB_1 : ∃ a : S512x1024.Idx → Elt F .f32, (runB (F := F) c i arg4 harg4 arg5 harg5 arg6 harg6 arg7 harg7 arg8 harg8 arg9 harg9 arg10 harg10 arg11 harg11 arg12 harg12 x0 x1 x2 x3 x4 x5 a0 a1 a2 hw h1 h2 h3 h4 h5).2.1 = acc4 512 256 a 0 (fun g => dkU (w256 x0 g) (w256 x1 g) (w128 x3 g) (w128v x2 g) (w1 x4 g) (w1 x5 g) (w256 a1 g)) := by
  delta runB
  dsimp only
  apply Exists.intro
  refine (chain1 _ _ _ _ _ (fun g => dkU (L4 arg4 x0 g) (L4 arg5 x1 g) (L7 arg7 x3 g) (L6 arg6 x2 g) (L8 arg8 x4 g) (L8 arg9 x5 g) (View.readAt (Elt F) (View.whole cc0_scratch1) (Rect.unit (s := S512x1024) ![0, g.val * 256] S512x256.size (in256 g)).toLoadRect a1))).trans ?_
  refine congrArg (acc4 _ _ _ _) (funext fun g => ?_)
  rw [ld4 arg4, ld4 arg5, ld6 arg6, ld7 arg7, ld8 arg8, ld8 arg9]
  rfl

set_option maxHeartbeats 1000000 in
theorem runB_0 : (runB (F := F) c i arg4 harg4 arg5 harg5 arg6 harg6 arg7 harg7 arg8 harg8 arg9 harg9 arg10 harg10 arg11 harg11 arg12 harg12 x0 x1 x2 x3 x4 x5 a0 a1 a2 hw h1 h2 h3 h4 h5).1 = acc4 512 256 a0 (512 * (rowB (i 1)).val) (fun g => dqU (w256 x0 g) (w256 x1 g) (w128 x3 g) (w128v x2 g) (w1 x4 g) (w1 x5 g) (wQ a0 (rowB (i 1)) g)) := by
  have e := rows_at (F := F) i
  delta runB
  dsimp only
  refine (chain0 (x := a0) _ _ rfl (rowB (i 1)) _ _ _ _ (congrArg (fun n => ![n, 0]) e) (congrArg (fun n => ![n, 256]) e) (congrArg (fun n => ![n, 512]) e) (congrArg (fun n => ![n, 768]) e)
    (fun g p => dqU (L4 arg4 x0 g) (L4 arg5 x1 g) (L7 arg7 x3 g) (L6 arg6 x2 g) (L8 arg8 x4 g) (L8 arg9 x5 g) p) _ _ _ rfl rfl rfl).trans ?_
  refine congrArg (acc4 _ _ _ _) (funext fun g => ?_)
  rw [ld4 arg4, ld4 arg5, ld6 arg6, ld7 arg7, ld8 arg8, ld8 arg9]

end RunB

/-! ## A step below the diagonal, its column block's last. -/

section RunC
variable (hw : k0_chk1 (word0 (F := F) i) (word1 (F := F) i)) (h1 : ¬(cond1 i = 1#1)) (h2 : ¬(k0_cond2 (word0 (F := F) i) (word1 (F := F) i) = 1#1)) (h3 : k0_cond3 (word0 (F := F) i) (word1 (F := F) i) = 1#1) (h4 : k0_cond4 (word0 (F := F) i) = 1#1) (h5 : ¬(k0_cond5 i = 1#1))

theorem runC_2 : ∃ a : S512x512.Idx → Elt F .f32, (runC (F := F) c i arg4 harg4 arg5 harg5 arg6 harg6 arg7 harg7 arg8 harg8 arg9 harg9 arg10 harg10 arg11 harg11 arg12 harg12 x0 x1 x2 x3 x4 x5 a0 a1 a2 hw h1 h2 h3 h4 h5).2.2.2.2.1 = acc4 512 128 a 0 (fun g => dvU (w256 x0 g) (w256 x1 g) (w128 x3 g) (w1 x4 g) (w128 a2 g)) := by
  delta runC
  dsimp only
  apply Exists.intro
  refine (chain2 _ _ _ _ _ (fun g => dvU (L4 arg4 x0 g) (L4 arg5 x1 g) (L7 arg7 x3 g) (L8 arg8 x4 g) (View.readAt (Elt F) (View.whole cc0_scratch2) (Rect.unit (s := S512x512) ![0, g.val * 128] S512x128.size (in128 g)).toLoadRect a2))).trans ?_
  refine congrArg (acc4 _ _ _ _) (funext fun g => ?_)
  rw [ld4 arg4, ld4 arg5, ld7 arg7, ld8 arg8]
  rfl

theorem runC_1 : ∃ a : S512x1024.Idx → Elt F .f32, (runC (F := F) c i arg4 harg4 arg5 harg5 arg6 harg6 arg7 harg7 arg8 harg8 arg9 harg9 arg10 harg10 arg11 harg11 arg12 harg12 x0 x1 x2 x3 x4 x5 a0 a1 a2 hw h1 h2 h3 h4 h5).2.2.2.1 = acc4 512 256 a 0 (fun g => dkU (w256 x0 g) (w256 x1 g) (w128 x3 g) (w128v x2 g) (w1 x4 g) (w1 x5 g) (w256 a1 g)) := by
  delta runC
  dsimp only
  apply Exists.intro
  refine (chain1 _ _ _ _ _ (fun g => dkU (L4 arg4 x0 g) (L4 arg5 x1 g) (L7 arg7 x3 g) (L6 arg6 x2 g) (L8 arg8 x4 g) (L8 arg9 x5 g) (View.readAt (Elt F) (View.whole cc0_scratch1) (Rect.unit (s := S512x1024) ![0, g.val * 256] S512x256.size (in256 g)).toLoadRect a1))).trans ?_
  refine congrArg (acc4 _ _ _ _) (funext fun g => ?_)
  rw [ld4 arg4, ld4 arg5, ld6 arg6, ld7 arg7, ld8 arg8, ld8 arg9]
  rfl

set_option maxHeartbeats 1000000 in
theorem runC_0 : (runC (F := F) c i arg4 harg4 arg5 harg5 arg6 harg6 arg7 harg7 arg8 harg8 arg9 harg9 arg10 harg10 arg11 harg11 arg12 harg12 x0 x1 x2 x3 x4 x5 a0 a1 a2 hw h1 h2 h3 h4 h5).2.2.1 = acc4 512 256 a0 (512 * (rowB (i 1)).val) (fun g => dqU (w256 x0 g) (w256 x1 g) (w128 x3 g) (w128v x2 g) (w1 x4 g) (w1 x5 g) (wQ a0 (rowB (i 1)) g)) := by
  have e := rows_at (F := F) i
  delta runC
  dsimp only
  refine (chain0 (x := a0) _ _ rfl (rowB (i 1)) _ _ _ _ (congrArg (fun n => ![n, 0]) e) (congrArg (fun n => ![n, 256]) e) (congrArg (fun n => ![n, 512]) e) (congrArg (fun n => ![n, 768]) e)
    (fun g p => dqU (L4 arg4 x0 g) (L4 arg5 x1 g) (L7 arg7 x3 g) (L6 arg6 x2 g) (L8 arg8 x4 g) (L8 arg9 x5 g) p) _ _ _ rfl rfl rfl).trans ?_
  refine congrArg (acc4 _ _ _ _) (funext fun g => ?_)
  rw [ld4 arg4, ld4 arg5, ld6 arg6, ld7 arg7, ld8 arg8, ld8 arg9]

theorem runC_11 : (runC (F := F) c i arg4 harg4 arg5 harg5 arg6 harg6 arg7 harg7 arg8 harg8 arg9 harg9 arg10 harg10 arg11 harg11 arg12 harg12 x0 x1 x2 x3 x4 x5 a0 a1 a2 hw h1 h2 h3 h4 h5).1 = k0_pay8 (runC (F := F) c i arg4 harg4 arg5 harg5 arg6 harg6 arg7 harg7 arg8 harg8 arg9 harg9 arg10 harg10 arg11 harg11 arg12 harg12 x0 x1 x2 x3 x4 x5 a0 a1 a2 hw h1 h2 h3 h4 h5).2.2.2.1 := by
  delta runC
  dsimp only
  refine congrArg k0_pay8 ?_
  delta runC.sl.v19_1
  exact full1 _ _

theorem runC_12 : (runC (F := F) c i arg4 harg4 arg5 harg5 arg6 harg6 arg7 harg7 arg8 harg8 arg9 harg9 arg10 harg10 arg11 harg11 arg12 harg12 x0 x1 x2 x3 x4 x5 a0 a1 a2 hw h1 h2 h3 h4 h5).2.1 = k0_pay9 (runC (F := F) c i arg4 harg4 arg5 harg5 arg6 harg6 arg7 harg7 arg8 harg8 arg9 harg9 arg10 harg10 arg11 harg11 arg12 harg12 x0 x1 x2 x3 x4 x5 a0 a1 a2 hw h1 h2 h3 h4 h5).2.2.2.2.1 := by
  delta runC
  dsimp only
  refine congrArg k0_pay9 ?_
  delta runC.sl.v24_1
  exact full2 _ _

end RunC

/-! ## A step on the diagonal, neither first nor last. -/

section RunD
variable (hw : k0_chk1 (word0 (F := F) i) (word1 (F := F) i)) (h1 : ¬(cond1 i = 1#1)) (h2 : k0_cond2 (word0 (F := F) i) (word1 (F := F) i) = 1#1) (h3 : ¬(k0_cond3 (word0 (F := F) i) (word1 (F := F) i) = 1#1)) (h4 : ¬(k0_cond4 (word0 (F := F) i) = 1#1)) (h5 : ¬(k0_cond5 i = 1#1))

theorem runD_2 : ∃ a : S512x512.Idx → Elt F .f32, (runD (F := F) c i arg4 harg4 arg5 harg5 arg6 harg6 arg7 harg7 arg8 harg8 arg9 harg9 arg10 harg10 arg11 harg11 arg12 harg12 x0 x1 x2 x3 x4 x5 a0 a1 a2 hw h1 h2 h3 h4 h5).2.2.1 = acc4 512 128 a 0 (fun g => dvM (w256 x0 g) (w256 x1 g) (w128 x3 g) (w1 x4 g)) := by
  delta runD
  dsimp only
  apply Exists.intro
  refine (chain2 _ _ _ _ _ (fun g => dvM (L4 arg4 x0 g) (L4 arg5 x1 g) (L7 arg7 x3 g) (L8 arg8 x4 g))).trans ?_
  refine congrArg (acc4 _ _ _ _) (funext fun g => ?_)
  rw [ld4 arg4, ld4 arg5, ld7 arg7, ld8 arg8]

theorem runD_1 : ∃ a : S512x1024.Idx → Elt F .f32, (runD (F := F) c i arg4 harg4 arg5 harg5 arg6 harg6 arg7 harg7 arg8 harg8 arg9 harg9 arg10 harg10 arg11 harg11 arg12 harg12 x0 x1 x2 x3 x4 x5 a0 a1 a2 hw h1 h2 h3 h4 h5).2.1 = acc4 512 256 a 0 (fun g => dkM (w256 x0 g) (w256 x1 g) (w128 x3 g) (w128v x2 g) (w1 x4 g) (w1 x5 g)) := by
  delta runD
  dsimp only
  apply Exists.intro
  refine (chain1 _ _ _ _ _ (fun g => dkM (L4 arg4 x0 g) (L4 arg5 x1 g) (L7 arg7 x3 g) (L6 arg6 x2 g) (L8 arg8 x4 g) (L8 arg9 x5 g))).trans ?_
  refine congrArg (acc4 _ _ _ _) (funext fun g => ?_)
  rw [ld4 arg4, ld4 arg5, ld6 arg6, ld7 arg7, ld8 arg8, ld8 arg9]

set_option maxHeartbeats 1000000 in
theorem runD_0 : (runD (F := F) c i arg4 harg4 arg5 harg5 arg6 harg6 arg7 harg7 arg8 harg8 arg9 harg9 arg10 harg10 arg11 harg11 arg12 harg12 x0 x1 x2 x3 x4 x5 a0 a1 a2 hw h1 h2 h3 h4 h5).1 = acc4 512 256 a0 (512 * (rowB (i 1)).val) (fun g => dqM (w256 x0 g) (w256 x1 g) (w128 x3 g) (w128v x2 g) (w1 x4 g) (w1 x5 g) (wQ a0 (rowB (i 1)) g)) := by
  have e := rows_at (F := F) i
  delta runD
  dsimp only
  refine (chain0 (x := a0) _ _ rfl (rowB (i 1)) _ _ _ _ (congrArg (fun n => ![n, 0]) e) (congrArg (fun n => ![n, 256]) e) (congrArg (fun n => ![n, 512]) e) (congrArg (fun n => ![n, 768]) e)
    (fun g p => dqM (L4 arg4 x0 g) (L4 arg5 x1 g) (L7 arg7 x3 g) (L6 arg6 x2 g) (L8 arg8 x4 g) (L8 arg9 x5 g) p) _ _ _ rfl rfl rfl).trans ?_
  refine congrArg (acc4 _ _ _ _) (funext fun g => ?_)
  rw [ld4 arg4, ld4 arg5, ld6 arg6, ld7 arg7, ld8 arg8, ld8 arg9]

end RunD

/-! ## The last step of a head group. -/

section RunE
variable (hw : k0_chk1 (word0 (F := F) i) (word1 (F := F) i)) (h1 : ¬(cond1 i = 1#1)) (h2 : k0_cond2 (word0 (F := F) i) (word1 (F := F) i) = 1#1) (h3 : ¬(k0_cond3 (word0 (F := F) i) (word1 (F := F) i) = 1#1)) (h4 : k0_cond4 (word0 (F := F) i) = 1#1) (h5 : k0_cond5 i = 1#1)

theorem runE_2 : ∃ a : S512x512.Idx → Elt F .f32, (runE (F := F) c i arg4 harg4 arg5 harg5 arg6 harg6 arg7 harg7 arg8 harg8 arg9 harg9 arg10 harg10 arg11 harg11 arg12 harg12 x0 x1 x2 x3 x4 x5 a0 a1 a2 hw h1 h2 h3 h4 h5).2.2.2.2.2.1 = acc4 512 128 a 0 (fun g => dvM (w256 x0 g) (w256 x1 g) (w128 x3 g) (w1 x4 g)) := by
  delta runE
  dsimp only
  apply Exists.intro
  refine (chain2 _ _ _ _ _ (fun g => dvM (L4 arg4 x0 g) (L4 arg5 x1 g) (L7 arg7 x3 g) (L8 arg8 x4 g))).trans ?_
  refine congrArg (acc4 _ _ _ _) (funext fun g => ?_)
  rw [ld4 arg4, ld4 arg5, ld7 arg7, ld8 arg8]

theorem runE_1 : ∃ a : S512x1024.Idx → Elt F .f32, (runE (F := F) c i arg4 harg4 arg5 harg5 arg6 harg6 arg7 harg7 arg8 harg8 arg9 harg9 arg10 harg10 arg11 harg11 arg12 harg12 x0 x1 x2 x3 x4 x5 a0 a1 a2 hw h1 h2 h3 h4 h5).2.2.2.2.1 = acc4 512 256 a 0 (fun g => dkM (w256 x0 g) (w256 x1 g) (w128 x3 g) (w128v x2 g) (w1 x4 g) (w1 x5 g)) := by
  delta runE
  dsimp only
  apply Exists.intro
  refine (chain1 _ _ _ _ _ (fun g => dkM (L4 arg4 x0 g) (L4 arg5 x1 g) (L7 arg7 x3 g) (L6 arg6 x2 g) (L8 arg8 x4 g) (L8 arg9 x5 g))).trans ?_
  refine congrArg (acc4 _ _ _ _) (funext fun g => ?_)
  rw [ld4 arg4, ld4 arg5, ld6 arg6, ld7 arg7, ld8 arg8, ld8 arg9]

set_option maxHeartbeats 1000000 in
theorem runE_0 : (runE (F := F) c i arg4 harg4 arg5 harg5 arg6 harg6 arg7 harg7 arg8 harg8 arg9 harg9 arg10 harg10 arg11 harg11 arg12 harg12 x0 x1 x2 x3 x4 x5 a0 a1 a2 hw h1 h2 h3 h4 h5).2.2.2.1 = acc4 512 256 a0 (512 * (rowB (i 1)).val) (fun g => dqM (w256 x0 g) (w256 x1 g) (w128 x3 g) (w128v x2 g) (w1 x4 g) (w1 x5 g) (wQ a0 (rowB (i 1)) g)) := by
  have e := rows_at (F := F) i
  delta runE
  dsimp only
  refine (chain0 (x := a0) _ _ rfl (rowB (i 1)) _ _ _ _ (congrArg (fun n => ![n, 0]) e) (congrArg (fun n => ![n, 256]) e) (congrArg (fun n => ![n, 512]) e) (congrArg (fun n => ![n, 768]) e)
    (fun g p => dqM (L4 arg4 x0 g) (L4 arg5 x1 g) (L7 arg7 x3 g) (L6 arg6 x2 g) (L8 arg8 x4 g) (L8 arg9 x5 g) p) _ _ _ rfl rfl rfl).trans ?_
  refine congrArg (acc4 _ _ _ _) (funext fun g => ?_)
  rw [ld4 arg4, ld4 arg5, ld6 arg6, ld7 arg7, ld8 arg8, ld8 arg9]

theorem runE_10 : (runE (F := F) c i arg4 harg4 arg5 harg5 arg6 harg6 arg7 harg7 arg8 harg8 arg9 harg9 arg10 harg10 arg11 harg11 arg12 harg12 x0 x1 x2 x3 x4 x5 a0 a1 a2 hw h1 h2 h3 h4 h5).1 = k0_pay10 (runE (F := F) c i arg4 harg4 arg5 harg5 arg6 harg6 arg7 harg7 arg8 harg8 arg9 harg9 arg10 harg10 arg11 harg11 arg12 harg12 x0 x1 x2 x3 x4 x5 a0 a1 a2 hw h1 h2 h3 h4 h5).2.2.2.1 := by
  delta runE
  dsimp only
  refine congrArg k0_pay10 ?_
  exact full0 _ _

theorem runE_11 : (runE (F := F) c i arg4 harg4 arg5 harg5 arg6 harg6 arg7 harg7 arg8 harg8 arg9 harg9 arg10 harg10 arg11 harg11 arg12 harg12 x0 x1 x2 x3 x4 x5 a0 a1 a2 hw h1 h2 h3 h4 h5).2.1 = k0_pay8 (runE (F := F) c i arg4 harg4 arg5 harg5 arg6 harg6 arg7 harg7 arg8 harg8 arg9 harg9 arg10 harg10 arg11 harg11 arg12 harg12 x0 x1 x2 x3 x4 x5 a0 a1 a2 hw h1 h2 h3 h4 h5).2.2.2.2.1 := by
  delta runE
  dsimp only
  refine congrArg k0_pay8 ?_
  delta runE.sl.v19_1
  exact full1 _ _

theorem runE_12 : (runE (F := F) c i arg4 harg4 arg5 harg5 arg6 harg6 arg7 harg7 arg8 harg8 arg9 harg9 arg10 harg10 arg11 harg11 arg12 harg12 x0 x1 x2 x3 x4 x5 a0 a1 a2 hw h1 h2 h3 h4 h5).2.2.1 = k0_pay9 (runE (F := F) c i arg4 harg4 arg5 harg5 arg6 harg6 arg7 harg7 arg8 harg8 arg9 harg9 arg10 harg10 arg11 harg11 arg12 harg12 x0 x1 x2 x3 x4 x5 a0 a1 a2 hw h1 h2 h3 h4 h5).2.2.2.2.2.1 := by
  delta runE
  dsimp only
  refine congrArg k0_pay9 ?_
  delta runE.sl.v24
  exact full2 _ _

end RunE

end Cert.KernelIdeal.Flash

end
-- ==== Proof.Flash.Leaves.lean ====
/- What a grid point leaves in the accumulators and in the results' staging buffers, whichever path it takes: in a diagonal
   block the accumulators of the keys' and the values' gradient begin anew, elsewhere they are added to. -/
module

public import proofs.«01_k».proof.Proof.Flash.Outs

@[expose] public section

set_option maxRecDepth 16384

noncomputable section

namespace Cert.KernelIdeal.Flash

open Cert.KernelIdeal Cert.KernelIdeal.Gen
open Idealize.ShloMosaic
open Idealize.ShloMosaic.TcCoe Idealize.ShloMosaic.Tactic

variable {F : FTy → Type} [FloatOps F] [Named F]
variable (V : (c : Dev nD) → (b : Ref sig .tc) → Buf (Elt F) ((c : Thread nD τ).loc b)) (c : Dev nD) (t : Fin (cfgA F).N) (a : Acc F)

/-- Head `g`'s addends at a point: in a diagonal block what is stored, elsewhere what is added onto `p`. -/
def dvB (g : Fin 4) : S512x128.Idx → Elt F .f32 :=
  if rowB (stp t) = colB (stp t) then dvM (w256 (b0 V c t) g) (w256 (b1 V c t) g) (w128 (b3 V c t) g) (w1 (b4 V c t) g)
  else dvU (w256 (b0 V c t) g) (w256 (b1 V c t) g) (w128 (b3 V c t) g) (w1 (b4 V c t) g) (w128 a.2.2 g)
def dkB (g : Fin 4) : S512x256.Idx → Elt F .f32 :=
  if rowB (stp t) = colB (stp t) then dkM (w256 (b0 V c t) g) (w256 (b1 V c t) g) (w128 (b3 V c t) g) (w128v (b2 V c t) g) (w1 (b4 V c t) g) (w1 (b5 V c t) g)
  else dkU (w256 (b0 V c t) g) (w256 (b1 V c t) g) (w128 (b3 V c t) g) (w128v (b2 V c t) g) (w1 (b4 V c t) g) (w1 (b5 V c t) g) (w256 a.2.1 g)
def dqB (X : S4096x1024.Idx → Elt F .f32) (g : Fin 4) : S512x256.Idx → Elt F .f32 :=
  if rowB (stp t) = colB (stp t) then dqM (w256 (b0 V c t) g) (w256 (b1 V c t) g) (w128 (b3 V c t) g) (w128v (b2 V c t) g) (w1 (b4 V c t) g) (w1 (b5 V c t) g) (wQ X (rowB (stp t)) g)
  else dqU (w256 (b0 V c t) g) (w256 (b1 V c t) g) (w128 (b3 V c t) g) (w128v (b2 V c t) g) (w1 (b4 V c t) g) (w1 (b5 V c t) g) (wQ X (rowB (stp t)) g)

/-- The queries' accumulator as the point finds it: zeros at the first point of a group of heads. -/
def start0 : S4096x1024.Idx → Elt F .f32 := if (stp t).val = 0 then (fun _ => (Scalar.ofBits .f32 0x00000000#32 : F .f32)) else a.1

/-- What the accumulators and the staging buffers hold after a point that found the accumulators at `a` and left `s`. -/
structure Leaves (s : Acc F × Outs F) : Prop where
  dq : s.1.1 = acc4 512 256 (start0 t a) (512 * (rowB (stp t)).val) (fun g => dqB V c t (start0 t a) g)
  dk : ∃ y : S512x1024.Idx → Elt F .f32, s.1.2.1 = acc4 512 256 y 0 (fun g => dkB V c t a g)
  dv : ∃ y : S512x512.Idx → Elt F .f32, s.1.2.2 = acc4 512 128 y 0 (fun g => dvB V c t a g)
  out6 : (stp t).val = 35 → s.2.1 = k0_pay10 s.1.1
  out7 : rowB (stp t) = 7 → s.2.2.1 = k0_pay8 s.1.2.1
  out8 : rowB (stp t) = 7 → s.2.2.2 = k0_pay9 s.1.2.2

attribute [local irreducible] runA runB runC runD runE

theorem leaves_A (h : (stp t).val = 0) : Leaves V c t a (step V c t a) := by
  rw [step_A V c t a h]
  have e0 : start0 t a = (fun _ => (Scalar.ofBits .f32 0x00000000#32 : F .f32)) := if_pos h
  refine ⟨?_, ?_, ?_, fun e => absurd (e.symm.trans h) (by decide), fun e => absurd e ((schedule _).1 h).2, fun e => absurd e ((schedule _).1 h).2⟩
  · rw [e0]
    refine (runA_0 c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)
        (b0 V c t) (b1 V c t) (b2 V c t) (b3 V c t) (b4 V c t) (b5 V c t)
        (hw_at _) (c1_pos _ h) (c2_pos _ ((schedule _).1 h).1) (c3_neg _ ((schedule _).1 h).1) (c4_neg _ ((schedule _).1 h).2) (c5_neg _ (by rw [h]; decide))).trans ?_
    exact congrArg (acc4 _ _ _ _) (funext fun g => (if_pos ((schedule _).1 h).1 : dqB V c t _ g = _).symm)
  · obtain ⟨y, hy⟩ := runA_1 c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)
        (b0 V c t) (b1 V c t) (b2 V c t) (b3 V c t) (b4 V c t) (b5 V c t)
        (hw_at _) (c1_pos _ h) (c2_pos _ ((schedule _).1 h).1) (c3_neg _ ((schedule _).1 h).1) (c4_neg _ ((schedule _).1 h).2) (c5_neg _ (by rw [h]; decide))
    exact ⟨y, hy.trans (congrArg (acc4 _ _ _ _) (funext fun g => (if_pos ((schedule _).1 h).1 : dkB V c t a g = _).symm))⟩
  · obtain ⟨y, hy⟩ := runA_2 c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)
        (b0 V c t) (b1 V c t) (b2 V c t) (b3 V c t) (b4 V c t) (b5 V c t)
        (hw_at _) (c1_pos _ h) (c2_pos _ ((schedule _).1 h).1) (c3_neg _ ((schedule _).1 h).1) (c4_neg _ ((schedule _).1 h).2) (c5_neg _ (by rw [h]; decide))
    exact ⟨y, hy.trans (congrArg (acc4 _ _ _ _) (funext fun g => (if_pos ((schedule _).1 h).1 : dvB V c t a g = _).symm))⟩

theorem leaves_B (h : ¬(stp t).val = 0) (hd : ¬rowB (stp t) = colB (stp t)) (h7 : ¬rowB (stp t) = 7) : Leaves V c t a (step V c t a) := by
  rw [step_B V c t a h hd h7]
  have e0 : start0 t a = a.1 := if_neg h
  refine ⟨?_, ?_, ?_, fun e => absurd ((schedule _).2.1 e).2 h7, fun e => absurd e h7, fun e => absurd e h7⟩
  · rw [e0]
    refine (runB_0 c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)
        (b0 V c t) (b1 V c t) (b2 V c t) (b3 V c t) (b4 V c t) (b5 V c t)
        a.1 a.2.1 a.2.2 (hw_at _) (c1_neg _ h) (c2_neg _ hd) (c3_pos _ hd) (c4_neg _ h7) (c5_neg _ fun e => h7 ((schedule _).2.1 e).2)).trans ?_
    exact congrArg (acc4 _ _ _ _) (funext fun g => (if_neg hd : dqB V c t _ g = _).symm)
  · obtain ⟨y, hy⟩ := runB_1 c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)
        (b0 V c t) (b1 V c t) (b2 V c t) (b3 V c t) (b4 V c t) (b5 V c t)
        a.1 a.2.1 a.2.2 (hw_at _) (c1_neg _ h) (c2_neg _ hd) (c3_pos _ hd) (c4_neg _ h7) (c5_neg _ fun e => h7 ((schedule _).2.1 e).2)
    exact ⟨y, hy.trans (congrArg (acc4 _ _ _ _) (funext fun g => (if_neg hd : dkB V c t a g = _).symm))⟩
  · obtain ⟨y, hy⟩ := runB_2 c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)
        (b0 V c t) (b1 V c t) (b2 V c t) (b3 V c t) (b4 V c t) (b5 V c t)
        a.1 a.2.1 a.2.2 (hw_at _) (c1_neg _ h) (c2_neg _ hd) (c3_pos _ hd) (c4_neg _ h7) (c5_neg _ fun e => h7 ((schedule _).2.1 e).2)
    exact ⟨y, hy.trans (congrArg (acc4 _ _ _ _) (funext fun g => (if_neg hd : dvB V c t a g = _).symm))⟩

theorem leaves_C (h : ¬(stp t).val = 0) (hd : ¬rowB (stp t) = colB (stp t)) (h7 : rowB (stp t) = 7) : Leaves V c t a (step V c t a) := by
  rw [step_C V c t a h hd h7]
  have e0 : start0 t a = a.1 := if_neg h
  refine ⟨?_, ?_, ?_, fun e => absurd ((schedule _).2.1 e).1 hd, fun _ => runC_11 c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)
        (b0 V c t) (b1 V c t) (b2 V c t) (b3 V c t) (b4 V c t) (b5 V c t)
        a.1 a.2.1 a.2.2 (hw_at _) (c1_neg _ h) (c2_neg _ hd) (c3_pos _ hd) (c4_pos _ h7) (c5_neg _ fun e => hd ((schedule _).2.1 e).1), fun _ => runC_12 c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)
        (b0 V c t) (b1 V c t) (b2 V c t) (b3 V c t) (b4 V c t) (b5 V c t)
        a.1 a.2.1 a.2.2 (hw_at _) (c1_neg _ h) (c2_neg _ hd) (c3_pos _ hd) (c4_pos _ h7) (c5_neg _ fun e => hd ((schedule _).2.1 e).1)⟩
  · rw [e0]
    refine (runC_0 c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)
        (b0 V c t) (b1 V c t) (b2 V c t) (b3 V c t) (b4 V c t) (b5 V c t)
        a.1 a.2.1 a.2.2 (hw_at _) (c1_neg _ h) (c2_neg _ hd) (c3_pos _ hd) (c4_pos _ h7) (c5_neg _ fun e => hd ((schedule _).2.1 e).1)).trans ?_
    exact congrArg (acc4 _ _ _ _) (funext fun g => (if_neg hd : dqB V c t _ g = _).symm)
  · obtain ⟨y, hy⟩ := runC_1 c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)
        (b0 V c t) (b1 V c t) (b2 V c t) (b3 V c t) (b4 V c t) (b5 V c t)
        a.1 a.2.1 a.2.2 (hw_at _) (c1_neg _ h) (c2_neg _ hd) (c3_pos _ hd) (c4_pos _ h7) (c5_neg _ fun e => hd ((schedule _).2.1 e).1)
    exact ⟨y, hy.trans (congrArg (acc4 _ _ _ _) (funext fun g => (if_neg hd : dkB V c t a g = _).symm))⟩
  · obtain ⟨y, hy⟩ := runC_2 c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)
        (b0 V c t) (b1 V c t) (b2 V c t) (b3 V c t) (b4 V c t) (b5 V c t)
        a.1 a.2.1 a.2.2 (hw_at _) (c1_neg _ h) (c2_neg _ hd) (c3_pos _ hd) (c4_pos _ h7) (c5_neg _ fun e => hd ((schedule _).2.1 e).1)
    exact ⟨y, hy.trans (congrArg (acc4 _ _ _ _) (funext fun g => (if_neg hd : dvB V c t a g = _).symm))⟩

theorem leaves_D (h : ¬(stp t).val = 0) (hd : rowB (stp t) = colB (stp t)) (h7 : ¬rowB (stp t) = 7) : Leaves V c t a (step V c t a) := by
  rw [step_D V c t a h hd h7]
  have e0 : start0 t a = a.1 := if_neg h
  refine ⟨?_, ?_, ?_, fun e => absurd ((schedule _).2.1 e).2 h7, fun e => absurd e h7, fun e => absurd e h7⟩
  · rw [e0]
    refine (runD_0 c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)
        (b0 V c t) (b1 V c t) (b2 V c t) (b3 V c t) (b4 V c t) (b5 V c t)
        a.1 a.2.1 a.2.2 (hw_at _) (c1_neg _ h) (c2_pos _ hd) (c3_neg _ hd) (c4_neg _ h7) (c5_neg _ fun e => h7 ((schedule _).2.1 e).2)).trans ?_
    exact congrArg (acc4 _ _ _ _) (funext fun g => (if_pos hd : dqB V c t _ g = _).symm)
  · obtain ⟨y, hy⟩ := runD_1 c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)
        (b0 V c t) (b1 V c t) (b2 V c t) (b3 V c t) (b4 V c t) (b5 V c t)
        a.1 a.2.1 a.2.2 (hw_at _) (c1_neg _ h) (c2_pos _ hd) (c3_neg _ hd) (c4_neg _ h7) (c5_neg _ fun e => h7 ((schedule _).2.1 e).2)
    exact ⟨y, hy.trans (congrArg (acc4 _ _ _ _) (funext fun g => (if_pos hd : dkB V c t a g = _).symm))⟩
  · obtain ⟨y, hy⟩ := runD_2 c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)
        (b0 V c t) (b1 V c t) (b2 V c t) (b3 V c t) (b4 V c t) (b5 V c t)
        a.1 a.2.1 a.2.2 (hw_at _) (c1_neg _ h) (c2_pos _ hd) (c3_neg _ hd) (c4_neg _ h7) (c5_neg _ fun e => h7 ((schedule _).2.1 e).2)
    exact ⟨y, hy.trans (congrArg (acc4 _ _ _ _) (funext fun g => (if_pos hd : dvB V c t a g = _).symm))⟩

set_option maxHeartbeats 1600000 in
theorem leaves_E (h : ¬(stp t).val = 0) (hd : rowB (stp t) = colB (stp t)) (h7 : rowB (stp t) = 7) : Leaves V c t a (step V c t a) := by
  rw [step_E V c t a h hd h7]
  have e0 : start0 t a = a.1 := if_neg h
  refine ⟨?_, ?_, ?_, fun _ => runE_10 c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)
        (b0 V c t) (b1 V c t) (b2 V c t) (b3 V c t) (b4 V c t) (b5 V c t)
        a.1 a.2.1 a.2.2 (hw_at _) (c1_neg _ h) (c2_pos _ hd) (c3_neg _ hd) (c4_pos _ h7) (c5_pos _ ((schedule _).2.2 hd h7)), fun _ => runE_11 c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)
        (b0 V c t) (b1 V c t) (b2 V c t) (b3 V c t) (b4 V c t) (b5 V c t)
        a.1 a.2.1 a.2.2 (hw_at _) (c1_neg _ h) (c2_pos _ hd) (c3_neg _ hd) (c4_pos _ h7) (c5_pos _ ((schedule _).2.2 hd h7)), fun _ => runE_12 c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)
        (b0 V c t) (b1 V c t) (b2 V c t) (b3 V c t) (b4 V c t) (b5 V c t)
        a.1 a.2.1 a.2.2 (hw_at _) (c1_neg _ h) (c2_pos _ hd) (c3_neg _ hd) (c4_pos _ h7) (c5_pos _ ((schedule _).2.2 hd h7))⟩
  · rw [e0]
    refine (runE_0 c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)
        (b0 V c t) (b1 V c t) (b2 V c t) (b3 V c t) (b4 V c t) (b5 V c t)
        a.1 a.2.1 a.2.2 (hw_at _) (c1_neg _ h) (c2_pos _ hd) (c3_neg _ hd) (c4_pos _ h7) (c5_pos _ ((schedule _).2.2 hd h7))).trans ?_
    exact congrArg (acc4 _ _ _ _) (funext fun g => (if_pos hd : dqB V c t _ g = _).symm)
  · obtain ⟨y, hy⟩ := runE_1 c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)
        (b0 V c t) (b1 V c t) (b2 V c t) (b3 V c t) (b4 V c t) (b5 V c t)
        a.1 a.2.1 a.2.2 (hw_at _) (c1_neg _ h) (c2_pos _ hd) (c3_neg _ hd) (c4_pos _ h7) (c5_pos _ ((schedule _).2.2 hd h7))
    exact ⟨y, hy.trans (congrArg (acc4 _ _ _ _) (funext fun g => (if_pos hd : dkB V c t a g = _).symm))⟩
  · obtain ⟨y, hy⟩ := runE_2 c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)
        (b0 V c t) (b1 V c t) (b2 V c t) (b3 V c t) (b4 V c t) (b5 V c t)
        a.1 a.2.1 a.2.2 (hw_at _) (c1_neg _ h) (c2_pos _ hd) (c3_neg _ hd) (c4_pos _ h7) (c5_pos _ ((schedule _).2.2 hd h7))
    exact ⟨y, hy.trans (congrArg (acc4 _ _ _ _) (funext fun g => (if_pos hd : dvB V c t a g = _).symm))⟩

/-- Every point leaves what `Leaves` says. -/
theorem leaves : Leaves V c t a (step V c t a) := by
  by_cases h : (stp t).val = 0
  · exact leaves_A V c t a h
  by_cases hd : rowB (stp t) = colB (stp t) <;> by_cases h7 : rowB (stp t) = 7
  · exact leaves_E V c t a h hd h7
  · exact leaves_D V c t a h hd h7
  · exact leaves_C V c t a h hd h7
  · exact leaves_B V c t a h hd h7

end Cert.KernelIdeal.Flash

end
-- ==== Proof.Flash.Blocks.lean ====
/- The blocks a grid point reads, at an index of the arrays, and where the results' blocks lie. -/
module

public import proofs.«01_k».proof.Proof.Flash.Leaves
public import Idealize.ShloMosaic.Lib.Pointwise
public import Idealize.ShloMosaic.Lib.Pipeline.ValueKit

@[expose] public section

set_option maxRecDepth 16384

noncomputable section

namespace Cert.KernelIdeal.Flash

open Cert.KernelIdeal Cert.KernelIdeal.Gen
open Idealize.ShloMosaic
open Idealize.ShloMosaic.TcCoe Idealize.ShloMosaic.Tactic

/-! ## Places -/

/-- Row `r` of row block `J`; column `e` of head `H` where a head has 256 columns, and where it has 128. -/
def rowIx (J : Fin 8) (r : Fin 512) : Fin 4096 := ⟨512 * J.val + r.val, by have := J.isLt; have := r.isLt; omega⟩
def col256 (H : Fin 16) (e : Fin 256) : Fin 4096 := ⟨256 * H.val + e.val, by have := H.isLt; have := e.isLt; omega⟩
def col128 (H : Fin 16) (e : Fin 128) : Fin 2048 := ⟨128 * H.val + e.val, by have := H.isLt; have := e.isLt; omega⟩
/-- A column of a value among the 256 columns of its head. -/
def wide (e : Fin 128) : Fin 256 := ⟨e.val, by have := e.isLt; omega⟩

/-- Head `g` of group `h`. -/
def headIx (h g : Fin 4) : Fin 16 := ⟨4 * h.val + g.val, by have := h.isLt; have := g.isLt; omega⟩
/-- Point `t`'s group of heads. -/
abbrev grp (t : Fin (cfgA Ideal).N) : Fin 4 := (crd t) 0

/-- The grid's points in order: 36 steps to a group of heads. -/
theorem crd_all : ∀ t : Fin (cfgA Ideal).N, ((crd t) 0).val = t.val / 36 ∧ ((crd t) 1).val = t.val % 36 := by decide +kernel

/-! ## The windows' block indices -/

theorem index0 : ∀ t : Fin (cfgA Ideal).N, ((cfgA Ideal).win (0 : Fin 9)).index t = ![(rowB (stp t)).val, ((crd t) 0).val] := by decide +kernel
theorem index1 : ∀ t : Fin (cfgA Ideal).N, ((cfgA Ideal).win (1 : Fin 9)).index t = ![(colB (stp t)).val, ((crd t) 0).val] := by decide +kernel
theorem index2 : ∀ t : Fin (cfgA Ideal).N, ((cfgA Ideal).win (2 : Fin 9)).index t = ![(colB (stp t)).val, ((crd t) 0).val] := by decide +kernel
theorem index3 : ∀ t : Fin (cfgA Ideal).N, ((cfgA Ideal).win (3 : Fin 9)).index t = ![(rowB (stp t)).val, ((crd t) 0).val] := by decide +kernel
theorem index4 : ∀ t : Fin (cfgA Ideal).N, ((cfgA Ideal).win (4 : Fin 9)).index t = ![(rowB (stp t)).val, ((crd t) 0).val] := by decide +kernel
theorem index5 : ∀ t : Fin (cfgA Ideal).N, ((cfgA Ideal).win (5 : Fin 9)).index t = ![(rowB (stp t)).val, ((crd t) 0).val] := by decide +kernel
theorem index6 : ∀ t : Fin (cfgA Ideal).N, ((cfgA Ideal).win (6 : Fin 9)).index t = ![0, ((crd t) 0).val] := by decide +kernel
theorem index7 : ∀ t : Fin (cfgA Ideal).N, ((cfgA Ideal).win (7 : Fin 9)).index t = ![(colB (stp t)).val, ((crd t) 0).val] := by decide +kernel
theorem index8 : ∀ t : Fin (cfgA Ideal).N, ((cfgA Ideal).win (8 : Fin 9)).index t = ![(colB (stp t)).val, ((crd t) 0).val] := by decide +kernel

variable (V : (c : Dev nD) → (b : Ref sig .tc) → Buf (Elt Ideal) ((c : Thread nD τ).loc b)) (c : Dev nD) (t : Fin (cfgA Ideal).N)

/-! ## The blocks at an index -/

theorem b0_at (r : Fin 512) (g : Fin 4) (e : Fin 256) :
    w256 (b0 V c t) g (ix2 r e) = (V c main_v40 : S4096x4096.Idx → EReal) (ix2 (rowIx (rowB (stp t)) r) (col256 (headIx (grp t) g) e)) := by
  have i0 : ((cfgA Ideal).win (0 : Fin 9)).index t 0 = (rowB (stp t)).val := congrFun (index0 t) 0
  have i1 : ((cfgA Ideal).win (0 : Fin 9)).index t 1 = (grp t).val := congrFun (index0 t) 1
  show (V c main_v40 : S4096x4096.Idx → EReal) _ = _
  refine congrArg _ (funext fun a => Fin.ext ?_)
  match a with
  | 0 => blk_simp; rw [i0]; unfold rowIx; dsimp only; omega
  | 1 => blk_simp; rw [i1]; unfold col256 headIx; dsimp only; omega
theorem b1_at (r : Fin 512) (g : Fin 4) (e : Fin 256) :
    w256 (b1 V c t) g (ix2 r e) = (V c main_v42 : S4096x4096.Idx → EReal) (ix2 (rowIx (colB (stp t)) r) (col256 (headIx (grp t) g) e)) := by
  have i0 : ((cfgA Ideal).win (1 : Fin 9)).index t 0 = (colB (stp t)).val := congrFun (index1 t) 0
  have i1 : ((cfgA Ideal).win (1 : Fin 9)).index t 1 = (grp t).val := congrFun (index1 t) 1
  show (V c main_v42 : S4096x4096.Idx → EReal) _ = _
  refine congrArg _ (funext fun a => Fin.ext ?_)
  match a with
  | 0 => blk_simp; rw [i0]; unfold rowIx; dsimp only; omega
  | 1 => blk_simp; rw [i1]; unfold col256 headIx; dsimp only; omega
theorem b2_at (r : Fin 512) (g : Fin 4) (e : Fin 128) :
    w128v (b2 V c t) g (ix2 r e) = (V c main_v44 : S4096x4096.Idx → EReal) (ix2 (rowIx (colB (stp t)) r) (col256 (headIx (grp t) g) (wide e))) := by
  have i0 : ((cfgA Ideal).win (2 : Fin 9)).index t 0 = (colB (stp t)).val := congrFun (index2 t) 0
  have i1 : ((cfgA Ideal).win (2 : Fin 9)).index t 1 = (grp t).val := congrFun (index2 t) 1
  show (V c main_v44 : S4096x4096.Idx → EReal) _ = _
  refine congrArg _ (funext fun a => Fin.ext ?_)
  match a with
  | 0 => blk_simp; rw [i0]; unfold rowIx; dsimp only; omega
  | 1 => blk_simp; rw [i1]; unfold col256 headIx wide; dsimp only; omega
theorem b3_at (r : Fin 512) (g : Fin 4) (e : Fin 128) :
    w128 (b3 V c t) g (ix2 r e) = (V c main_v45 : S4096x2048.Idx → EReal) (ix2 (rowIx (rowB (stp t)) r) (col128 (headIx (grp t) g) e)) := by
  have i0 : ((cfgA Ideal).win (3 : Fin 9)).index t 0 = (rowB (stp t)).val := congrFun (index3 t) 0
  have i1 : ((cfgA Ideal).win (3 : Fin 9)).index t 1 = (grp t).val := congrFun (index3 t) 1
  show (V c main_v45 : S4096x2048.Idx → EReal) _ = _
  refine congrArg _ (funext fun a => Fin.ext ?_)
  match a with
  | 0 => blk_simp; rw [i0]; unfold rowIx; dsimp only; omega
  | 1 => blk_simp; rw [i1]; unfold col128 headIx; dsimp only; omega
theorem b4_at (r : Fin 512) (g : Fin 4)  :
    w1 (b4 V c t) g (ix2 r 0) = (V c main_v48 : S4096x2048.Idx → EReal) (ix2 (rowIx (rowB (stp t)) r) (col128 (headIx (grp t) g) 0)) := by
  have i0 : ((cfgA Ideal).win (4 : Fin 9)).index t 0 = (rowB (stp t)).val := congrFun (index4 t) 0
  have i1 : ((cfgA Ideal).win (4 : Fin 9)).index t 1 = (grp t).val := congrFun (index4 t) 1
  show (V c main_v48 : S4096x2048.Idx → EReal) _ = _
  refine congrArg _ (funext fun a => Fin.ext ?_)
  match a with
  | 0 => blk_simp; rw [i0]; unfold rowIx; dsimp only; first | omega | (simp; omega)
  | 1 => blk_simp; rw [i1]; unfold col128 headIx; dsimp only; first | omega | (simp; omega)
theorem b5_at (r : Fin 512) (g : Fin 4)  :
    w1 (b5 V c t) g (ix2 r 0) = (V c main_v51 : S4096x2048.Idx → EReal) (ix2 (rowIx (rowB (stp t)) r) (col128 (headIx (grp t) g) 0)) := by
  have i0 : ((cfgA Ideal).win (5 : Fin 9)).index t 0 = (rowB (stp t)).val := congrFun (index5 t) 0
  have i1 : ((cfgA Ideal).win (5 : Fin 9)).index t 1 = (grp t).val := congrFun (index5 t) 1
  show (V c main_v51 : S4096x2048.Idx → EReal) _ = _
  refine congrArg _ (funext fun a => Fin.ext ?_)
  match a with
  | 0 => blk_simp; rw [i0]; unfold rowIx; dsimp only; first | omega | (simp; omega)
  | 1 => blk_simp; rw [i1]; unfold col128 headIx; dsimp only; first | omega | (simp; omega)

end Cert.KernelIdeal.Flash

end
-- ==== Proof.Flash.PayIdeal.lean ====
/- The blocks a step computes, read at an index over the extended reals. -/
module

public import proofs.«01_k».proof.Proof.Flash.Pieces
public import Idealize.ShloMosaic.Lib.Pointwise

@[expose] public section

noncomputable section

namespace Cert.KernelIdeal.Flash

open Cert.KernelIdeal Cert.KernelIdeal.Gen
open Idealize.ShloMosaic
open Idealize.ShloMosaic.TcCoe Idealize.ShloMosaic.Tactic

/-- The comparison of two positions below 512 as words. -/
theorem sle_word (x r : Fin 512) : IntOp.cmpi CmpIPredicate.sle (BitVec.ofNat 32 x.val) (BitVec.ofNat 32 r.val) = BitVec.ofBool (decide (x ≤ r)) := by
  have hx : (BitVec.ofNat 32 x.val).toInt = x.val := by have := x.isLt; simp only [BitVec.toInt_eq_toNat_bmod, BitVec.toNat_ofNat, Int.bmod]; omega
  have hr : (BitVec.ofNat 32 r.val).toInt = r.val := by have := r.isLt; simp only [BitVec.toInt_eq_toNat_bmod, BitVec.toNat_ofNat, Int.bmod]; omega
  unfold IntOp.cmpi
  simp only [BitVec.sle, hx, hr, Nat.cast_le, Fin.le_def]
theorem sle_pos {x r : Fin 512} (h : x ≤ r) : IntOp.cmpi CmpIPredicate.sle (BitVec.ofNat 32 x.val) (BitVec.ofNat 32 r.val) = 1#1 := by
  rw [sle_word, decide_eq_true h]; rfl
theorem sle_neg {x r : Fin 512} (h : ¬x ≤ r) : IntOp.cmpi CmpIPredicate.sle (BitVec.ofNat 32 x.val) (BitVec.ofNat 32 r.val) = 0#1 := by
  rw [sle_word, decide_eq_false h]; rfl

section Ideal
variable (q k : Vec Ideal S512x256 .bf16) (d v : Vec Ideal S512x128 .bf16) (l δ : Vec Ideal S512x1 .f32)

theorem pay45_at (r x : Fin 512) : k0_pay45 q k l (ix2 r x) = Ideal.exp2 ((∑ e : Fin 256, q (ix2 r e) * k (ix2 x e)) - l (ix2 r 0)) := by
  pointwise [k0_pay45, k0_pay42, k0_pay43]
  rfl

theorem pay14_at (r x : Fin 512) : k0_pay14 q k l (ix2 r x) = Ideal.exp2 ((if x ≤ r then ∑ e : Fin 256, q (ix2 r e) * k (ix2 x e) else ⊥) - l (ix2 r 0)) := by
  pointwise [k0_pay14, k0_pay11, k0_pay12]
  by_cases h : x ≤ r
  · rw [if_pos h, sle_pos h]; rfl
  · rw [if_neg h, sle_neg h]; rfl

theorem pay46_at (r x : Fin 512) : k0_pay46 q k d v l δ (ix2 r x) = k0_pay45 q k l (ix2 r x) * ((∑ e : Fin 128, d (ix2 r e) * v (ix2 x e)) - δ (ix2 r 0)) := by
  pointwise [k0_pay46, k0_pay44]

theorem pay15_at (r x : Fin 512) : k0_pay15 q k d v l δ (ix2 r x) = k0_pay14 q k l (ix2 r x) * ((∑ e : Fin 128, d (ix2 r e) * v (ix2 x e)) - δ (ix2 r 0)) := by
  pointwise [k0_pay15, k0_pay13]

theorem dvM_at (x : Fin 512) (e : Fin 128) : dvM q k d l (ix2 x e) = ∑ r : Fin 512, k0_pay14 q k l (ix2 r x) * d (ix2 r e) := by
  pointwise [dvM, k0_pay16, k0_pay13]
theorem dvU_at (p) (x : Fin 512) (e : Fin 128) : dvU q k d l p (ix2 x e) = p (ix2 x e) + ∑ r : Fin 512, k0_pay45 q k l (ix2 r x) * d (ix2 r e) := by
  pointwise [dvU, k0_pay47, k0_pay44]
theorem dkM_at (x : Fin 512) (e : Fin 256) : dkM q k d v l δ (ix2 x e) = ∑ r : Fin 512, k0_pay15 q k d v l δ (ix2 r x) * q (ix2 r e) := by
  pointwise [dkM, k0_pay17, k0_pay11]
theorem dkU_at (p) (x : Fin 512) (e : Fin 256) : dkU q k d v l δ p (ix2 x e) = p (ix2 x e) + ∑ r : Fin 512, k0_pay46 q k d v l δ (ix2 r x) * q (ix2 r e) := by
  pointwise [dkU, k0_pay49, k0_pay48, k0_pay42]
theorem dqM_at (p) (r : Fin 512) (e : Fin 256) : dqM q k d v l δ p (ix2 r e)
    = p (ix2 r e) + (∑ x : Fin 512, k0_pay15 q k d v l δ (ix2 r x) * k (ix2 x e)) * Ideal.ofBits .f32 0x3D93CD3A#32 := by
  pointwise [dqM, k0_pay18, k0_pay12]
theorem dqU_at (p) (r : Fin 512) (e : Fin 256) : dqU q k d v l δ p (ix2 r e)
    = p (ix2 r e) + (∑ x : Fin 512, k0_pay46 q k d v l δ (ix2 r x) * k (ix2 x e)) * Ideal.ofBits .f32 0x3D93CD3A#32 := by
  pointwise [dqU, k0_pay50, k0_pay43]

theorem pay8_at (x : Vec Ideal S512x1024 .f32) (y) : k0_pay8 x y = x y * ((Real.log 2 : ℝ) : EReal) := by
  pointwise [k0_pay8]
  rfl
theorem pay9_at (x : Vec Ideal S512x512 .f32) (y) : k0_pay9 x y = x y := by
  pointwise [k0_pay9]
theorem pay10_at (x : Vec Ideal S4096x1024 .f32) (y) : k0_pay10 x y = x y := by
  pointwise [k0_pay10]
end Ideal

end Cert.KernelIdeal.Flash

end
-- ==== Proof.Flash.Addends.lean ====
/- What a grid point adds to the accumulators, in terms of the arrays: the weight of a row and a column, the gradient by
   their score, and each point's addend to the three gradients. -/
module

public import proofs.«01_k».proof.Proof.Flash.Blocks
public import proofs.«01_k».proof.Proof.Flash.PayIdeal

@[expose] public section

set_option maxRecDepth 16384

noncomputable section

namespace Cert.KernelIdeal.Flash

open Cert.KernelIdeal Cert.KernelIdeal.Gen
open Idealize.ShloMosaic
open Idealize.ShloMosaic.TcCoe Idealize.ShloMosaic.Tactic

/-- The six arrays the pipeline reads: queries, keys, values, the results' cotangent, the rows' log-sum-exps and deltas. -/
structure Arrs where
  q : S4096x4096.Idx → EReal
  k : S4096x4096.Idx → EReal
  v : S4096x4096.Idx → EReal
  d : S4096x2048.Idx → EReal
  l : S4096x2048.Idx → EReal
  δ : S4096x2048.Idx → EReal

namespace Arrs
variable (A : Arrs)

/-- The weight of row `R` and column `X` of head `H`. -/
def prob (H : Fin 16) (R X : Fin 4096) : EReal :=
  Ideal.exp2 ((if X ≤ R then ∑ e : Fin 256, A.q (ix2 R (col256 H e)) * A.k (ix2 X (col256 H e)) else ⊥) - A.l (ix2 R (col128 H 0)))
/-- The gradient by their score. -/
def dsc (H : Fin 16) (R X : Fin 4096) : EReal :=
  A.prob H R X * ((∑ e : Fin 128, A.d (ix2 R (col128 H e)) * A.v (ix2 X (col256 H (wide e)))) - A.δ (ix2 R (col128 H 0)))
/-- What the rows of block `I` give to the values' and to the keys' gradient at row `X`, and what the columns of block `J` give
    to the queries' gradient at row `R`. -/
def dvT (H : Fin 16) (I : Fin 8) (X : Fin 4096) (e : Fin 128) : EReal :=
  ∑ r : Fin 512, A.prob H (rowIx I r) X * A.d (ix2 (rowIx I r) (col128 H e))
def dkT (H : Fin 16) (I : Fin 8) (X : Fin 4096) (e : Fin 256) : EReal :=
  ∑ r : Fin 512, A.dsc H (rowIx I r) X * A.q (ix2 (rowIx I r) (col256 H e))
def dqT (H : Fin 16) (J : Fin 8) (R : Fin 4096) (e : Fin 256) : EReal :=
  (∑ x : Fin 512, A.dsc H R (rowIx J x) * A.k (ix2 (rowIx J x) (col256 H e))) * Ideal.ofBits .f32 0x3D93CD3A#32
end Arrs

/-- Column `e` of head `g` in an accumulator of a group of heads. -/
def loc128 (g : Fin 4) (e : Fin 128) : Fin 512 := ⟨g.val * 128 + e.val, by have := g.isLt; have := e.isLt; omega⟩
def loc256 (g : Fin 4) (e : Fin 256) : Fin 1024 := ⟨g.val * 256 + e.val, by have := g.isLt; have := e.isLt; omega⟩

theorem w128_at {α : Type} (x : S512x512.Idx → α) (g : Fin 4) (r : Fin 512) (e : Fin 128) : w128 x g (ix2 r e) = x (ix2 r (loc128 g e)) := by
  show x _ = _
  refine congrArg _ (funext fun a => Fin.ext ?_)
  match a with
  | 0 => show 0 + 1 * r.val = r.val; omega
  | 1 => show g.val * 128 + 1 * e.val = g.val * 128 + e.val; omega
theorem w256_at {α : Type} (x : S512x1024.Idx → α) (g : Fin 4) (r : Fin 512) (e : Fin 256) : w256 x g (ix2 r e) = x (ix2 r (loc256 g e)) := by
  show x _ = _
  refine congrArg _ (funext fun a => Fin.ext ?_)
  match a with
  | 0 => show 0 + 1 * r.val = r.val; omega
  | 1 => show g.val * 256 + 1 * e.val = g.val * 256 + e.val; omega
theorem wQ_at {α : Type} (x : S4096x1024.Idx → α) (I : Fin 8) (g : Fin 4) (r : Fin 512) (e : Fin 256) : wQ x I g (ix2 r e) = x (ix2 (rowIx I r) (loc256 g e)) := by
  show x _ = _
  refine congrArg _ (funext fun a => Fin.ext ?_)
  match a with
  | 0 => show 512 * I.val + 1 * r.val = 512 * I.val + r.val; omega
  | 1 => show g.val * 256 + 1 * e.val = g.val * 256 + e.val; omega

theorem rowIx_le_same (I : Fin 8) (x r : Fin 512) : rowIx I x ≤ rowIx I r ↔ x ≤ r := by
  simp only [rowIx, Fin.le_def]; omega
theorem rowIx_le_below {J I : Fin 8} (h : J < I) (x r : Fin 512) : rowIx J x ≤ rowIx I r := by
  have := x.isLt; simp only [rowIx, Fin.le_def]; have : J.val < I.val := h; omega

/-- A step's column block is not after its row block. -/
theorem col_le_row : ∀ s : Fin 36, colB s ≤ rowB s := by decide

variable (V : (c : Dev nD) → (b : Ref sig .tc) → Buf (Elt Ideal) ((c : Thread nD τ).loc b)) (c : Dev nD) (t : Fin (cfgA Ideal).N) (a : Acc Ideal)

/-- The arrays at the region's entry. -/
def arrs : Arrs where
  q := (V c main_v40 : S4096x4096.Idx → EReal)
  k := (V c main_v42 : S4096x4096.Idx → EReal)
  v := (V c main_v44 : S4096x4096.Idx → EReal)
  d := (V c main_v45 : S4096x2048.Idx → EReal)
  l := (V c main_v48 : S4096x2048.Idx → EReal)
  δ := (V c main_v51 : S4096x2048.Idx → EReal)

section Point
variable (g : Fin 4)

theorem score_at (r x : Fin 512) : ∑ e : Fin 256, w256 (b0 V c t) g (ix2 r e) * w256 (b1 V c t) g (ix2 x e)
    = ∑ e : Fin 256, (arrs V c).q (ix2 (rowIx (rowB (stp t)) r) (col256 (headIx (grp t) g) e)) * (arrs V c).k (ix2 (rowIx (colB (stp t)) x) (col256 (headIx (grp t) g) e)) :=
  Finset.sum_congr rfl fun e _ => by rw [b0_at, b1_at]; rfl
theorem dscore_at (r x : Fin 512) : ∑ e : Fin 128, w128 (b3 V c t) g (ix2 r e) * w128v (b2 V c t) g (ix2 x e)
    = ∑ e : Fin 128, (arrs V c).d (ix2 (rowIx (rowB (stp t)) r) (col128 (headIx (grp t) g) e)) * (arrs V c).v (ix2 (rowIx (colB (stp t)) x) (col256 (headIx (grp t) g) (wide e))) :=
  Finset.sum_congr rfl fun e _ => by rw [b3_at, b2_at]; rfl
theorem prob_diag (h : rowB (stp t) = colB (stp t)) (r x : Fin 512) :
    k0_pay14 (w256 (b0 V c t) g) (w256 (b1 V c t) g) (w1 (b4 V c t) g) (ix2 r x) = (arrs V c).prob (headIx (grp t) g) (rowIx (rowB (stp t)) r) (rowIx (colB (stp t)) x) := by
  rw [pay14_at, b4_at, score_at]
  unfold Arrs.prob
  have e : (rowIx (colB (stp t)) x ≤ rowIx (rowB (stp t)) r) = (x ≤ r) := by rw [h]; exact propext (rowIx_le_same _ _ _)
  simp only [e]
  rfl
theorem prob_below (h : ¬rowB (stp t) = colB (stp t)) (r x : Fin 512) :
    k0_pay45 (w256 (b0 V c t) g) (w256 (b1 V c t) g) (w1 (b4 V c t) g) (ix2 r x) = (arrs V c).prob (headIx (grp t) g) (rowIx (rowB (stp t)) r) (rowIx (colB (stp t)) x) := by
  rw [pay45_at, b4_at, score_at]
  unfold Arrs.prob
  rw [if_pos (rowIx_le_below (lt_of_le_of_ne (col_le_row _) fun e => h e.symm) x r)]
  rfl
theorem dsc_diag (h : rowB (stp t) = colB (stp t)) (r x : Fin 512) :
    k0_pay15 (w256 (b0 V c t) g) (w256 (b1 V c t) g) (w128 (b3 V c t) g) (w128v (b2 V c t) g) (w1 (b4 V c t) g) (w1 (b5 V c t) g) (ix2 r x)
      = (arrs V c).dsc (headIx (grp t) g) (rowIx (rowB (stp t)) r) (rowIx (colB (stp t)) x) := by
  rw [pay15_at, prob_diag V c t g h, b5_at, dscore_at]
  rfl
theorem dsc_below (h : ¬rowB (stp t) = colB (stp t)) (r x : Fin 512) :
    k0_pay46 (w256 (b0 V c t) g) (w256 (b1 V c t) g) (w128 (b3 V c t) g) (w128v (b2 V c t) g) (w1 (b4 V c t) g) (w1 (b5 V c t) g) (ix2 r x)
      = (arrs V c).dsc (headIx (grp t) g) (rowIx (rowB (stp t)) r) (rowIx (colB (stp t)) x) := by
  rw [pay46_at, prob_below V c t g h, b5_at, dscore_at]
  rfl

theorem dvB_at (x : Fin 512) (e : Fin 128) : dvB V c t a g (ix2 x e)
    = (if rowB (stp t) = colB (stp t) then 0 else a.2.2 (ix2 x (loc128 g e))) + (arrs V c).dvT (headIx (grp t) g) (rowB (stp t)) (rowIx (colB (stp t)) x) e := by
  unfold dvB Arrs.dvT
  by_cases h : rowB (stp t) = colB (stp t)
  · rw [if_pos h, if_pos h, dvM_at, zero_add]
    exact Finset.sum_congr rfl fun r _ => by rw [prob_diag V c t g h, b3_at]; rfl
  · rw [if_neg h, if_neg h, dvU_at, w128_at]
    exact congrArg _ (Finset.sum_congr rfl fun r _ => by rw [prob_below V c t g h, b3_at]; rfl)
theorem dkB_at (x : Fin 512) (e : Fin 256) : dkB V c t a g (ix2 x e)
    = (if rowB (stp t) = colB (stp t) then 0 else a.2.1 (ix2 x (loc256 g e))) + (arrs V c).dkT (headIx (grp t) g) (rowB (stp t)) (rowIx (colB (stp t)) x) e := by
  unfold dkB Arrs.dkT
  by_cases h : rowB (stp t) = colB (stp t)
  · rw [if_pos h, if_pos h, dkM_at, zero_add]
    exact Finset.sum_congr rfl fun r _ => by rw [dsc_diag V c t g h, b0_at]; rfl
  · rw [if_neg h, if_neg h, dkU_at, w256_at]
    exact congrArg _ (Finset.sum_congr rfl fun r _ => by rw [dsc_below V c t g h, b0_at]; rfl)
theorem dqB_at (X : S4096x1024.Idx → EReal) (r : Fin 512) (e : Fin 256) : dqB V c t X g (ix2 r e)
    = X (ix2 (rowIx (rowB (stp t)) r) (loc256 g e)) + (arrs V c).dqT (headIx (grp t) g) (colB (stp t)) (rowIx (rowB (stp t)) r) e := by
  unfold dqB Arrs.dqT
  by_cases h : rowB (stp t) = colB (stp t)
  · rw [if_pos h, dqM_at, wQ_at]
    exact congrArg _ (congrArg (· * _) (Finset.sum_congr rfl fun x _ => by rw [dsc_diag V c t g h, b1_at]; rfl))
  · rw [if_neg h, dqU_at, wQ_at]
    exact congrArg _ (congrArg (· * _) (Finset.sum_congr rfl fun x _ => by rw [dsc_below V c t g h, b1_at]; rfl))

/-! ## A point on the accumulators -/

theorem step_dv (x : Fin 512) (e : Fin 128) : (step V c t a).1.2.2 (ix2 x (loc128 g e))
    = (if rowB (stp t) = colB (stp t) then 0 else a.2.2 (ix2 x (loc128 g e))) + (arrs V c).dvT (headIx (grp t) g) (rowB (stp t)) (rowIx (colB (stp t)) x) e := by
  obtain ⟨y, hy⟩ := (leaves V c t a).dv
  rw [hy, ← dvB_at]
  exact acc4_hit 512 128 y 0 _ (ix2 x (loc128 g e)) g (ix2 x e) (by show x.val = 0 + x.val; omega) rfl
theorem step_dk (x : Fin 512) (e : Fin 256) : (step V c t a).1.2.1 (ix2 x (loc256 g e))
    = (if rowB (stp t) = colB (stp t) then 0 else a.2.1 (ix2 x (loc256 g e))) + (arrs V c).dkT (headIx (grp t) g) (rowB (stp t)) (rowIx (colB (stp t)) x) e := by
  obtain ⟨y, hy⟩ := (leaves V c t a).dk
  rw [hy, ← dkB_at]
  exact acc4_hit 512 256 y 0 _ (ix2 x (loc256 g e)) g (ix2 x e) (by show x.val = 0 + x.val; omega) rfl
theorem start0_at (y) : start0 t a y = if (stp t).val = 0 then 0 else a.1 y := by
  unfold start0
  split
  · exact Ideal.ofBits_zero_f32
  · rfl
theorem step_dq (I : Fin 8) (r : Fin 512) (e : Fin 256) : (step V c t a).1.1 (ix2 (rowIx I r) (loc256 g e))
    = (if (stp t).val = 0 then 0 else a.1 (ix2 (rowIx I r) (loc256 g e)))
      + (if rowB (stp t) = I then (arrs V c).dqT (headIx (grp t) g) (colB (stp t)) (rowIx I r) e else 0) := by
  rw [(leaves V c t a).dq, ← start0_at]
  by_cases h : rowB (stp t) = I
  · subst h
    rw [if_pos rfl, ← dqB_at]
    exact acc4_hit 512 256 _ _ _ (ix2 (rowIx (rowB (stp t)) r) (loc256 g e)) g (ix2 r e) rfl rfl
  · rw [if_neg h, add_zero]
    refine acc4_miss 512 256 _ _ _ _ ?_
    have h' : (rowB (stp t)).val ≠ I.val := fun e => h (Fin.ext e)
    have := r.isLt
    show 512 * I.val + r.val < 512 * (rowB (stp t)).val ∨ 512 * (rowB (stp t)).val + 512 ≤ 512 * I.val + r.val
    omega

end Point

end Cert.KernelIdeal.Flash

end
-- ==== Proof.Flash.Softmax.lean ====
/- The backward pass of causal attention over the reals, and what its parts are over the extended reals. -/
module

public import Idealize.ShloMosaic.PureOps
public import Idealize.ShloMosaic.PureOps.Ideal.Laws
public import Idealize.ShloMosaic.Lib.Pointwise
public import Idealize.ShloMosaic.Lib.KernelVsHost

@[expose] public section

noncomputable section

namespace Cert.Softmax

open Idealize.ShloMosaic

/-! ## The extended reals -/

/-- The real of a finite sum is the sum of the reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The sum over an axis of products of reals. -/
theorem sum_coe_mul {n : Nat} {f g : Fin n → EReal} (a b : Fin n → ℝ) (hf : ∀ i, f i = a i) (hg : ∀ i, g i = b i) :
    ∑ i, f i * g i = ((∑ i, a i * b i : ℝ) : EReal) := by
  rw [coe_sum]
  exact Finset.sum_congr rfl fun i _ => by rw [hf, hg, EReal.coe_mul]

/-- A quotient of reals by one that is not zero. -/
theorem div_coe_coe {y : ℝ} (h : y ≠ 0) (x : ℝ) : Ideal.div (x : EReal) (y : EReal) = ((x / y : ℝ) : EReal) := by
  rw [Ideal.div_coe h, ← EReal.coe_mul, mul_one_div]

/-- The scale of the scores, 192 to the power of minus a half rounded to single precision, as a real. -/
def scale : ℝ := (Ideal.ofBits .f32 0x3D93CD3A#32).toReal
theorem scale_coe : Ideal.ofBits .f32 0x3D93CD3A#32 = (scale : EReal) := by
  refine (EReal.coe_toReal ?_ ?_).symm
  · simp [Ideal.ofBits, Ideal.ieee]
    exact EReal.coe_ne_top _
  · simp [Ideal.ofBits, Ideal.ieee]
    exact EReal.coe_ne_bot _
theorem ofBits_negInf : Ideal.ofBits .f32 0xFF800000#32 = ⊥ := by simp [Ideal.ofBits, Ideal.ieee]
theorem ofBits_posInf : Ideal.ofBits .f32 0x7F800000#32 = ⊤ := by simp [Ideal.ofBits, Ideal.ieee]

/-! ## Words and layout -/

/-- The comparison of two row numbers as words. -/
theorem word_le (x r : Fin 4096) : IntOp.cmpi CmpIPredicate.sle (BitVec.ofNat 32 x.val) (BitVec.ofNat 32 r.val) = if x ≤ r then 1#1 else 0#1 := by
  have hx : (BitVec.ofNat 32 x.val).toInt = x.val := by have := x.isLt; simp only [BitVec.toInt_eq_toNat_bmod, BitVec.toNat_ofNat, Int.bmod]; omega
  have hr : (BitVec.ofNat 32 r.val).toInt = r.val := by have := r.isLt; simp only [BitVec.toInt_eq_toNat_bmod, BitVec.toNat_ofNat, Int.bmod]; omega
  unfold IntOp.cmpi
  simp only [BitVec.sle, hx, hr, Nat.cast_le]
  by_cases h : x ≤ r
  · rw [if_pos h, decide_eq_true (Fin.le_def.mp h)]; rfl
  · rw [if_neg h, decide_eq_false (fun h' => h (Fin.le_def.mpr h'))]; rfl

/-- The choice such a comparison makes. -/
theorem select_le {α : Type} (x r : Fin 4096) (a b : α) : Scalar.select (if x ≤ r then 1#1 else 0#1) a b = if x ≤ r then a else b := by
  by_cases h : x ≤ r
  · rw [if_pos h, if_pos h]; rfl
  · rw [if_neg h, if_neg h]; rfl

/-- Padding of the last axis at its end. -/
theorem pad_high {n p N : Nat} {f : Fin 4096 → Fin 16 → Fin n → EReal} {x : (⟨3, ![4096, 16, n]⟩ : Shape).Idx → EReal}
    (hx : ∀ i, x i = f (i 0) (i 1) (i 2)) {u : Shape} (v : u.Idx → EReal) (h : (⟨3, ![4096, 16, n]⟩ : Shape).Pads ![0, 0, 0] ![0, 0, p] ![0, 0, 0] ⟨3, ![4096, 16, N]⟩)
    (hu : 0 < u.numel) (j : (⟨3, ![4096, 16, N]⟩ : Shape).Idx) (R : Fin 4096) (g : Fin 16) (e : Fin N)
    (h0 : (j 0).val = R.val) (h1 : (j 1).val = g.val) (h2 : (j 2).val = e.val) :
    pad ⟨3, ![4096, 16, N]⟩ ![0, 0, 0] ![0, 0, p] ![0, 0, 0] x v h hu j
      = if hj : e.val < n then f R g ⟨e.val, hj⟩ else v (Shape.Idx.first hu) := by
  by_cases hj : e.val < n
  · rw [dif_pos hj, pad_apply_of_inside _ _ _ x v h hu j (fun a => match a with
      | ⟨0, _⟩ => R
      | ⟨1, _⟩ => g
      | ⟨2, _⟩ => ⟨e.val, hj⟩) (fun a => match a with
      | ⟨0, _⟩ => by show (j 0).val = 0 + R.val * (0 + 1); omega
      | ⟨1, _⟩ => by show (j 1).val = 0 + g.val * (0 + 1); omega
      | ⟨2, _⟩ => by show (j 2).val = 0 + e.val * (0 + 1); omega), hx]
    rfl
  · rw [dif_neg hj, pad_apply_of_not_inside _ _ _ x v h hu j 2 (fun hh => hj (by
      have h3 : ((j 2).val - 0) / (0 + 1) < n := hh.2.2
      rwa [Nat.sub_zero, Nat.zero_add, Nat.div_one, h2] at h3))]

/-- The head and the place in it of a column. -/
def head256 (C : Fin 4096) : Fin 16 := ⟨C.val / 256, by have := C.isLt; omega⟩
def at256 (C : Fin 4096) : Fin 256 := ⟨C.val % 256, Nat.mod_lt _ (by decide)⟩
def head128 (C : Fin 2048) : Fin 16 := ⟨C.val / 128, by have := C.isLt; omega⟩
def at128 (C : Fin 2048) : Fin 128 := ⟨C.val % 128, Nat.mod_lt _ (by decide)⟩

/-! ## The gradient over the reals -/

/-- Queries, keys, values and the incoming gradient: row, head, lane. -/
structure Data where
  q : Fin 4096 → Fin 16 → Fin 192 → ℝ
  k : Fin 4096 → Fin 16 → Fin 192 → ℝ
  v : Fin 4096 → Fin 16 → Fin 128 → ℝ
  d : Fin 4096 → Fin 16 → Fin 128 → ℝ

/-- The four arguments hold the reals of `D`. -/
structure Holds (D : Data) (x0 x1 : (⟨3, ![4096, 16, 192]⟩ : Shape).Idx → EReal) (x2 x3 : (⟨3, ![4096, 16, 128]⟩ : Shape).Idx → EReal) : Prop where
  q : ∀ i, x0 i = ((D.q (i 0) (i 1) (i 2) : ℝ) : EReal)
  k : ∀ i, x1 i = ((D.k (i 0) (i 1) (i 2) : ℝ) : EReal)
  v : ∀ i, x2 i = ((D.v (i 0) (i 1) (i 2) : ℝ) : EReal)
  d : ∀ i, x3 i = ((D.d (i 0) (i 1) (i 2) : ℝ) : EReal)

namespace Data
variable (D : Data)

/-- The scaled score of row `R` against column `X`. -/
def s (h : Fin 16) (R X : Fin 4096) : ℝ := (∑ e : Fin 192, D.q R h e * D.k X h e) * scale
/-- The weight before normalising: the exponential up to the diagonal, zero past it. -/
def w (h : Fin 16) (R X : Fin 4096) : ℝ := if X ≤ R then Real.exp (D.s h R X) else 0
/-- The sum of a row's weights. -/
def z (h : Fin 16) (R : Fin 4096) : ℝ := ∑ X : Fin 4096, D.w h R X
/-- The probability. -/
def p (h : Fin 16) (R X : Fin 4096) : ℝ := D.w h R X / D.z h R
/-- The gradient at the probability. -/
def dp (h : Fin 16) (R X : Fin 4096) : ℝ := ∑ f : Fin 128, D.d R h f * D.v X h f
/-- The mean of a row's `dp` under its probabilities. -/
def δ (h : Fin 16) (R : Fin 4096) : ℝ := ∑ X : Fin 4096, D.p h R X * D.dp h R X
/-- The gradient at the scaled score. -/
def ds (h : Fin 16) (R X : Fin 4096) : ℝ := D.p h R X * (D.dp h R X - D.δ h R)
/-- The gradients of the three arguments. -/
def dq (h : Fin 16) (R : Fin 4096) (e : Fin 192) : ℝ := (∑ X : Fin 4096, D.ds h R X * D.k X h e) * scale
def dk (h : Fin 16) (X : Fin 4096) (e : Fin 192) : ℝ := (∑ R : Fin 4096, D.ds h R X * D.q R h e) * scale
def dv (h : Fin 16) (X : Fin 4096) (f : Fin 128) : ℝ := ∑ R : Fin 4096, D.p h R X * D.d R h f

theorem z_pos (h : Fin 16) (R : Fin 4096) : 0 < D.z h R := by
  refine Finset.sum_pos' (fun X _ => ?_) ⟨R, Finset.mem_univ R, ?_⟩
  · unfold w; split
    · exact (Real.exp_pos _).le
    · exact le_rfl
  · unfold w; rw [if_pos le_rfl]; exact Real.exp_pos _

theorem w_past {h : Fin 16} {R X : Fin 4096} (hX : ¬X ≤ R) : D.w h R X = 0 := if_neg hX
theorem p_past {h : Fin 16} {R X : Fin 4096} (hX : ¬X ≤ R) : D.p h R X = 0 := by rw [p, D.w_past hX, zero_div]
theorem ds_past {h : Fin 16} {R X : Fin 4096} (hX : ¬X ≤ R) : D.ds h R X = 0 := by rw [ds, D.p_past hX, zero_mul]

/-! ## Its parts over the extended reals -/

/-- The score with minus infinity past the diagonal. -/
def sc (h : Fin 16) (R X : Fin 4096) : EReal := if X ≤ R then ((D.s h R X : ℝ) : EReal) else ⊥

/-- The greatest score of a row is a real. -/
theorem rowMax_real (h : Fin 16) (R : Fin 4096) : ∃ m : ℝ, (Finset.univ : Finset (Fin 4096)).fold max ⊥ (D.sc h R) = (m : EReal) := by
  have htop : (Finset.univ : Finset (Fin 4096)).fold max ⊥ (D.sc h R) < ⊤ :=
    Finset.fold_max_lt _ |>.mpr ⟨bot_lt_top, fun X _ => by unfold sc; split; exacts [EReal.coe_lt_top _, bot_lt_top]⟩
  have hbot : ⊥ < (Finset.univ : Finset (Fin 4096)).fold max ⊥ (D.sc h R) :=
    Finset.lt_fold_max _ |>.mpr (Or.inr ⟨R, Finset.mem_univ R, by unfold sc; rw [if_pos le_rfl]; exact EReal.bot_lt_coe _⟩)
  exact ⟨_, (EReal.coe_toReal htop.ne hbot.ne').symm⟩

/-- A weight relative to any real `m`. -/
theorem exp_sc (h : Fin 16) (R X : Fin 4096) (m : ℝ) : Ideal.exp (D.sc h R X - (m : EReal)) = ((D.w h R X / Real.exp m : ℝ) : EReal) := by
  unfold sc w
  split
  · rw [← EReal.coe_sub, Ideal.exp_coe, Real.exp_sub]
  · rw [EReal.bot_sub, Ideal.exp_bot, zero_div, EReal.coe_zero]

/-- The sum of a row's weights relative to `m`. -/
theorem sum_sc (h : Fin 16) (R : Fin 4096) (m : ℝ) : ∑ X : Fin 4096, ((D.w h R X / Real.exp m : ℝ) : EReal) = ((D.z h R / Real.exp m : ℝ) : EReal) := by
  rw [← coe_sum, z, Finset.sum_div]

theorem zm_pos (h : Fin 16) (R : Fin 4096) (m : ℝ) : 0 < D.z h R / Real.exp m := div_pos (D.z_pos h R) (Real.exp_pos m)

/-- The quotient of the two is the probability. -/
theorem div_sc (h : Fin 16) (R X : Fin 4096) (m : ℝ) :
    Ideal.div ((D.w h R X / Real.exp m : ℝ) : EReal) ((D.z h R / Real.exp m : ℝ) : EReal) = ((D.p h R X : ℝ) : EReal) := by
  rw [div_coe_coe (D.zm_pos h R m).ne', p, div_div_div_cancel_right₀ (Real.exp_ne_zero m)]

/-- The logarithm of a row's sum in base two, `m` put back. -/
theorem lse_coe (h : Fin 16) (R : Fin 4096) (m : ℝ) :
    Ideal.div ((m : EReal) + Ideal.log ((D.z h R / Real.exp m : ℝ) : EReal)) ((Real.log 2 : ℝ) : EReal) = ((Real.log (D.z h R) / Real.log 2 : ℝ) : EReal) := by
  rw [Ideal.log_coe, if_neg (not_le.mpr (D.zm_pos h R m)), ← EReal.coe_add, div_coe_coe (Real.log_pos one_lt_two).ne',
    Real.log_div (D.z_pos h R).ne' (Real.exp_ne_zero m), Real.log_exp]
  congr 2
  ring

/-- The power of two of a score less that logarithm, both in base two, is the probability. -/
theorem exp2_sc (h : Fin 16) (R X : Fin 4096) :
    Ideal.exp2 ((if X ≤ R then ((D.s h R X / Real.log 2 : ℝ) : EReal) else ⊥) - ((Real.log (D.z h R) / Real.log 2 : ℝ) : EReal)) = ((D.p h R X : ℝ) : EReal) := by
  unfold p w
  split
  · rw [← EReal.coe_sub, Ideal.exp2_coe, ← sub_div]
    congr 1
    rw [Real.rpow_eq_pow, Real.rpow_def_of_pos two_pos, mul_div_cancel₀ _ (Real.log_pos one_lt_two).ne', Real.exp_sub, Real.exp_log (D.z_pos h R)]
  · rw [EReal.bot_sub, Ideal.exp2_bot, zero_div, EReal.coe_zero]

/-- The mean `δ` from the output: the incoming gradient times the weighted sum of the values. -/
theorem delta_eq (h : Fin 16) (R : Fin 4096) : ∑ f : Fin 128, D.d R h f * (∑ X : Fin 4096, D.v X h f * D.p h R X) = D.δ h R := by
  unfold δ dp
  simp only [Finset.mul_sum]
  rw [Finset.sum_comm]
  exact Finset.sum_congr rfl fun X _ => Finset.sum_congr rfl fun f _ => by ring

/-- The gradient at the score in the order in which the quotient rule writes it. -/
theorem ds_eq (h : Fin 16) (R X : Fin 4096) (m : ℝ) :
    (D.dp h R X / (D.z h R / Real.exp m) + -(∑ Y : Fin 4096, D.dp h R Y * (1 / (D.z h R / Real.exp m * (D.z h R / Real.exp m))) * (D.w h R Y / Real.exp m)))
      * (D.w h R X / Real.exp m) = D.ds h R X := by
  have hz := (D.z_pos h R).ne'
  have hm := Real.exp_ne_zero m
  have hs : ∑ Y : Fin 4096, D.dp h R Y * (1 / (D.z h R / Real.exp m * (D.z h R / Real.exp m))) * (D.w h R Y / Real.exp m) = D.δ h R / (D.z h R / Real.exp m) := by
    rw [δ, Finset.sum_div]
    exact Finset.sum_congr rfl fun Y _ => by unfold p; field_simp
  rw [hs, ds, p]
  field_simp
  ring

/-- A term of the mean the quotient rule takes. -/
theorem mean_term (h : Fin 16) (R Y : Fin 4096) (m : ℝ) {a b e : EReal} (ha : a = ((D.dp h R Y : ℝ) : EReal)) (hb : b = ((D.z h R / Real.exp m : ℝ) : EReal))
    (he : e = ((D.w h R Y / Real.exp m : ℝ) : EReal)) :
    a * Ideal.div 1 (b * b) * e = ((D.dp h R Y * (1 / (D.z h R / Real.exp m * (D.z h R / Real.exp m))) * (D.w h R Y / Real.exp m) : ℝ) : EReal) := by
  rw [ha, hb, he, ← EReal.coe_mul, ← EReal.coe_one, div_coe_coe (mul_pos (D.zm_pos h R m) (D.zm_pos h R m)).ne', ← EReal.coe_mul, ← EReal.coe_mul]

/-- The gradient at the score from those parts. -/
theorem ds_of_parts (h : Fin 16) (R X : Fin 4096) (m : ℝ) {a b c e : EReal} (ha : a = ((D.dp h R X : ℝ) : EReal)) (hb : b = ((D.z h R / Real.exp m : ℝ) : EReal))
    (hc : c = ((∑ Y : Fin 4096, D.dp h R Y * (1 / (D.z h R / Real.exp m * (D.z h R / Real.exp m))) * (D.w h R Y / Real.exp m) : ℝ) : EReal))
    (he : e = ((D.w h R X / Real.exp m : ℝ) : EReal)) : (Ideal.div a b + -c) * e = ((D.ds h R X : ℝ) : EReal) := by
  rw [ha, hb, hc, he, div_coe_coe (D.zm_pos h R m).ne', ← EReal.coe_neg, ← EReal.coe_add, ← EReal.coe_mul, D.ds_eq h R X m]

/-- The gradients laid out by rows and columns: the heads side by side, those of the queries and keys padded with zeros to 256 lanes. -/
def dqA (R C : Fin 4096) : EReal := if h : (at256 C).val < 192 then ((D.dq (head256 C) R ⟨(at256 C).val, h⟩ : ℝ) : EReal) else 0
def dkA (X C : Fin 4096) : EReal := if h : (at256 C).val < 192 then ((D.dk (head256 C) X ⟨(at256 C).val, h⟩ : ℝ) : EReal) else 0
def dvA (X : Fin 4096) (C : Fin 2048) : EReal := ((D.dv (head128 C) X (at128 C) : ℝ) : EReal)
end Data

end Cert.Softmax

end
-- ==== Proof.Flash.Sums.lean ====
/- The accumulators in closed form: what the points of a group of heads leave in them, as sums over row and column blocks. -/
module

public import proofs.«01_k».proof.Proof.Flash.Addends
public import proofs.«01_k».proof.Proof.Flash.Softmax

@[expose] public section

set_option maxRecDepth 16384

noncomputable section

namespace Cert.KernelIdeal.Flash

open Cert.KernelIdeal Cert.KernelIdeal.Gen
open Idealize.ShloMosaic
open Idealize.ShloMosaic.TcCoe Idealize.ShloMosaic.Tactic
open Cert.Softmax (head256 at256 head128 at128)

/-! ## The order of the steps -/

/-- A step off the diagonal follows one of the same column block and of the row block before. -/
theorem step_before : ∀ s : Fin 36, ¬rowB s = colB s → ∃ s' : Fin 36, s'.val + 1 = s.val ∧ colB s' = colB s ∧ (rowB s').val + 1 = (rowB s).val := by decide +kernel

/-- Every pair of a row block and a column block not after it is one step. -/
theorem step_once : ∀ I J : Fin 8, (Finset.univ.filter fun s : Fin 36 => rowB s = I ∧ colB s = J).card = if J ≤ I then 1 else 0 := by decide +kernel

section Sums
variable {M : Type} [AddCommMonoid M]

/-- A running sum that begins anew on the diagonal holds the row blocks from the diagonal's to the step's. -/
theorem column_sum (T : Fin 8 → Fin 8 → M) (u : Fin 36 → M)
    (h0 : ∀ s, rowB s = colB s → u s = T (colB s) (rowB s))
    (hs : ∀ s s' : Fin 36, s'.val + 1 = s.val → ¬rowB s = colB s → u s = u s' + T (colB s) (rowB s)) :
    ∀ s, u s = ∑ I : Fin 8, if colB s ≤ I ∧ I ≤ rowB s then T (colB s) I else 0 := by
  suffices H : ∀ n (s : Fin 36), s.val = n → u s = ∑ I : Fin 8, if colB s ≤ I ∧ I ≤ rowB s then T (colB s) I else 0 from fun s => H _ s rfl
  intro n
  induction n with
  | zero =>
    intro s hn
    have hd := ((schedule s).1 hn).1
    rw [h0 s hd, Finset.sum_eq_single (rowB s)]
    · rw [if_pos ⟨hd ▸ le_refl _, le_refl _⟩]
    · intro I _ hI; exact if_neg fun h => hI (le_antisymm h.2 (hd ▸ h.1))
    · intro h; exact absurd (Finset.mem_univ _) h
  | succ n ih =>
    intro s hn
    by_cases hd : rowB s = colB s
    · rw [h0 s hd, Finset.sum_eq_single (rowB s)]
      · rw [if_pos ⟨hd ▸ le_refl _, le_refl _⟩]
      · intro I _ hI; exact if_neg fun h => hI (le_antisymm h.2 (hd ▸ h.1))
      · intro h; exact absurd (Finset.mem_univ _) h
    · obtain ⟨s', e, ec, er⟩ := step_before s hd
      rw [hs s s' e hd, ih s' (by omega), ec]
      have single : T (colB s) (rowB s) = ∑ I : Fin 8, if I = rowB s then T (colB s) I else 0 := by
        rw [Finset.sum_ite_eq' Finset.univ (rowB s) (fun I => T (colB s) I), if_pos (Finset.mem_univ _)]
      rw [single, ← Finset.sum_add_distrib]
      refine Finset.sum_congr rfl fun I _ => ?_
      have hc : (colB s).val ≤ (rowB s).val := col_le_row s
      by_cases hI : I = rowB s
      · subst hI
        rw [if_pos rfl, if_neg (by simp only [Fin.le_def]; omega), if_pos (by simp only [Fin.le_def]; omega), zero_add]
      · have hI' : I.val ≠ (rowB s).val := fun e => hI (Fin.ext e)
        rw [if_neg hI, add_zero]
        refine if_congr ?_ rfl rfl
        simp only [Fin.le_def]; omega

/-- A running sum of addends for one row block holds, after the last step, the column blocks not after it. -/
theorem row_sum (T : Fin 8 → M) (I : Fin 8) (u : Fin 36 → M)
    (h0 : ∀ s : Fin 36, s.val = 0 → u s = if rowB s = I then T (colB s) else 0)
    (hs : ∀ s s' : Fin 36, s'.val + 1 = s.val → u s = u s' + if rowB s = I then T (colB s) else 0)
    (s : Fin 36) (h : s.val = 35) : u s = ∑ J : Fin 8, if J ≤ I then T J else 0 := by
  have run : ∀ n (s : Fin 36), s.val = n → u s = ∑ s' : Fin 36, if s' ≤ s then (if rowB s' = I then T (colB s') else 0) else 0 := by
    intro n
    induction n with
    | zero =>
      intro s hn
      rw [h0 s hn, Finset.sum_eq_single s]
      · rw [if_pos (le_refl _)]
      · intro s' _ hne; exact if_neg fun hle => hne (by apply Fin.ext; have : s'.val ≤ s.val := hle; omega)
      · intro h; exact absurd (Finset.mem_univ _) h
    | succ n ih =>
      intro s hn
      have hlt := s.isLt
      rw [hs s ⟨n, by omega⟩ (by simp [hn]), ih ⟨n, by omega⟩ rfl]
      have single : (if rowB s = I then T (colB s) else 0) = ∑ s' : Fin 36, if s' = s then (if rowB s' = I then T (colB s') else 0) else 0 := by
        rw [Finset.sum_ite_eq' Finset.univ s (fun s' => if rowB s' = I then T (colB s') else 0), if_pos (Finset.mem_univ _)]
      rw [single, ← Finset.sum_add_distrib]
      refine Finset.sum_congr rfl fun s' _ => ?_
      by_cases e : s' = s
      · subst e
        rw [if_pos rfl, if_neg (by simp only [Fin.le_def]; omega), if_pos (le_refl _), zero_add]
      · have e' : s'.val ≠ s.val := fun h => e (Fin.ext h)
        rw [if_neg e, add_zero]
        refine if_congr ?_ rfl rfl
        simp only [Fin.le_def]; omega
  rw [run 35 s h]
  have all : ∀ s' : Fin 36, (if s' ≤ s then (if rowB s' = I then T (colB s') else 0) else 0) = ∑ J : Fin 8, if rowB s' = I ∧ colB s' = J then T J else 0 := by
    intro s'
    rw [if_pos (by have := s'.isLt; simp only [Fin.le_def]; omega)]
    by_cases hr : rowB s' = I
    · rw [if_pos hr, Finset.sum_eq_single (colB s')]
      · rw [if_pos ⟨hr, rfl⟩]
      · intro J _ hJ; exact if_neg fun h => hJ h.2.symm
      · intro h; exact absurd (Finset.mem_univ _) h
    · rw [if_neg hr]
      exact (Finset.sum_eq_zero fun J _ => if_neg fun h => hr h.1).symm
  rw [Finset.sum_congr rfl fun s' _ => all s', Finset.sum_comm]
  refine Finset.sum_congr rfl fun J _ => ?_
  rw [← Finset.sum_filter, Finset.sum_const, step_once]
  split
  · exact one_nsmul _
  · exact zero_nsmul _

end Sums

/-! ## The accumulators -/

theorem points : (cfgA Ideal).N = 144 := by decide +kernel

/-- Step `s` of group `h`. -/
def pt (h : Fin 4) (s : Fin 36) : Fin (cfgA Ideal).N := ⟨36 * h.val + s.val, by rw [points]; have := h.isLt; have := s.isLt; omega⟩
theorem grp_pt (h : Fin 4) (s : Fin 36) : grp (pt h s) = h := Fin.ext (by
  refine (crd_all (pt h s)).1.trans ?_
  have := s.isLt; show (36 * h.val + s.val) / 36 = h.val; omega)
theorem stp_pt (h : Fin 4) (s : Fin 36) : stp (pt h s) = s := Fin.ext (by
  refine (crd_all (pt h s)).2.trans ?_
  have := s.isLt; show (36 * h.val + s.val) % 36 = s.val; omega)
theorem pt_eta (t : Fin (cfgA Ideal).N) : pt (grp t) (stp t) = t := Fin.ext (by
  have h0 : (grp t).val = t.val / 36 := (crd_all t).1
  have h1 : (stp t).val = t.val % 36 := (crd_all t).2
  show 36 * (grp t).val + (stp t).val = t.val
  omega)

variable (V : (c : Dev nD) → (b : Ref sig .tc) → Buf (Elt Ideal) ((c : Thread nD τ).loc b)) (c : Dev nD)

/-- The accumulators after step `s` of group `h`. -/
def accs' (h : Fin 4) (s : Fin 36) : Acc Ideal := accAt V c ((pt h s).val + 1)
theorem accs'_eq (h : Fin 4) (s : Fin 36) : accs' V c h s = (step V c (pt h s) (accAt V c (pt h s).val)).1 := accAt_succ V c (pt h s)
theorem acc_before (h : Fin 4) (s s' : Fin 36) (e : s'.val + 1 = s.val) : accAt V c (pt h s).val = accs' V c h s' := by
  show accAt V c (36 * h.val + s.val) = accAt V c (36 * h.val + s'.val + 1)
  rw [← e]; rfl

theorem acc_dv (h g : Fin 4) (s : Fin 36) (x : Fin 512) (e : Fin 128) : (accs' V c h s).2.2 (ix2 x (loc128 g e))
    = ∑ I : Fin 8, if colB s ≤ I ∧ I ≤ rowB s then (arrs V c).dvT (headIx h g) I (rowIx (colB s) x) e else 0 := by
  refine column_sum (fun J I => (arrs V c).dvT (headIx h g) I (rowIx J x) e) (fun s => (accs' V c h s).2.2 (ix2 x (loc128 g e))) ?_ ?_ s
  · intro s hd
    rw [accs'_eq, step_dv, stp_pt, grp_pt, if_pos hd, zero_add]
  · intro s s' e hd
    rw [accs'_eq, step_dv, stp_pt, grp_pt, if_neg hd, acc_before V c h s s' e]
theorem acc_dk (h g : Fin 4) (s : Fin 36) (x : Fin 512) (e : Fin 256) : (accs' V c h s).2.1 (ix2 x (loc256 g e))
    = ∑ I : Fin 8, if colB s ≤ I ∧ I ≤ rowB s then (arrs V c).dkT (headIx h g) I (rowIx (colB s) x) e else 0 := by
  refine column_sum (fun J I => (arrs V c).dkT (headIx h g) I (rowIx J x) e) (fun s => (accs' V c h s).2.1 (ix2 x (loc256 g e))) ?_ ?_ s
  · intro s hd
    rw [accs'_eq, step_dk, stp_pt, grp_pt, if_pos hd, zero_add]
  · intro s s' e hd
    rw [accs'_eq, step_dk, stp_pt, grp_pt, if_neg hd, acc_before V c h s s' e]
theorem acc_dq (h g : Fin 4) (s : Fin 36) (hs : s.val = 35) (I : Fin 8) (r : Fin 512) (e : Fin 256) : (accs' V c h s).1 (ix2 (rowIx I r) (loc256 g e))
    = ∑ J : Fin 8, if J ≤ I then (arrs V c).dqT (headIx h g) J (rowIx I r) e else 0 := by
  refine row_sum (fun J => (arrs V c).dqT (headIx h g) J (rowIx I r) e) I (fun s => (accs' V c h s).1 (ix2 (rowIx I r) (loc256 g e))) ?_ ?_ s hs
  · intro s h0
    rw [accs'_eq, step_dq, stp_pt, grp_pt, if_pos h0, zero_add]
  · intro s s' e
    rw [accs'_eq, step_dq, stp_pt, grp_pt, if_neg (by omega), acc_before V c h s s' e]

/-! ## The results' arrays -/

/-- The block and the place in it of a row. -/
def blkOf (R : Fin 4096) : Fin 8 := ⟨R.val / 512, by have := R.isLt; omega⟩
def inBlk (R : Fin 4096) : Fin 512 := ⟨R.val % 512, Nat.mod_lt _ (by decide)⟩

namespace Arrs
variable (A : Arrs)
/-- The three gradients as the pipeline leaves them. -/
def dq (R C : Fin 4096) : EReal := ∑ J : Fin 8, if J ≤ blkOf R then A.dqT (head256 C) J R (at256 C) else 0
def dk (X C : Fin 4096) : EReal := (∑ I : Fin 8, if blkOf X ≤ I then A.dkT (head256 C) I X (at256 C) else 0) * ((Real.log 2 : ℝ) : EReal)
def dv (X : Fin 4096) (C : Fin 2048) : EReal := ∑ I : Fin 8, if blkOf X ≤ I then A.dvT (head128 C) I X (at128 C) else 0
end Arrs

theorem row_eta (R : Fin 4096) : rowIx (blkOf R) (inBlk R) = R := Fin.ext (by
  show 512 * (R.val / 512) + R.val % 512 = R.val; omega)

/-- What a point stores into the results' staging buffers where it stores. -/
theorem outAt_eq (t : Fin (cfgA Ideal).N) : outAt V c t = (step V c t (accAt V c t.val)).2 := rfl
theorem accs'_at (t : Fin (cfgA Ideal).N) : (step V c t (accAt V c t.val)).1 = accs' V c (grp t) (stp t) := by
  rw [accs'_eq, pt_eta]

theorem out_dq (t : Fin (cfgA Ideal).N) (ht : (stp t).val = 35) (R : Fin 4096) (C : Fin 1024) :
    (outAt V c t).1 (ix2 R C) = (arrs V c).dq R ⟨1024 * (grp t).val + C.val, by have := (grp t).isLt; have := C.isLt; omega⟩ := by
  have hC := C.isLt
  have hg := (grp t).isLt
  rw [outAt_eq, (leaves V c t _).out6 ht, pay10_at, accs'_at]
  have e1 : C = loc256 ⟨C.val / 256, by omega⟩ ⟨C.val % 256, by omega⟩ := Fin.ext (by show C.val = C.val / 256 * 256 + C.val % 256; omega)
  have eh : headIx (grp t) ⟨C.val / 256, by omega⟩ = head256 ⟨1024 * (grp t).val + C.val, by omega⟩ := Fin.ext (by
    show 4 * (grp t).val + C.val / 256 = (1024 * (grp t).val + C.val) / 256; omega)
  have ee : (⟨C.val % 256, by omega⟩ : Fin 256) = at256 ⟨1024 * (grp t).val + C.val, by omega⟩ := Fin.ext (by
    show C.val % 256 = (1024 * (grp t).val + C.val) % 256; omega)
  conv_lhs => rw [← row_eta R, e1]
  rw [acc_dq V c _ _ _ ht, row_eta, eh, ee]
  rfl
theorem out_dk (t : Fin (cfgA Ideal).N) (ht : rowB (stp t) = 7) (x : Fin 512) (C : Fin 1024) :
    (outAt V c t).2.1 (ix2 x C) = (arrs V c).dk (rowIx (colB (stp t)) x) ⟨1024 * (grp t).val + C.val, by have := (grp t).isLt; have := C.isLt; omega⟩ := by
  have hC := C.isLt
  have hg := (grp t).isLt
  rw [outAt_eq, (leaves V c t _).out7 ht, pay8_at, accs'_at]
  have e1 : C = loc256 ⟨C.val / 256, by omega⟩ ⟨C.val % 256, by omega⟩ := Fin.ext (by show C.val = C.val / 256 * 256 + C.val % 256; omega)
  have eh : headIx (grp t) ⟨C.val / 256, by omega⟩ = head256 ⟨1024 * (grp t).val + C.val, by omega⟩ := Fin.ext (by
    show 4 * (grp t).val + C.val / 256 = (1024 * (grp t).val + C.val) / 256; omega)
  have ee : (⟨C.val % 256, by omega⟩ : Fin 256) = at256 ⟨1024 * (grp t).val + C.val, by omega⟩ := Fin.ext (by
    show C.val % 256 = (1024 * (grp t).val + C.val) % 256; omega)
  have eb : blkOf (rowIx (colB (stp t)) x) = colB (stp t) := Fin.ext (by
    have := x.isLt; show (512 * (colB (stp t)).val + x.val) / 512 = (colB (stp t)).val; omega)
  conv_lhs => rw [e1]
  rw [acc_dk V c, eh, ee]
  unfold Arrs.dk
  rw [eb, ht]
  refine congrArg (· * _) (Finset.sum_congr rfl fun I _ => if_congr ?_ rfl rfl)
  exact ⟨fun h => h.1, fun h => ⟨h, by have := I.isLt; simp only [Fin.le_def]; show I.val ≤ 7; omega⟩⟩
theorem out_dv (t : Fin (cfgA Ideal).N) (ht : rowB (stp t) = 7) (x : Fin 512) (C : Fin 512) :
    (outAt V c t).2.2 (ix2 x C) = (arrs V c).dv (rowIx (colB (stp t)) x) ⟨512 * (grp t).val + C.val, by have := (grp t).isLt; have := C.isLt; omega⟩ := by
  have hC := C.isLt
  have hg := (grp t).isLt
  rw [outAt_eq, (leaves V c t _).out8 ht, pay9_at, accs'_at]
  have e1 : C = loc128 ⟨C.val / 128, by omega⟩ ⟨C.val % 128, by omega⟩ := Fin.ext (by show C.val = C.val / 128 * 128 + C.val % 128; omega)
  have eh : headIx (grp t) ⟨C.val / 128, by omega⟩ = head128 ⟨512 * (grp t).val + C.val, by omega⟩ := Fin.ext (by
    show 4 * (grp t).val + C.val / 128 = (512 * (grp t).val + C.val) / 128; omega)
  have ee : (⟨C.val % 128, by omega⟩ : Fin 128) = at128 ⟨512 * (grp t).val + C.val, by omega⟩ := Fin.ext (by
    show C.val % 128 = (512 * (grp t).val + C.val) % 128; omega)
  have eb : blkOf (rowIx (colB (stp t)) x) = colB (stp t) := Fin.ext (by
    have := x.isLt; show (512 * (colB (stp t)).val + x.val) / 512 = (colB (stp t)).val; omega)
  conv_lhs => rw [e1]
  rw [acc_dv V c, eh, ee]
  unfold Arrs.dv
  rw [eb, ht]
  refine Finset.sum_congr rfl fun I _ => if_congr ?_ rfl rfl
  exact ⟨fun h => h.1, fun h => ⟨h, by have := I.isLt; simp only [Fin.le_def]; show I.val ≤ 7; omega⟩⟩

theorem arr_dq : (dats V 0 c).arrAt (6 : Fin 9) (cfgA Ideal).N = (fun y : S4096x4096.Idx => (arrs V c).dq (y 0) (y 1)) := by
  refine (dats V 0 c).arrAt_eq_of_covers (6 : Fin 9) _ (by decide +kernel) fun t hf y => ?_
  have ht : (stp t).val = 35 := by rw [flush6_eq] at hf; exact of_decide_eq_true hf
  have i0 : ((cfgA Ideal).win (6 : Fin 9)).index t 0 = 0 := congrFun (index6 t) 0
  have i1 : ((cfgA Ideal).win (6 : Fin 9)).index t 1 = (grp t).val := congrFun (index6 t) 1
  have key := out_dq V c t ht (y 0) (y 1)
  refine Eq.trans ?_ (key.trans (congrArg₂ _ (Fin.ext ?_) (Fin.ext ?_)))
  · blk_simp; exact congrArg (outAt V c t).1 (eq_ix2 (n0 := 4096) (n1 := 1024) y)
  · blk_simp; rw [i0]; omega
  · blk_simp; rw [i1]; dsimp only; omega
theorem arr_dk : (dats V 0 c).arrAt (7 : Fin 9) (cfgA Ideal).N = (fun y : S4096x4096.Idx => (arrs V c).dk (y 0) (y 1)) := by
  refine (dats V 0 c).arrAt_eq_of_covers (7 : Fin 9) _ (by decide +kernel) fun t hf y => ?_
  have ht : rowB (stp t) = 7 := by rw [flush7_eq] at hf; exact of_decide_eq_true hf
  have i0 : ((cfgA Ideal).win (7 : Fin 9)).index t 0 = (colB (stp t)).val := congrFun (index7 t) 0
  have i1 : ((cfgA Ideal).win (7 : Fin 9)).index t 1 = (grp t).val := congrFun (index7 t) 1
  have key := out_dk V c t ht (y 0) (y 1)
  refine Eq.trans ?_ (key.trans (congrArg₂ _ (Fin.ext ?_) (Fin.ext ?_)))
  · blk_simp; exact congrArg (outAt V c t).2.1 (eq_ix2 (n0 := 512) (n1 := 1024) y)
  · blk_simp; rw [i0]; unfold rowIx; dsimp only; omega
  · blk_simp; rw [i1]; dsimp only; omega
theorem arr_dv : (dats V 0 c).arrAt (8 : Fin 9) (cfgA Ideal).N = (fun y : S4096x2048.Idx => (arrs V c).dv (y 0) (y 1)) := by
  refine (dats V 0 c).arrAt_eq_of_covers (8 : Fin 9) _ (by decide +kernel) fun t hf y => ?_
  have ht : rowB (stp t) = 7 := by rw [flush8_eq] at hf; exact of_decide_eq_true hf
  have i0 : ((cfgA Ideal).win (8 : Fin 9)).index t 0 = (colB (stp t)).val := congrFun (index8 t) 0
  have i1 : ((cfgA Ideal).win (8 : Fin 9)).index t 1 = (grp t).val := congrFun (index8 t) 1
  have key := out_dv V c t ht (y 0) (y 1)
  refine Eq.trans ?_ (key.trans (congrArg₂ _ (Fin.ext ?_) (Fin.ext ?_)))
  · blk_simp; exact congrArg (outAt V c t).2.2 (eq_ix2 (n0 := 512) (n1 := 512) y)
  · blk_simp; rw [i0]; unfold rowIx; dsimp only; omega
  · blk_simp; rw [i1]; dsimp only; omega

end Cert.KernelIdeal.Flash

end
-- ==== Proof.Flash.Value.lean ====
/- The kernel's sums at finite arguments: they are the gradient over the reals. -/
module

public import proofs.«01_k».proof.Proof.Flash.Sums

@[expose] public section

set_option maxRecDepth 16384

noncomputable section

namespace Cert.KernelIdeal.Flash

open Cert.KernelIdeal Cert.KernelIdeal.Gen
open Idealize.ShloMosaic Cert.Softmax

/-! ## Sums over blocks -/

/-- A sum over the rows is one over the blocks and the rows in each. -/
theorem sum_blocks (g : Fin 4096 → ℝ) : ∑ J : Fin 8, ∑ x : Fin 512, g (rowIx J x) = ∑ X : Fin 4096, g X := by
  rw [← Fintype.sum_prod_type' (f := fun (J : Fin 8) (x : Fin 512) => g (rowIx J x))]
  refine Fintype.sum_equiv (finProdFinEquiv (m := 8) (n := 512)) _ (fun X : Fin 4096 => g X) fun x => congrArg g (Fin.ext ?_)
  show 512 * x.1.val + x.2.val = x.2.val + 512 * x.1.val
  omega

/-- The column blocks up to the diagonal's hold every column that counts. -/
theorem sum_low (R : Fin 4096) (g : Fin 4096 → ℝ) (hg : ∀ X, ¬X ≤ R → g X = 0) :
    ∑ J : Fin 8, (if J ≤ blkOf R then ∑ x : Fin 512, g (rowIx J x) else 0) = ∑ X : Fin 4096, g X := by
  rw [← sum_blocks]
  refine Finset.sum_congr rfl fun J _ => ?_
  split
  · rfl
  · rename_i hJ
    refine (Finset.sum_eq_zero fun x _ => hg _ fun hX => hJ ?_).symm
    have h1 : 512 * J.val + x.val ≤ R.val := hX
    show J.val ≤ R.val / 512
    omega

/-- The row blocks from the diagonal's on hold every row that counts. -/
theorem sum_high (X : Fin 4096) (g : Fin 4096 → ℝ) (hg : ∀ R, ¬X ≤ R → g R = 0) :
    ∑ I : Fin 8, (if blkOf X ≤ I then ∑ r : Fin 512, g (rowIx I r) else 0) = ∑ R : Fin 4096, g R := by
  rw [← sum_blocks]
  refine Finset.sum_congr rfl fun I _ => ?_
  split
  · rfl
  · rename_i hI
    refine (Finset.sum_eq_zero fun r _ => hg _ fun hX => hI ?_).symm
    have h1 : X.val ≤ 512 * I.val + r.val := hX
    have := r.isLt
    show X.val / 512 ≤ I.val
    omega

/-- A sum of reals under conditions is a real. -/
theorem sum_ite_coe (P : Fin 8 → Prop) [DecidablePred P] {f : Fin 8 → EReal} (a : Fin 8 → ℝ) (h : ∀ J, f J = ((a J : ℝ) : EReal)) :
    ∑ J : Fin 8, (if P J then f J else 0) = ((∑ J : Fin 8, (if P J then a J else 0) : ℝ) : EReal) := by
  rw [coe_sum]
  refine Finset.sum_congr rfl fun J _ => ?_
  split
  · exact h J
  · exact EReal.coe_zero.symm

/-- A sum over 256 lanes of which the last 64 hold zeros. -/
theorem sum_lanes (f : Fin 192 → ℝ) : ∑ e : Fin 256, (if h : e.val < 192 then f ⟨e.val, h⟩ else 0) = ∑ e : Fin 192, f e := by
  refine (Fin.sum_univ_add (a := 192) (b := 64) fun e : Fin 256 => if h : e.val < 192 then f ⟨e.val, h⟩ else 0).trans ?_
  rw [Finset.sum_congr (g := fun e : Fin 192 => f e) rfl fun e _ => dif_pos e.isLt, Finset.sum_eq_zero (f := fun e : Fin 64 => _) fun e _ => dif_neg (by
    show ¬192 + e.val < 192
    omega), add_zero]

/-! ## The arrays -/

/-- A lane of a padded row of a head. -/
def lane (f : Fin 192 → ℝ) (e : Fin 256) : ℝ := if h : e.val < 192 then f ⟨e.val, h⟩ else 0

/-- What the kernel's arrays hold of the reals `D`: the queries carry the scale and the base of the powers of two. -/
structure Arrs.Holds (A : Arrs) (D : Data) : Prop where
  q : ∀ R h e, A.q (ix2 R (col256 h e)) = ((lane (fun e => D.q R h e * scale / Real.log 2) e : ℝ) : EReal)
  k : ∀ R h e, A.k (ix2 R (col256 h e)) = ((lane (D.k R h) e : ℝ) : EReal)
  v : ∀ R h f, A.v (ix2 R (col256 h (wide f))) = ((D.v R h f : ℝ) : EReal)
  d : ∀ R h f, A.d (ix2 R (col128 h f)) = ((D.d R h f : ℝ) : EReal)
  l : ∀ R h, A.l (ix2 R (col128 h 0)) = ((Real.log (D.z h R) / Real.log 2 : ℝ) : EReal)
  δ : ∀ R h, A.δ (ix2 R (col128 h 0)) = ((D.δ h R : ℝ) : EReal)

variable {A : Arrs} {D : Data} (H : A.Holds D)

/-- The score in base two. -/
theorem lanes_score (h : Fin 16) (R X : Fin 4096) : ∑ e : Fin 256, lane (fun e => D.q R h e * scale / Real.log 2) e * lane (D.k X h) e = D.s h R X / Real.log 2 := by
  rw [Finset.sum_congr (g := fun e : Fin 256 => if h' : e.val < 192 then D.q R h ⟨e.val, h'⟩ * scale / Real.log 2 * D.k X h ⟨e.val, h'⟩ else 0) rfl fun e _ => by
    unfold lane
    by_cases he : e.val < 192
    · rw [dif_pos he, dif_pos he, dif_pos he]
    · rw [dif_neg he, dif_neg he, dif_neg he, zero_mul], sum_lanes fun e => D.q R h e * scale / Real.log 2 * D.k X h e, Data.s, Finset.sum_mul, Finset.sum_div]
  exact Finset.sum_congr rfl fun e _ => by ring

include H in
theorem prob_eq (h : Fin 16) (R X : Fin 4096) : A.prob h R X = ((D.p h R X : ℝ) : EReal) := by
  unfold Arrs.prob
  rw [sum_coe_mul _ _ (H.q R h) (H.k X h), lanes_score, H.l]
  exact D.exp2_sc h R X

include H in
theorem dsc_eq (h : Fin 16) (R X : Fin 4096) : A.dsc h R X = ((D.ds h R X : ℝ) : EReal) := by
  unfold Arrs.dsc
  rw [prob_eq H, sum_coe_mul _ _ (H.d R h) (H.v X h), H.δ, ← EReal.coe_sub, ← EReal.coe_mul]
  rfl

include H in
theorem dvT_eq (h : Fin 16) (I : Fin 8) (X : Fin 4096) (f : Fin 128) : A.dvT h I X f = ((∑ r : Fin 512, D.p h (rowIx I r) X * D.d (rowIx I r) h f : ℝ) : EReal) := by
  unfold Arrs.dvT
  exact sum_coe_mul _ _ (fun r => prob_eq H h (rowIx I r) X) (fun r => H.d (rowIx I r) h f)

include H in
theorem dkT_eq (h : Fin 16) (I : Fin 8) (X : Fin 4096) (e : Fin 256) : A.dkT h I X e
    = ((∑ r : Fin 512, D.ds h (rowIx I r) X * lane (fun e => D.q (rowIx I r) h e * scale / Real.log 2) e : ℝ) : EReal) := by
  unfold Arrs.dkT
  exact sum_coe_mul _ _ (fun r => dsc_eq H h (rowIx I r) X) (fun r => H.q (rowIx I r) h e)

include H in
theorem dqT_eq (h : Fin 16) (J : Fin 8) (R : Fin 4096) (e : Fin 256) : A.dqT h J R e
    = ((∑ x : Fin 512, D.ds h R (rowIx J x) * lane (D.k (rowIx J x) h) e * scale : ℝ) : EReal) := by
  unfold Arrs.dqT
  rw [sum_coe_mul _ _ (fun x => dsc_eq H h R (rowIx J x)) (fun x => H.k (rowIx J x) h e), scale_coe, ← EReal.coe_mul, Finset.sum_mul]

/-! ## The results -/

include H in
theorem dv_eq (X : Fin 4096) (C : Fin 2048) : A.dv X C = D.dvA X C := by
  unfold Arrs.dv
  rw [sum_ite_coe _ _ fun I => dvT_eq H (head128 C) I X (at128 C), sum_high X (fun R => D.p (head128 C) R X * D.d R (head128 C) (at128 C)) fun R hR => by rw [D.p_past hR, zero_mul]]
  rfl

include H in
theorem dq_eq (R C : Fin 4096) : A.dq R C = D.dqA R C := by
  unfold Arrs.dq
  rw [sum_ite_coe _ _ fun J => dqT_eq H (head256 C) J R (at256 C),
    sum_low R (fun X => D.ds (head256 C) R X * lane (D.k X (head256 C)) (at256 C) * scale) fun X hX => by rw [D.ds_past hX, zero_mul, zero_mul]]
  unfold Data.dqA Data.dq lane
  by_cases he : (at256 C).val < 192
  · simp only [dif_pos he]
    rw [Finset.sum_mul]
  · simp only [dif_neg he, mul_zero, zero_mul, Finset.sum_const_zero, EReal.coe_zero]

include H in
theorem dk_eq (X C : Fin 4096) : A.dk X C = D.dkA X C := by
  unfold Arrs.dk
  rw [sum_ite_coe _ _ fun I => dkT_eq H (head256 C) I X (at256 C),
    sum_high X (fun R => D.ds (head256 C) R X * lane (fun e => D.q R (head256 C) e * scale / Real.log 2) (at256 C)) fun R hR => by rw [D.ds_past hR, zero_mul], ← EReal.coe_mul]
  unfold Data.dkA Data.dk lane
  by_cases he : (at256 C).val < 192
  · simp only [dif_pos he]
    congr 1
    rw [Finset.sum_mul, Finset.sum_mul]
    refine Finset.sum_congr rfl fun R _ => ?_
    have := (Real.log_pos one_lt_two).ne'
    field_simp
  · simp only [dif_neg he, mul_zero, zero_mul, Finset.sum_const_zero, EReal.coe_zero]

end Cert.KernelIdeal.Flash

end
-- ==== Proof.Flash.Saved.lean ====
/- What the host hands the kernel, at finite arguments: the queries with their scale, the padded arguments, and for each row
   the logarithm of its sum and the mean the backward pass subtracts. -/
module

public import proofs.«01_k».proof.Proof.Flash.Value
public import proofs.«01_k».proof.Proof.Flash.Launch
public import Idealize.ShloMosaic.Lib.StableHlo.RunRead

@[expose] public section

set_option maxRecDepth 16384

noncomputable section

namespace Cert.KernelIdeal.Flash

open Cert.KernelIdeal Cert.KernelIdeal.Gen
open Idealize.ShloMosaic Cert.Softmax
open Idealize.ShloMosaic.TcCoe Idealize.ShloMosaic.Tactic

/-! ## The host's stages -/

section Stages
variable (q k : FVec Ideal S4096x16x192 .bf16) (v d : FVec Ideal S4096x16x128 .bf16)

/-- The mask, the masked scores, a row's greatest, the weights relative to it, their sum and the probabilities. -/
def hMask : IVec S16x4096x4096 1 :=
  broadcastInDim S16x4096x4096 ![0, 1, 2] bcast_S1x4096x4096_S16x4096x4096_0_1_2
    (broadcastInDim S1x4096x4096 ![1, 2] bcast_S4096x4096_S1x4096x4096_1_2 (cmpi .sle (iotaInDim S4096x4096 32 1) (iotaInDim S4096x4096 32 0)))
def hScore : FVec Ideal S16x4096x4096 .f32 :=
  select hMask
    (mulf (Host.dotGeneral dot_S4096x16x192_S4096x16x192_S16x4096x4096_2_2_0_0_1_1 none (extf .f32 q bitsLt_bf16_f32) (extf .f32 k bitsLt_bf16_f32))
      (broadcastInDim S16x4096x4096 ![] bcast_S_S16x4096x4096 (constant S_ .f32 0x3D93CD3A#32)))
    (broadcastInDim S16x4096x4096 ![] bcast_S_S16x4096x4096 (id (constant S_ .f32 0xFF800000#32)))
def hMax : FVec Ideal S16x4096x1 .f32 :=
  broadcastInDim S16x4096x1 ![0, 1] bcast_S16x4096_S16x4096x1_0_1
    (Host.reduce FloatOps.maximumf (hScore q k) (constant S_ .f32 0xFF800000#32) reducesTo_S16x4096x4096_S16x4096_d2 h_S_)
def hExp : FVec Ideal S16x4096x4096 .f32 :=
  Host.exp (subf (hScore q k) (broadcastInDim S16x4096x4096 ![0, 1, 2] bcast_S16x4096x1_S16x4096x4096_0_1_2 (hMax q k)))
def hSum : FVec Ideal S16x4096x1 .f32 :=
  broadcastInDim S16x4096x1 ![0, 1] bcast_S16x4096_S16x4096x1_0_1
    (Host.reduceAdd (hExp q k) (constant S_ .f32 0#32) reducesTo_S16x4096x4096_S16x4096_d2 h_S_)
def hProb : FVec Ideal S16x4096x4096 .f32 :=
  Host.divf (hExp q k) (broadcastInDim S16x4096x4096 ![0, 1, 2] bcast_S16x4096x1_S16x4096x4096_0_1_2 (hSum q k))
/-- The output, and each row's product of it with the incoming gradient. -/
def hOut : FVec Ideal S4096x16x128 .bf16 :=
  truncf .bf16 (transpose S4096x16x128 [2, 0, 1]
    (Host.dotGeneral dot_S4096x16x128_S16x4096x4096_S16x128x4096_0_2_2_1_1_0 none (extf .f32 v bitsLt_bf16_f32) (hProb q k))
    transposes_S16x128x4096_S4096x16x128_2_0_1) bitsLt_bf16_f32
def hDelta : FVec Ideal S4096x16 .f32 :=
  Host.reduceAdd (mulf (extf .f32 d bitsLt_bf16_f32) (extf .f32 (hOut q k v) bitsLt_bf16_f32)) (constant S_ .f32 0#32) reducesTo_S4096x16x128_S4096x16_d2 h_S_
/-- The logarithm of two, the logarithm of a row's sum in base two, and the queries in base two. -/
def hLog2 : FVec Ideal S_ .f32 := Host.log (constant S_ .f32 0x40000000#32)
def hLse1 : FVec Ideal S16x4096x1 .f32 :=
  Host.divf (addf (hMax q k) (Host.log (hSum q k))) (broadcastInDim S16x4096x1 ![] bcast_S_S16x4096x1 hLog2)
def hLse2 : FVec Ideal S16x4096 .f32 := shapeCast S16x4096 (hLse1 q k) shapeCasts_S16x4096x1_S16x4096
def hLse : FVec Ideal S4096x16 .f32 := transpose S4096x16 [1, 0] (hLse2 q k) transposes_S16x4096_S4096x16_1_0
def hQ : FVec Ideal S4096x16x192 .bf16 :=
  truncf .bf16 (Host.divf (mulf (extf .f32 q bitsLt_bf16_f32) (broadcastInDim S4096x16x192 ![] bcast_S_S4096x16x192 (constant S_ .f32 0x3D93CD3A#32)))
    (broadcastInDim S4096x16x192 ![] bcast_S_S4096x16x192 hLog2)) bitsLt_bf16_f32
/-- The layouts: heads side by side, padded at their end, or a row's number in all lanes of its head. -/
def hPad192 (x : FVec Ideal S4096x16x192 .bf16) : FVec Ideal S4096x4096 .bf16 :=
  shapeCast S4096x4096 (pad S4096x16x256 ![0, 0, 0] ![0, 0, 64] ![0, 0, 0] x (sitofp .bf16 (constantI S_ 32 0#32)) pads_S4096x16x192_S4096x16x256_000_000_0640 h_S_)
    shapeCasts_S4096x16x256_S4096x4096
def hPad128 : FVec Ideal S4096x4096 .bf16 :=
  shapeCast S4096x4096 (pad S4096x16x256 ![0, 0, 0] ![0, 0, 128] ![0, 0, 0] v (sitofp .bf16 (constantI S_ 32 1#32)) pads_S4096x16x128_S4096x16x256_000_000_01280 h_S_)
    shapeCasts_S4096x16x256_S4096x4096
def hFlat : FVec Ideal S4096x2048 .bf16 := shapeCast S4096x2048 d shapeCasts_S4096x16x128_S4096x2048
def hLanes (x : FVec Ideal S4096x16 .f32) : FVec Ideal S4096x2048 .f32 :=
  shapeCast S4096x2048 (broadcastInDim S4096x16x128 ![0, 1, 2] bcast_S4096x16x1_S4096x16x128_0_1_2 (broadcastInDim S4096x16x1 ![0, 1] bcast_S4096x16_S4096x16x1_0_1 x))
    shapeCasts_S4096x16x128_S4096x2048
end Stages

section Entry
variable (m : (ℓ : Loc nD τ sig) → Buf (Elt Ideal) ℓ) (c : Dev nD)

/-! ## The arrays as those stages of the arguments -/

theorem V_q : V m c main_v40 = hPad192 (hQ (m ((c.tc : Thread nD τ).loc main_arg0))) := by
  unfold V
  after_reads_simp
  rfl
theorem V_k : V m c main_v42 = hPad192 (m ((c.tc : Thread nD τ).loc main_arg1)) := by
  unfold V
  after_reads_simp
  rfl
theorem V_v : V m c main_v44 = hPad128 (m ((c.tc : Thread nD τ).loc main_arg2)) := by
  unfold V
  after_reads_simp
  rfl
theorem V_d : V m c main_v45 = hFlat (m ((c.tc : Thread nD τ).loc main_arg3)) := by
  unfold V
  after_reads_simp
  rfl
theorem V_l : V m c main_v48 = hLanes (hLse (m ((c.tc : Thread nD τ).loc main_arg0)) (m ((c.tc : Thread nD τ).loc main_arg1))) := by
  unfold V
  after_reads_simp
  rfl
theorem V_δ : V m c main_v51 = hLanes (hDelta (m ((c.tc : Thread nD τ).loc main_arg0)) (m ((c.tc : Thread nD τ).loc main_arg1)) (m ((c.tc : Thread nD τ).loc main_arg2)) (m ((c.tc : Thread nD τ).loc main_arg3))) := by
  unfold V
  after_reads_simp
  rfl
end Entry

/-! ## The stages at finite arguments -/

section Values
variable {D : Data} {q k : FVec Ideal S4096x16x192 .bf16} {v d : FVec Ideal S4096x16x128 .bf16} (H : Holds D q k v d)

include H in
theorem hScore_at (h : Fin 16) (R X : Fin 4096) : hScore q k (ix3 h R X) = D.sc h R X := by
  pointwise [hScore, hMask]
  rw [sum_coe_mul (D.q R h) (D.k X h) (fun e => H.q _) (fun e => H.k _), scale_coe, ← EReal.coe_mul, word_le, select_le]
  unfold Data.sc
  by_cases hX : X ≤ R
  · rw [if_pos hX, if_pos hX]; rfl
  · rw [if_neg hX, if_neg hX]; exact ofBits_negInf

include H in
theorem hMax_at (h : Fin 16) (R : Fin 4096) : ∃ m : ℝ, hMax q k (ix3 h R (0 : Fin 1)) = (m : EReal) := by
  obtain ⟨m, hm⟩ := D.rowMax_real h R
  refine ⟨m, ?_⟩
  pointwise [hMax]
  rw [← hm, ofBits_negInf]
  congr 1
  funext X
  exact hScore_at H h R X

section Row
variable {h : Fin 16} {R : Fin 4096} {m : ℝ} (hm : hMax q k (ix3 h R (0 : Fin 1)) = (m : EReal))

include H hm in
theorem hExp_at (X : Fin 4096) : hExp q k (ix3 h R X) = ((D.w h R X / Real.exp m : ℝ) : EReal) := by
  pointwise [hExp]
  rw [hScore_at H, hm]
  exact D.exp_sc h R X m

include H hm in
theorem hSum_at : hSum q k (ix3 h R (0 : Fin 1)) = ((D.z h R / Real.exp m : ℝ) : EReal) := by
  pointwise [hSum]
  exact (Finset.sum_congr rfl fun X _ => hExp_at H hm X).trans (D.sum_sc h R m)
end Row

include H in
theorem hProb_at (h : Fin 16) (R X : Fin 4096) : hProb q k (ix3 h R X) = ((D.p h R X : ℝ) : EReal) := by
  obtain ⟨m, hm⟩ := hMax_at H h R
  pointwise [hProb]
  rw [hExp_at H hm, hSum_at H hm]
  exact D.div_sc h R X m

include H in
theorem hOut_at (h : Fin 16) (R : Fin 4096) (f : Fin 128) : hOut q k v (ix3 R h f) = ((∑ X : Fin 4096, D.v X h f * D.p h R X : ℝ) : EReal) := by
  pointwise [hOut]
  exact sum_coe_mul (fun X => D.v X h f) (fun X => D.p h R X) (fun X => H.v _) (fun X => hProb_at H h R X)

include H in
theorem hDelta_at (h : Fin 16) (R : Fin 4096) : hDelta q k v d (ix2 R h) = ((D.δ h R : ℝ) : EReal) := by
  pointwise [hDelta]
  rw [sum_coe_mul (fun f => D.d R h f) (fun f => ∑ X : Fin 4096, D.v X h f * D.p h R X) (fun f => H.d _) (fun f => hOut_at H h R f), D.delta_eq]

theorem hLog2_at (i : S_.Idx) : hLog2 i = ((Real.log 2 : ℝ) : EReal) := by
  show Ideal.log (Ideal.ofBits .f32 0x40000000#32) = _
  have e : Ideal.ofBits .f32 0x40000000#32 = ((2 : ℝ) : EReal) := by
    simp [Ideal.ofBits, Ideal.ieee]
    rw [← EReal.coe_mul]
    norm_num
  rw [e, Ideal.log_coe, if_neg (not_le.mpr two_pos)]

theorem quotient_at (a b : FVec Ideal S16x4096x1 .f32) (z : FVec Ideal S_ .f32) (i : S16x4096x1.Idx) :
    Host.divf (addf a (Host.log b)) (broadcastInDim S16x4096x1 ![] bcast_S_S16x4096x1 z) i = Ideal.div (a i + Ideal.log (b i)) (z Idealize.ShloMosaic.ix0) :=
  congrArg (Ideal.div (a i + Ideal.log (b i))) (broadcastInDim_apply _ bcast_S_S16x4096x1 z i Idealize.ShloMosaic.ix0 (fun a => a.elim0))
include H in
theorem hLse1_at (h : Fin 16) (R : Fin 4096) : hLse1 q k (ix3 h R (0 : Fin 1)) = ((Real.log (D.z h R) / Real.log 2 : ℝ) : EReal) := by
  obtain ⟨m, hm⟩ := hMax_at H h R
  unfold hLse1
  rw [quotient_at, hm, hSum_at H hm, hLog2_at]
  exact D.lse_coe h R m
theorem cast_at (y : FVec Ideal S16x4096x1 .f32) (h : Fin 16) (R : Fin 4096) : shapeCast S16x4096 y shapeCasts_S16x4096x1_S16x4096 (ix2 h R) = y (ix3 h R (0 : Fin 1)) :=
  shapeCast_apply y shapeCasts_S16x4096x1_S16x4096 (ix2 h R) (ix3 h R (0 : Fin 1)) (by
    rewrite [Shape.rowMajor_val_three, Shape.rowMajor_val_two]
    show (h.val * 4096 + R.val) * 1 + 0 = h.val * 4096 + R.val
    omega)
theorem transpose_at (y : FVec Ideal S16x4096 .f32) (h : Fin 16) (R : Fin 4096) : transpose S4096x16 [1, 0] y transposes_S16x4096_S4096x16_1_0 (ix2 R h) = y (ix2 h R) := by
  pointwise
include H in
theorem hLse_at (h : Fin 16) (R : Fin 4096) : hLse q k (ix2 R h) = ((Real.log (D.z h R) / Real.log 2 : ℝ) : EReal) := by
  unfold hLse hLse2
  rw [transpose_at, cast_at, hLse1_at H]

include H in
theorem hQ_at (h : Fin 16) (R : Fin 4096) (e : Fin 192) : hQ q (ix3 R h e) = ((D.q R h e * scale / Real.log 2 : ℝ) : EReal) := by
  pointwise [hQ]
  rw [hLog2_at, scale_coe, H.q, ← EReal.coe_mul, div_coe_coe (Real.log_pos one_lt_two).ne']
  rfl

/-- A padded array at a column of a head. -/
theorem hPad192_at (x : FVec Ideal S4096x16x192 .bf16) (f : Fin 4096 → Fin 16 → Fin 192 → ℝ) (hx : ∀ R h e, x (ix3 R h e) = ((f R h e : ℝ) : EReal))
    (R : Fin 4096) (h : Fin 16) (e : Fin 256) : hPad192 x (ix2 R (col256 h e)) = ((lane (f R h) e : ℝ) : EReal) := by
  pointwise [hPad192]
  have c0 : (col256 h e).val = 256 * h.val + e.val := rfl
  have hh := h.isLt
  have he := e.isLt
  have c1 : (col256 h e).val / 256 = h.val := by omega
  have c2 : (col256 h e).val % 256 = e.val := by omega
  simp only [c1, c2]
  unfold lane
  by_cases hl : e.val < 192
  · rw [dif_pos ⟨hh, hl⟩, dif_pos hl]; exact hx R h ⟨e.val, hl⟩
  · rw [dif_neg fun hc => hl hc.2, dif_neg hl]
    show (((0#32 : BitVec 32).toInt : ℝ) : EReal) = _
    simp
theorem hPad128_at (x : FVec Ideal S4096x16x128 .bf16) (R : Fin 4096) (h : Fin 16) (f : Fin 128) : hPad128 x (ix2 R (col256 h (wide f))) = x (ix3 R h f) := by
  pointwise [hPad128]
  have c0 : (col256 h (wide f)).val = 256 * h.val + f.val := rfl
  have hh := h.isLt
  have hf := f.isLt
  have c1 : (col256 h (wide f)).val / 256 = h.val := by omega
  have c2 : (col256 h (wide f)).val % 256 = f.val := by omega
  simp only [c1, c2]
  rw [dif_pos ⟨hh, hf⟩]
theorem hFlat_at (x : FVec Ideal S4096x16x128 .bf16) (R : Fin 4096) (h : Fin 16) (f : Fin 128) : hFlat x (ix2 R (col128 h f)) = x (ix3 R h f) := by
  pointwise [hFlat]
  have c0 : (col128 h f).val = 128 * h.val + f.val := rfl
  have hf := f.isLt
  have c1 : (col128 h f).val / 128 = h.val := by omega
  have c2 : (col128 h f).val % 128 = f.val := by omega
  simp only [c1, c2]
theorem hLanes_at (x : FVec Ideal S4096x16 .f32) (R : Fin 4096) (h : Fin 16) (f : Fin 128) : hLanes x (ix2 R (col128 h f)) = x (ix2 R h) := by
  pointwise [hLanes]
  have c0 : (col128 h f).val = 128 * h.val + f.val := rfl
  have hf := f.isLt
  have c1 : (col128 h f).val / 128 = h.val := by omega
  simp only [c1]
end Values

end Cert.KernelIdeal.Flash

end
-- ==== Proof.Flash.Entry.lean ====
/- At finite arguments the kernel's arrays hold the reals its sums ask for. -/
module

public import proofs.«01_k».proof.Proof.Flash.Saved

@[expose] public section

set_option maxRecDepth 16384

noncomputable section

namespace Cert.KernelIdeal.Flash

open Cert.KernelIdeal Cert.KernelIdeal.Gen
open Idealize.ShloMosaic Cert.Softmax
open Idealize.ShloMosaic.TcCoe Idealize.ShloMosaic.Tactic

variable (m : (ℓ : Loc nD τ sig) → Buf (Elt Ideal) ℓ) (c : Dev nD) {D : Data}
  (H : Holds D (m ((c.tc : Thread nD τ).loc main_arg0)) (m ((c.tc : Thread nD τ).loc main_arg1)) (m ((c.tc : Thread nD τ).loc main_arg2)) (m ((c.tc : Thread nD τ).loc main_arg3)))

include H in
theorem entry_q (R : Fin 4096) (h : Fin 16) (e : Fin 256) : (arrs (V m) c).q (ix2 R (col256 h e)) = ((lane (fun e => D.q R h e * scale / Real.log 2) e : ℝ) : EReal) := by
  refine (congrFun (V_q m c) _).trans ?_
  exact hPad192_at _ (fun R h e => D.q R h e * scale / Real.log 2) (fun R h e => hQ_at H h R e) R h e
include H in
theorem entry_k (R : Fin 4096) (h : Fin 16) (e : Fin 256) : (arrs (V m) c).k (ix2 R (col256 h e)) = ((lane (D.k R h) e : ℝ) : EReal) := by
  refine (congrFun (V_k m c) _).trans ?_
  exact hPad192_at _ D.k (fun R h e => H.k _) R h e
include H in
theorem entry_v (R : Fin 4096) (h : Fin 16) (f : Fin 128) : (arrs (V m) c).v (ix2 R (col256 h (wide f))) = ((D.v R h f : ℝ) : EReal) := by
  refine (congrFun (V_v m c) _).trans ?_
  rw [hPad128_at]
  exact H.v _
include H in
theorem entry_d (R : Fin 4096) (h : Fin 16) (f : Fin 128) : (arrs (V m) c).d (ix2 R (col128 h f)) = ((D.d R h f : ℝ) : EReal) := by
  refine (congrFun (V_d m c) _).trans ?_
  rw [hFlat_at]
  exact H.d _
include H in
theorem entry_l (R : Fin 4096) (h : Fin 16) : (arrs (V m) c).l (ix2 R (col128 h 0)) = ((Real.log (D.z h R) / Real.log 2 : ℝ) : EReal) := by
  refine (congrFun (V_l m c) _).trans ?_
  rw [hLanes_at]
  exact hLse_at H h R
include H in
theorem entry_δ (R : Fin 4096) (h : Fin 16) : (arrs (V m) c).δ (ix2 R (col128 h 0)) = ((D.δ h R : ℝ) : EReal) := by
  refine (congrFun (V_δ m c) _).trans ?_
  rw [hLanes_at]
  exact hDelta_at H h R

include H in
theorem arrs_holds : (arrs (V m) c).Holds D where
  q := entry_q m c H
  k := entry_k m c H
  v := entry_v m c H
  d := entry_d m c H
  l := entry_l m c H
  δ := entry_δ m c H

end Cert.KernelIdeal.Flash

end
-- ==== Proof.Flash.Plain.lean ====
/- The reference at finite arguments: its results are the gradient over the reals. -/
module

public import proofs.«01_k».proof.Proof.Flash.Softmax
public import proofs.«01_k».proof.Proof.Gen.ReferenceIdeal.Read

@[expose] public section

set_option maxRecDepth 16384

noncomputable section

namespace Cert.ReferenceIdeal.Plain

open Cert.ReferenceIdeal Cert.ReferenceIdeal.Gen Cert.ReferenceIdeal.Read
open Idealize.ShloMosaic Cert.Softmax

variable {D : Data} {x0 x1 : S4096x16x192.Idx → EReal} {x2 x3 : S4096x16x128.Idx → EReal} (H : Holds D x0 x1 x2 x3)

/-- The mask is set up to the diagonal. -/
theorem mask_at (i : S16x4096x4096.Idx) : val_main_v12_1 (F := Ideal) i = if i 2 ≤ i 1 then 1#1 else 0#1 := by
  rw [val_main_v12_1_apply, val_main_v11_apply, val_main_v10_apply, val_main_v8_apply, val_main_v6_apply, val_main_v9_apply, val_main_v7_apply,
    val_main_v5_apply, val_main_v5_apply]
  exact word_le (i 2) (i 1)

include H in
theorem score_at (i : S16x4096x4096.Idx) : val_main_v4 (F := Ideal) x0 x1 i = ((D.s (i 0) (i 1) (i 2) : ℝ) : EReal) := by
  rw [val_main_v4_apply, val_main_v2_apply, sum_coe_mul (fun e => D.q (i 1) (i 0) e) (fun e => D.k (i 2) (i 0) e) (fun e => H.q _) (fun e => H.k _)]
  show _ * Ideal.ofBits .f32 0x3D93CD3A#32 = _
  rw [scale_coe, ← EReal.coe_mul]
  rfl

include H in
theorem masked_at (i : S16x4096x4096.Idx) : val_main_v12_0 (F := Ideal) x0 x1 i = D.sc (i 0) (i 1) (i 2) := by
  rw [val_main_v12_0_apply, mask_at, score_at H]
  refine (select_le (i 2) (i 1) _ _).trans ?_
  unfold Data.sc
  split
  · rfl
  · exact ofBits_negInf

include H in
theorem max_at (i : S16x4096.Idx) : ∃ m : ℝ, val_main_v20 (F := Ideal) x0 x1 i = (m : EReal) := by
  obtain ⟨m, hm⟩ := D.rowMax_real (i 0) (i 1)
  refine ⟨m, ?_⟩
  rw [val_main_v20_apply]
  show max (Ideal.ofBits .f32 0xFF800000#32) _ = _
  rw [ofBits_negInf, max_eq_right bot_le, ← hm]
  unfold val_main_v13
  rw [Host.reduce_eq_fold_single (FloatOps.maximumf (F := Ideal) (φ := .f32)) _ _ _ (by decide) _ i]
  show Finset.fold max (Ideal.ofBits .f32 0xFF800000#32) _ _ = _
  rw [ofBits_negInf]
  congr 1
  funext X
  exact masked_at H _

/-- The row maxima are reals. -/
theorem rowMax (H : Holds D x0 x1 x2 x3) : ∃ M : Fin 16 → Fin 4096 → ℝ, ∀ i, val_main_v20 (F := Ideal) x0 x1 i = ((M (i 0) (i 1) : ℝ) : EReal) := by
  have h : ∀ (h : Fin 16) (R : Fin 4096), ∃ m : ℝ, val_main_v20 (F := Ideal) x0 x1 (ix2 h R) = (m : EReal) := fun h R => max_at H (ix2 h R)
  choose M hM using h
  exact ⟨M, fun i => (congrArg _ (eq_ix2 i)).trans (hM (i 0) (i 1))⟩

section Rows
variable {M : Fin 16 → Fin 4096 → ℝ} (hM : ∀ i, val_main_v20 (F := Ideal) x0 x1 i = ((M (i 0) (i 1) : ℝ) : EReal))

include H hM in
theorem weight_at (i : S16x4096x4096.Idx) : val_main_v33 (F := Ideal) x0 x1 i = ((D.w (i 0) (i 1) (i 2) / Real.exp (M (i 0) (i 1)) : ℝ) : EReal) := by
  rw [val_main_v33_apply, val_main_v32_apply, masked_at H, val_main_v31_apply, val_main_v30_apply, hM]
  exact D.exp_sc (i 0) (i 1) (i 2) _

include H hM in
theorem total_at (i : S16x4096x1.Idx) : val_main_v35 (F := Ideal) x0 x1 i = ((D.z (i 0) (i 1) / Real.exp (M (i 0) (i 1)) : ℝ) : EReal) := by
  rw [val_main_v35_apply, val_main_v34_apply]
  show Ideal.ofBits .f32 0x00000000#32 + _ = _
  rw [Ideal.ofBits_zero_f32, zero_add]
  exact (Finset.sum_congr rfl fun X _ => weight_at H hM _).trans (D.sum_sc (i 0) (i 1) _)

include H hM in
theorem prob_at (i : S16x4096x4096.Idx) : val_main_v37 (F := Ideal) x0 x1 i = ((D.p (i 0) (i 1) (i 2) : ℝ) : EReal) := by
  rw [val_main_v37_apply, weight_at H hM, val_main_v36_apply, total_at H hM]
  exact D.div_sc (i 0) (i 1) (i 2) _

include H in
theorem d_at (i : S16x128x4096.Idx) : val_main_v46 (F := Ideal) x3 i = ((D.d (i 2) (i 0) (i 1) : ℝ) : EReal) := by
  rw [val_main_v46_apply]
  exact H.d _

include H in
theorem dp_at (i : S16x4096x4096.Idx) : val_main_v47 (F := Ideal) x2 x3 i = ((D.dp (i 0) (i 1) (i 2) : ℝ) : EReal) := by
  rw [val_main_v47_apply]
  exact sum_coe_mul (fun f => D.d (i 1) (i 0) f) (fun f => D.v (i 2) (i 0) f) (fun f => d_at H _) (fun f => H.v _)

include H hM in
theorem dv_at (i : S4096x16x128.Idx) : val_main_v50 (F := Ideal) x0 x1 x3 i = ((D.dv (i 1) (i 0) (i 2) : ℝ) : EReal) := by
  rw [val_main_v50_apply]
  show val_main_v49 (F := Ideal) x0 x1 x3 i = _
  rw [val_main_v49_apply, val_main_v48_apply, sum_coe_mul (fun R => D.d R (i 1) (i 2)) (fun R => D.p (i 1) R (i 0)) (fun R => d_at H _) (fun R => prob_at H hM _)]
  unfold Data.dv
  congr 1
  exact Finset.sum_congr rfl fun R _ => mul_comm _ _

include H hM in
theorem mean_at (i : S16x4096x1.Idx) : val_main_v55 (F := Ideal) x0 x1 x2 x3 i
    = ((∑ Y : Fin 4096, D.dp (i 0) (i 1) Y * (1 / (D.z (i 0) (i 1) / Real.exp (M (i 0) (i 1)) * (D.z (i 0) (i 1) / Real.exp (M (i 0) (i 1)))))
        * (D.w (i 0) (i 1) Y / Real.exp (M (i 0) (i 1))) : ℝ) : EReal) := by
  have h0 : (i 0).val < 16 := (i 0).isLt
  have h1 : (i 1).val < 4096 := (i 1).isLt
  have h2 : (i 2).val < 1 := (i 2).isLt
  have e : idx_main_v55 i = ix2 (n0 := 16) (n1 := 4096) (i 0) (i 1) := funext fun a => match a with
    | ⟨0, _⟩ => Fin.ext (by show (((i 0).val * 4096 + (i 1).val) * 1 + (i 2).val) / 4096 = (i 0).val; omega)
    | ⟨1, _⟩ => Fin.ext (by show (((i 0).val * 4096 + (i 1).val) * 1 + (i 2).val) % 4096 = (i 1).val; omega)
  rw [val_main_v55_apply, val_main_v54_apply, e]
  show Ideal.ofBits .f32 0x00000000#32 + _ = _
  rw [Ideal.ofBits_zero_f32, zero_add, coe_sum]
  refine Finset.sum_congr rfl fun Y _ => ?_
  rw [val_main_v53_apply, val_main_v52_apply, val_main_v51_apply, val_main_v40_apply, val_main_v38_apply]
  show _ * Ideal.div (Ideal.ofBits .f32 0x3F800000#32) (_ * _) * _ = _
  rw [Ideal.ofBits_one_f32]
  exact D.mean_term (i 0) (i 1) Y _ (dp_at H _) (total_at H hM _) (weight_at H hM _)

include H hM in
theorem ds_at (i : S16x4096x4096.Idx) : val_main_v65 (F := Ideal) x0 x1 x2 x3 i = ((D.ds (i 0) (i 1) (i 2) * scale : ℝ) : EReal) := by
  rw [val_main_v65_apply, val_main_v64_apply, val_main_v63_apply, mask_at]
  show Scalar.select _ _ _ * Ideal.ofBits .f32 0x3D93CD3A#32 = _
  rw [scale_coe, EReal.coe_mul]
  congr 1
  refine (select_le (i 2) (i 1) _ _).trans ?_
  split
  · rw [val_main_v62_apply, val_main_v61_apply, val_main_v58_apply, val_main_v57_apply, val_main_v60_apply, val_main_v59_apply]
    show (Ideal.div _ _ + (Ideal.ofBits .f32 0x00000000#32 + _)) * _ = _
    rw [Ideal.ofBits_zero_f32, zero_add, Fin.sum_univ_one, val_main_v56_apply]
    exact D.ds_of_parts (i 0) (i 1) (i 2) _ (dp_at H i) (total_at H hM _) (mean_at H hM _) (weight_at H hM i)
  · rename_i hX
    refine Eq.trans ?_ (congrArg (fun x : ℝ => (x : EReal)) (D.ds_past (h := i 0) hX).symm)
    show Ideal.ofBits .f32 0x00000000#32 = _
    rw [Ideal.ofBits_zero_f32, EReal.coe_zero]

include H hM in
theorem dk_at (i : S4096x16x192.Idx) : val_main_v70 (F := Ideal) x0 x1 x2 x3 i = ((D.dk (i 1) (i 0) (i 2) : ℝ) : EReal) := by
  rw [val_main_v70_apply]
  show val_main_v67 (F := Ideal) x0 x1 x2 x3 i = _
  rw [val_main_v67_apply, val_main_v66_apply, sum_coe_mul (fun R => D.ds (i 1) R (i 0) * scale) (fun R => D.q R (i 1) (i 2)) (fun R => ds_at H hM _) (fun R => H.q _)]
  unfold Data.dk
  congr 1
  rw [Finset.sum_mul]
  exact Finset.sum_congr rfl fun R _ => by ring

include H hM in
theorem dq_at (i : S4096x16x192.Idx) : val_main_v71 (F := Ideal) x0 x1 x2 x3 i = ((D.dq (i 1) (i 0) (i 2) : ℝ) : EReal) := by
  rw [val_main_v71_apply]
  show val_main_v69 (F := Ideal) x0 x1 x2 x3 i = _
  rw [val_main_v69_apply, val_main_v68_apply, sum_coe_mul (fun X => D.ds (i 1) (i 0) X * scale) (fun X => D.k X (i 1) (i 2)) (fun X => ds_at H hM _) (fun X => H.k _)]
  unfold Data.dq
  congr 1
  rw [Finset.sum_mul]
  exact Finset.sum_congr rfl fun X _ => by ring
end Rows

/-! ## The three results -/

theorem res_dq (H : Holds D x0 x1 x2 x3) (i : S4096x4096.Idx) : val_main_v73 (F := Ideal) x0 x1 x2 x3 i = D.dqA (i 0) (i 1) := by
  obtain ⟨M, hM⟩ := rowMax H
  have hR : (i 0).val < 4096 := (i 0).isLt
  have hC : (i 1).val < 4096 := (i 1).isLt
  rw [val_main_v73_apply]
  unfold val_main_v72
  refine (pad_high (f := fun R h e => ((D.dq h R e : ℝ) : EReal)) (dq_at H hM) _ _ _ _ (i 0) (head256 (i 1)) (at256 (i 1))
    (by show ((i 0).val * 4096 + (i 1).val) / 4096 = (i 0).val; omega)
    (by show ((i 0).val * 4096 + (i 1).val) / 256 % 16 = (i 1).val / 256; omega)
    (by show ((i 0).val * 4096 + (i 1).val) % 256 = (i 1).val % 256; omega)).trans ?_
  have e : FloatOps.sitofp (F := Ideal) .bf16 (0#32 : BitVec 32) = (0 : EReal) := by
    show (((0#32 : BitVec 32).toInt : ℝ) : EReal) = 0
    simp
  exact congrArg (fun z : EReal => if h : (at256 (i 1)).val < 192 then ((D.dq (head256 (i 1)) (i 0) ⟨(at256 (i 1)).val, h⟩ : ℝ) : EReal) else z) e

theorem res_dk (H : Holds D x0 x1 x2 x3) (i : S4096x4096.Idx) : val_main_v75 (F := Ideal) x0 x1 x2 x3 i = D.dkA (i 0) (i 1) := by
  obtain ⟨M, hM⟩ := rowMax H
  have hR : (i 0).val < 4096 := (i 0).isLt
  have hC : (i 1).val < 4096 := (i 1).isLt
  rw [val_main_v75_apply]
  unfold val_main_v74
  refine (pad_high (f := fun R h e => ((D.dk h R e : ℝ) : EReal)) (dk_at H hM) _ _ _ _ (i 0) (head256 (i 1)) (at256 (i 1))
    (by show ((i 0).val * 4096 + (i 1).val) / 4096 = (i 0).val; omega)
    (by show ((i 0).val * 4096 + (i 1).val) / 256 % 16 = (i 1).val / 256; omega)
    (by show ((i 0).val * 4096 + (i 1).val) % 256 = (i 1).val % 256; omega)).trans ?_
  have e : FloatOps.sitofp (F := Ideal) .bf16 (0#32 : BitVec 32) = (0 : EReal) := by
    show (((0#32 : BitVec 32).toInt : ℝ) : EReal) = 0
    simp
  exact congrArg (fun z : EReal => if h : (at256 (i 1)).val < 192 then ((D.dk (head256 (i 1)) (i 0) ⟨(at256 (i 1)).val, h⟩ : ℝ) : EReal) else z) e

theorem res_dv (H : Holds D x0 x1 x2 x3) (i : S4096x2048.Idx) : val_main_v76 (F := Ideal) x0 x1 x3 i = D.dvA (i 0) (i 1) := by
  obtain ⟨M, hM⟩ := rowMax H
  have hR : (i 0).val < 4096 := (i 0).isLt
  have hC : (i 1).val < 2048 := (i 1).isLt
  rw [val_main_v76_apply, dv_at H hM]
  have e0 : (idx_main_v76 i) 0 = i 0 := Fin.ext (by show ((i 0).val * 2048 + (i 1).val) / 2048 = (i 0).val; omega)
  have e1 : (idx_main_v76 i) 1 = head128 (i 1) := Fin.ext (by show ((i 0).val * 2048 + (i 1).val) / 128 % 16 = (i 1).val / 128; omega)
  have e2 : (idx_main_v76 i) 2 = at128 (i 1) := Fin.ext (by show ((i 0).val * 2048 + (i 1).val) % 128 = (i 1).val % 128; omega)
  have key : ∀ {a a' : Fin 16} {b b' : Fin 4096} {c c' : Fin 128}, a = a' → b = b' → c = c' → ((D.dv a b c : ℝ) : EReal) = ((D.dv a' b' c' : ℝ) : EReal) := by
    rintro _ _ _ _ _ _ rfl rfl rfl
    rfl
  exact key e1 e0 e2

end Cert.ReferenceIdeal.Plain

end
-- ==== Proof.Flash.Finite.lean ====
/- The precondition read: arguments all of whose entries are finite hold reals. -/
module

public import proofs.«01_k».proof.Proof.Flash.Softmax
public import proofs.«01_k».proof.Proof.Gen.Pre_finite
public import Idealize.ShloMosaic.Lib.ReduceAll

@[expose] public section

set_option maxRecDepth 16384

noncomputable section

namespace Cert.Softmax

open Cert.Pre_finite
open Idealize.ShloMosaic

/-- An extended real whose absolute value is below plus infinity is a real. -/
theorem real_of_word {x : EReal} (h : Ideal.cmp .olt (max x (-x)) (Ideal.ofBits .f32 0x7F800000#32) = 1#1) : ((x.toReal : ℝ) : EReal) = x := by
  rw [ofBits_posInf] at h
  have hlt : max x (-x) < ⊤ := by
    by_contra hc
    have h0 : Ideal.cmp .olt (max x (-x)) ⊤ = 0#1 := by
      unfold Ideal.cmp
      simp only [decide_eq_false hc]
      rfl
    rw [h0] at h
    exact absurd h (by decide)
  refine EReal.coe_toReal (fun e => ?_) (fun e => ?_)
  · rw [e] at hlt; exact absurd hlt (by simp)
  · rw [e] at hlt; exact absurd hlt (by simp)

/-- Finite arguments hold the reals of some data. -/
theorem holds_of_finite {q k : FVec Ideal S4096x16x192 .bf16} {v d : FVec Ideal S4096x16x128 .bf16}
    (h : Cert.Pre_finite.fn (F := Ideal) q k v d = fun _ => 1#1) : ∃ D : Data, Holds D q k v d := by
  dsimp only [fn, fn_part1] at h
  obtain ⟨h1, hd⟩ := IntOp.andi_eq_one.mp (congrFun h (Shape.Idx.first Cert.Pre_finite.Gen.h_S_))
  obtain ⟨h2, hv⟩ := IntOp.andi_eq_one.mp h1
  obtain ⟨hq, hk⟩ := IntOp.andi_eq_one.mp h2
  have rq : ∀ i, (((q i : EReal).toReal : ℝ) : EReal) = q i := fun i => real_of_word (Host.reduce_andi_all _ _ _ _ _ hq i)
  have rk : ∀ i, (((k i : EReal).toReal : ℝ) : EReal) = k i := fun i => real_of_word (Host.reduce_andi_all _ _ _ _ _ hk i)
  have rv : ∀ i, (((v i : EReal).toReal : ℝ) : EReal) = v i := fun i => real_of_word (Host.reduce_andi_all _ _ _ _ _ hv i)
  have rd : ∀ i, (((d i : EReal).toReal : ℝ) : EReal) = d i := fun i => real_of_word (Host.reduce_andi_all _ _ _ _ _ hd i)
  refine ⟨⟨fun R g e => (q (ix3 R g e) : EReal).toReal, fun R g e => (k (ix3 R g e) : EReal).toReal, fun R g e => (v (ix3 R g e) : EReal).toReal,
    fun R g e => (d (ix3 R g e) : EReal).toReal⟩, fun i => ?_, fun i => ?_, fun i => ?_, fun i => ?_⟩
  · exact (congrArg q (eq_ix3 i)).trans (rq _).symm
  · exact (congrArg k (eq_ix3 i)).trans (rk _).symm
  · exact (congrArg v (eq_ix3 i)).trans (rv _).symm
  · exact (congrArg d (eq_ix3 i)).trans (rd _).symm

end Cert.Softmax

end
-- ==== Proof.Flash.Algebraic.lean ====
/- The value claim: from equal finite arguments the kernel and the reference leave the same three gradients. -/
module

public import proofs.«01_k».proof.Defs
public import proofs.«01_k».proof.Proof.Flash.Entry
public import proofs.«01_k».proof.Proof.Flash.Plain
public import proofs.«01_k».proof.Proof.Flash.Finite
public import proofs.«01_k».proof.Proof.Gen.ReferenceIdeal.Run

@[expose] public section

noncomputable section

/-! ## The kernel's results -/

namespace Cert.KernelIdeal.Flash

open Cert.KernelIdeal Cert.KernelIdeal.Gen
open Idealize.ShloMosaic Idealize.SL.Sem Cert.Softmax
open Idealize.ShloMosaic.TcCoe Idealize.ShloMosaic.Tactic

/-- Run from memory `m`, the kernel leaves its three sums over the arrays the host prepared, and its arguments unchanged. -/
theorem run_results (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v52_0) = (fun y : S4096x4096.Idx => (arrs (V m) c).dq (y 0) (y 1))
      ∧ r.2.mem ((c.tc : Thread nD τ).loc main_v52_1) = (fun y : S4096x4096.Idx => (arrs (V m) c).dk (y 0) (y 1))
      ∧ r.2.mem ((c.tc : Thread nD τ).loc main_v52_2) = (fun y : S4096x2048.Idx => (arrs (V m) c).dv (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h.1 c).1 (6 : Fin 9)).trans (arr_dq (V m) c), ((h.1 c).1 (7 : Fin 9)).trans (arr_dk (V m) c), ((h.1 c).1 (8 : Fin 9)).trans (arr_dv (V m) c),
      arg_unchanged m h.1 c main_arg0 rfl (by decide) (by decide) (by decide), arg_unchanged m h.1 c main_arg1 rfl (by decide) (by decide) (by decide),
      arg_unchanged m h.1 c main_arg2 rfl (by decide) (by decide) (by decide), arg_unchanged m h.1 c main_arg3 rfl (by decide) (by decide) (by decide)⟩)
    (run_main m g)

end Cert.KernelIdeal.Flash

namespace Cert.Proof

open Idealize.ShloMosaic Idealize.SL.Sem Cert.Softmax

/-- From equal finite arguments the kernel's three results are the reference's, and neither changes its arguments. -/
theorem algebraic : Cert.algebraic_KernelIdeal_ReferenceIdeal_pre_finite := by
  intro m g m' g' hpre harg
  refine ⟨_, _, _, Cert.KernelIdeal.Flash.run_results m g, (θ_run Cert.ReferenceIdeal.defs _ _).mono (fun r h c => ?_) (Cert.ReferenceIdeal.Value.run (F := Ideal) m' g')⟩
  obtain ⟨D, H⟩ := holds_of_finite (hpre c)
  have A := Cert.KernelIdeal.Flash.arrs_holds m c H
  obtain ⟨a0, a1, a2, a3⟩ := harg c
  obtain ⟨r0, r1, r2, hr⟩ := h c
  refine ⟨r0.trans ?_, r1.trans ?_, r2.trans ?_, hr⟩
  · rw [Cert.ReferenceIdeal.Read.val_main_v73_eq, a0, a1, a2, a3]
    funext y
    exact (Cert.ReferenceIdeal.Plain.res_dq H y).trans (Cert.KernelIdeal.Flash.dq_eq A (y 0) (y 1)).symm
  · rw [Cert.ReferenceIdeal.Read.val_main_v75_eq, a0, a1, a2, a3]
    funext y
    exact (Cert.ReferenceIdeal.Plain.res_dk H y).trans (Cert.KernelIdeal.Flash.dk_eq A (y 0) (y 1)).symm
  · rw [Cert.ReferenceIdeal.Read.val_main_v76_eq, a0, a1, a3]
    funext y
    exact (Cert.ReferenceIdeal.Plain.res_dv H y).trans (Cert.KernelIdeal.Flash.dv_eq A (y 0) (y 1)).symm

end Cert.Proof

end
-- ==== Proof.Ffn.Half.lean ====
/- The constant one half, and how it passes through a sum. -/
module

public import Idealize.ShloMosaic.Lib.IdealHost
public import Idealize.ShloMosaic.Lib.Pointwise

@[expose] public section

noncomputable section

namespace Cert.Ffn

open Idealize.ShloMosaic

/-- The half both programs multiply by. -/
def half : EReal := Ideal.ofBits .f32 0x3F000000#32

/-- It is one half. -/
theorem half_eq : half = ((1 / 2 : ℝ) : EReal) := by
  unfold half
  simp [Ideal.ofBits, Ideal.ieee, -EReal.coe_mul]
  norm_num

/-- A sum's half is the sum of the halves: the half is a nonnegative real. -/
theorem sum_mul_half {ι : Type*} (s : Finset ι) (f : ι → EReal) : (∑ k ∈ s, f k) * half = ∑ k ∈ s, f k * half := by
  rw [half_eq]
  induction s using Finset.cons_induction with
  | empty => simp
  | cons a s ha ih => rw [Finset.sum_cons, Finset.sum_cons, EReal.right_distrib_of_nonneg_of_ne_top (by positivity) (EReal.coe_ne_top _), ih]

end Cert.Ffn

end
-- ==== Proof.Ffn.Gate.lean ====
/- The derivative of the gate at one entry: the kernel's factored form and the reference's sum of two products. -/
module

public import proofs.«01_k».proof.Proof.Flash.Finite
public import proofs.«01_k».proof.Proof.Ffn.Half
public import proofs.«01_k».proof.Proof.Gen.Pre_finite2

@[expose] public section

set_option maxRecDepth 16384

noncomputable section

namespace Cert.Ffn

open Idealize.ShloMosaic

/-- The gradient by the gate's input `g`, from the gradient `a` of the product and the other factor `u`. -/
def gateGrad (a g u : EReal) : EReal := a * u * (Ideal.logistic g + g * Ideal.logistic g * (1 - Ideal.logistic g))

/-- The gradient by the factor that is not gated. -/
def upGrad (a g : EReal) : EReal := a * (g * Ideal.logistic g)

/-- The entry of a panel's column `s`: the gate's gradient in the first 1408 columns, the other factor's in the rest. -/
def cell (s : ℕ) (a g u : EReal) : EReal := if s < 1408 then gateGrad a g u else upGrad a g

theorem cell_lt {s : ℕ} (h : s < 1408) (a g u : EReal) : cell s a g u = gateGrad a g u := if_pos h
theorem cell_ge {s : ℕ} (h : ¬ s < 1408) (a g u : EReal) : cell s a g u = upGrad a g := if_neg h

/-- An extended real that is a real number. -/
def IsReal (x : EReal) : Prop := ((x.toReal : ℝ) : EReal) = x

theorem isReal_coe (r : ℝ) : IsReal (r : EReal) := by unfold IsReal; rw [EReal.toReal_coe]

theorem IsReal.mul {x y : EReal} (hx : IsReal x) (hy : IsReal y) : IsReal (x * y) := by
  rw [← hx, ← hy, ← EReal.coe_mul]; exact isReal_coe _

theorem isReal_sum {ι : Type} (s : Finset ι) {f : ι → EReal} (h : ∀ i, IsReal (f i)) : IsReal (∑ i ∈ s, f i) := by
  have e : ∑ i ∈ s, f i = ∑ i ∈ s, (((f i).toReal : ℝ) : EReal) := Finset.sum_congr rfl fun i _ => (h i).symm
  rw [e, ← Cert.Softmax.coe_sum]; exact isReal_coe _

theorem isReal_half : IsReal half := by rw [half_eq]; exact isReal_coe _

/-- Over the reals the factored form is the sum of the two products that differentiating `g * logistic g` gives. -/
theorem gateGrad_eq {a g u : EReal} (ha : IsReal a) (hg : IsReal g) (hu : IsReal u) :
    gateGrad a g u = a * u * Ideal.logistic g + g * (a * u) * (Ideal.logistic g * (1 - Ideal.logistic g)) := by
  unfold gateGrad
  rw [← ha, ← hg, ← hu, Ideal.logistic_coe]
  generalize a.toReal = x, g.toReal = y, u.toReal = z
  generalize (1 + Real.exp (-y))⁻¹ = w
  have e1 : (1 : EReal) = ((1 : ℝ) : EReal) := rfl
  rw [e1]
  simp only [← EReal.coe_sub, ← EReal.coe_mul, ← EReal.coe_add]
  exact congrArg _ (by ring)

/-- Arguments all of whose entries are finite hold reals. -/
theorem real_of_finite2 {d : FVec Ideal Cert.Pre_finite2.S4096x2048 .bf16} {w : FVec Ideal Cert.Pre_finite2.S1x5632x2048 .bf16}
    {u : FVec Ideal Cert.Pre_finite2.S4096x11264 .bf16} (h : Cert.Pre_finite2.fn (F := Ideal) d w u = fun _ => 1#1) :
    (∀ i, IsReal (d i)) ∧ (∀ i, IsReal (w i)) ∧ (∀ i, IsReal (u i)) := by
  dsimp only [Cert.Pre_finite2.fn] at h
  obtain ⟨h1, hu⟩ := IntOp.andi_eq_one.mp (congrFun h (Shape.Idx.first Cert.Pre_finite2.Gen.h_S_))
  obtain ⟨hd, hw⟩ := IntOp.andi_eq_one.mp h1
  exact ⟨fun i => Cert.Softmax.real_of_word (Host.reduce_andi_all _ _ _ _ _ hd i), fun i => Cert.Softmax.real_of_word (Host.reduce_andi_all _ _ _ _ _ hw i),
    fun i => Cert.Softmax.real_of_word (Host.reduce_andi_all _ _ _ _ _ hu i)⟩

end Cert.Ffn

end
-- ==== Proof.Ffn.Da.lean ====
/- The gradient of the gated feed-forward network's inner product: a product of two matrices through the derivative of the gate. -/
module

public import proofs.«01_k».proof.Defs
public import proofs.«01_k».proof.Proof.Ffn.Gate
public import proofs.«01_k».proof.Proof.Gen.Kernel2Ideal.Value
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import Idealize.ShloMosaic.Lib.Pointwise
public import Idealize.ShloMosaic.Lib.IdealHost
public import Idealize.ShloMosaic.Lib.Pipeline.ValueKit
public import Idealize.ShloMosaic.Lib.Quiescent

@[expose] public section

set_option maxRecDepth 16384

noncomputable section

namespace Cert.Ffn

open Idealize.ShloMosaic

/-- The row of the output product's weights that column `C` of the gradient belongs to. -/
def wRow (C : Fin 11264) : Fin 5632 := ⟨C.val / 2816 * 1408 + C.val % 1408, by have := C.isLt; omega⟩
/-- The column of the gate's input that goes with column `C`. -/
def gCol (C : Fin 11264) : Fin 11264 := ⟨C.val / 2816 * 2816 + C.val % 1408, by have := C.isLt; omega⟩
/-- The column of the other factor that goes with column `C`. -/
def uCol (C : Fin 11264) : Fin 11264 := ⟨C.val / 2816 * 2816 + (1408 + C.val % 1408), by have := C.isLt; omega⟩

/-- The gradient of the gated product at a row and a column. -/
def daAt (d : (⟨2, ![4096, 2048]⟩ : Shape).Idx → EReal) (w : (⟨3, ![1, 5632, 2048]⟩ : Shape).Idx → EReal) (R : Fin 4096) (C : Fin 11264) : EReal :=
  half * ∑ k : Fin 2048, d (ix2 R k) * w (ix3 (0 : Fin 1) (wRow C) k)

/-- The whole gradient at a row and a column. -/
def ffnGrad (d : (⟨2, ![4096, 2048]⟩ : Shape).Idx → EReal) (w : (⟨3, ![1, 5632, 2048]⟩ : Shape).Idx → EReal) (u : (⟨2, ![4096, 11264]⟩ : Shape).Idx → EReal)
    (R : Fin 4096) (C : Fin 11264) : EReal :=
  cell (C.val % 2816) (daAt d w R C) (u (ix2 R (gCol C))) (u (ix2 R (uCol C)))

end Cert.Ffn

namespace Cert.Kernel2Ideal.Ffn

open Cert.Kernel2Ideal Cert.Kernel2Ideal.Gen
open Idealize.ShloMosaic Idealize.SL.Sem Cert.Ffn
open Idealize.ShloMosaic.TcCoe Idealize.ShloMosaic.Tactic

/-- The gradient of the gated product in one block. -/
theorem pay1_at (v0 : Vec Ideal S512x2048 .bf16) (v1 : Vec Ideal S1x1408x2048 .bf16) (r : Fin 512) (s : Fin 1408) :
    (k0_pay1 (F := Ideal) v0 v1 : S512x1408.Idx → EReal) (ix2 r s) = half * ∑ k : Fin 2048, (v0 (ix2 r k) : EReal) * (v1 (ix3 (0 : Fin 1) s k) : EReal) := by
  unfold k0_pay1 half
  pointwise

/-- What a point stores in the gate's columns. -/
theorem pay5_at (v0 : Vec Ideal S512x2048 .bf16) (v1 : Vec Ideal S1x1408x2048 .bf16) (v6 v8 : Vec Ideal S512x1408 .bf16) (i : S512x1408.Idx) :
    (k0_pay5 (F := Ideal) v0 v1 v6 v8 : S512x1408.Idx → EReal) i = gateGrad (k0_pay1 v0 v1 i) (v6 i) (v8 i) := by
  show (k0_pay1 v0 v1 i : EReal) * (v8 i : EReal) * (Ideal.logistic (v6 i) + (v6 i : EReal) * Ideal.logistic (v6 i) * (Ideal.ofBits .f32 0x3F800000#32 - Ideal.logistic (v6 i))) = _
  rw [Ideal.ofBits_one_f32]
  rfl

/-- What a point stores in the other columns. -/
theorem pay6_at (v0 : Vec Ideal S512x2048 .bf16) (v1 : Vec Ideal S1x1408x2048 .bf16) (v6 : Vec Ideal S512x1408 .bf16) (i : S512x1408.Idx) :
    (k0_pay6 (F := Ideal) v0 v1 v6 : S512x1408.Idx → EReal) i = upGrad (k0_pay1 v0 v1 i) (v6 i) := rfl

/-- A column of a panel, taken into its first half. -/
def lo (s : Fin 2816) : Fin 1408 := ⟨s.val % 1408, Nat.mod_lt _ (by decide)⟩
/-- The gate's column of a panel. -/
def gc (s : Fin 2816) : Fin 2816 := ⟨s.val % 1408, by omega⟩
/-- The other factor's column of a panel. -/
def uc (s : Fin 2816) : Fin 2816 := ⟨1408 + s.val % 1408, by omega⟩

theorem ld_gate (x2 : Vec Ideal S512x2816 .bf16) (r : Fin 512) (s : Fin 2816) :
    View.ld x2 r0_2 (ix2 r (lo s)) = x2 (ix2 r (gc s)) :=
  View.ld_unit_apply_of x2 _ _ _ _ _ fun a => match a with
    | 0 => (Nat.zero_add _).symm
    | 1 => (Nat.zero_add _).symm

theorem ld_up (x2 : Vec Ideal S512x2816 .bf16) (r : Fin 512) (s : Fin 2816) :
    View.ld x2 r0_3 (ix2 r (lo s)) = x2 (ix2 r (uc s)) :=
  View.ld_unit_apply_of x2 _ _ _ _ _ fun a => match a with
    | 0 => (Nat.zero_add _).symm
    | 1 => rfl

/-- Where an entry of the gate's columns lies in the block. -/
theorem emb_gate (x : r0_2.shape.Idx) (a : Fin 2) : (r0_2.emb x a).val = (![0, 0] : Fin 2 → ℕ) a + (x a).val := Rect.idx_unit_val _ _ _ x a
/-- Where an entry of the other columns lies in the block. -/
theorem emb_up (x : r0_3.shape.Idx) (a : Fin 2) : (r0_3.emb x a).val = (![0, 1408] : Fin 2 → ℕ) a + (x a).val := Rect.idx_unit_val _ _ _ x a

/-- What one point stores, at a row and a column of its block. -/
theorem out_at (x0 : Vec Ideal S512x2048 .bf16) (x1 : Vec Ideal S1x1408x2048 .bf16) (x2 : Vec Ideal S512x2816 .bf16) (r : Fin 512) (s : Fin 2816) :
    (out0_3 (F := Ideal) x0 x1 x2 : S512x2816.Idx → EReal) (ix2 r s)
      = cell s.val (half * ∑ k : Fin 2048, (x0 (ix2 r k) : EReal) * (x1 (ix3 (0 : Fin 1) (lo s) k) : EReal)) (x2 (ix2 r (gc s))) (x2 (ix2 r (uc s))) := by
  unfold out0_3
  rw [View.ld_unit_zero (View.eq_zero_of_forall (by decide)), View.ld_unit_zero (View.eq_zero_of_forall (by decide))]
  rw [← pay1_at x0 x1 r (lo s), ← ld_gate x2 r s, ← ld_up x2 r s]
  by_cases hs : s.val < 1408
  · rw [cell_lt hs, View.canon_cons_of_not_mem]
    · have e : (ix2 r s : S512x2816.Idx) = r0_2.emb (ix2 r (lo s)) := by
        refine funext fun a => Fin.ext ?_
        match a with
        | 0 => exact ((emb_gate (ix2 r (lo s)) 0).trans (Nat.zero_add _)).symm
        | 1 => exact ((emb_gate (ix2 r (lo s)) 1).trans ((Nat.zero_add _).trans (Nat.mod_eq_of_lt hs))).symm
      rw [e, View.canon_cons_emb]
      exact pay5_at _ _ _ _ _
    · intro hm
      obtain ⟨x, hx⟩ := r0_3.exists_idx_of_mem hm
      have h1 : (r0_3.emb x 1).val = s.val := congrArg Fin.val (congrFun hx 1)
      have h2 : 1408 + (x 1).val = s.val := (emb_up x 1).symm.trans h1
      omega
  · rw [cell_ge hs]
    have e : (ix2 r s : S512x2816.Idx) = r0_3.emb (ix2 r (lo s)) := by
      refine funext fun a => Fin.ext ?_
      match a with
      | 0 => exact ((emb_up (ix2 r (lo s)) 0).trans (Nat.zero_add _)).symm
      | 1 => exact ((emb_up (ix2 r (lo s)) 1).trans (by show 1408 + s.val % 1408 = s.val; omega)).symm
    rw [e, View.canon_cons_emb]
    exact pay6_at _ _ _ _

variable (m : (ℓ : Loc nD τ sig) → Buf (Elt Ideal) ℓ) (c : Dev nD)

/-- The input blocks of a point: the rows, the panel, and the block that its result block names. -/
theorem index_eq : ∀ t : Fin cfg0.N, (cfg0.win 0).index t = ![(cfg0.win 3).index t 0, 0] ∧ (cfg0.win 1).index t = ![0, (cfg0.win 3).index t 1, 0]
    ∧ (cfg0.win 2).index t = ![(cfg0.win 3).index t 0, (cfg0.win 3).index t 1] := by decide +kernel

/-- A point's first block at an index of the cotangent. -/
theorem blk0_at (t : Fin cfg0.N) (r : Fin 512) (k : Fin 2048) (R : Fin 4096) (hR : R.val = (cfg0.win 3).index t 0 * 512 + r.val) :
    (iblk m c 0 t (ix2 r k) : EReal) = (m ((c : Thread nD τ).loc main_arg0) : S4096x2048.Idx → EReal) (ix2 R k) := by
  have i0 : (cfg0.win 0).index t 0 = (cfg0.win 3).index t 0 := congrFun (index_eq t).1 0
  have e : (win0 3).index t 0 = (cfg0.win 3).index t 0 := rfl
  have i1 : (cfg0.win 0).index t 1 = 0 := congrFun (index_eq t).1 1
  show (m ((c : Thread nD τ).loc main_arg0) : S4096x2048.Idx → EReal) _ = _
  refine congrArg _ (funext fun a => Fin.ext ?_)
  match a with
  | 0 => blk_simp; rw [i0]; dsimp only; omega
  | 1 => blk_simp; rw [i1]; omega

/-- A point's second block at an index of the weights. -/
theorem blk1_at (t : Fin cfg0.N) (s : Fin 1408) (k : Fin 2048) (W : Fin 5632) (hW : W.val = (cfg0.win 3).index t 1 * 1408 + s.val) :
    (iblk m c 1 t (ix3 (0 : Fin 1) s k) : EReal) = (m ((c : Thread nD τ).loc main_arg1) : S1x5632x2048.Idx → EReal) (ix3 (0 : Fin 1) W k) := by
  have i0 : (cfg0.win 1).index t 0 = 0 := congrFun (index_eq t).2.1 0
  have e : (win0 3).index t 1 = (cfg0.win 3).index t 1 := rfl
  have i1 : (cfg0.win 1).index t 1 = (cfg0.win 3).index t 1 := congrFun (index_eq t).2.1 1
  have i2 : (cfg0.win 1).index t 2 = 0 := congrFun (index_eq t).2.1 2
  show (m ((c : Thread nD τ).loc main_arg1) : S1x5632x2048.Idx → EReal) _ = _
  refine congrArg _ (funext fun a => Fin.ext ?_)
  match a with
  | 0 => blk_simp; rw [i0]; exact Nat.zero_add _
  | 1 => blk_simp; rw [i1]; dsimp only; omega
  | 2 => blk_simp; rw [i2]; omega

/-- A point's third block at an index of the inner activations. -/
theorem blk2_at (t : Fin cfg0.N) (r : Fin 512) (s : Fin 2816) (R : Fin 4096) (C : Fin 11264) (hR : R.val = (cfg0.win 3).index t 0 * 512 + r.val)
    (hC : C.val = (cfg0.win 3).index t 1 * 2816 + s.val) :
    (iblk m c 2 t (ix2 r s) : EReal) = (m ((c : Thread nD τ).loc main_arg2) : S4096x11264.Idx → EReal) (ix2 R C) := by
  have i0 : (cfg0.win 2).index t 0 = (cfg0.win 3).index t 0 := congrFun (index_eq t).2.2 0
  have i1 : (cfg0.win 2).index t 1 = (cfg0.win 3).index t 1 := congrFun (index_eq t).2.2 1
  have e0 : (win0 3).index t 0 = (cfg0.win 3).index t 0 := rfl
  have e1 : (win0 3).index t 1 = (cfg0.win 3).index t 1 := rfl
  show (m ((c : Thread nD τ).loc main_arg2) : S4096x11264.Idx → EReal) _ = _
  refine congrArg _ (funext fun a => Fin.ext ?_)
  match a with
  | 0 => blk_simp; rw [i0]; dsimp only; omega
  | 1 => blk_simp; rw [i1]; dsimp only; omega

/-- What a point stores, at the row and the column of the whole result that its block's index names. -/
theorem point_at (t : Fin cfg0.N) (r : Fin 512) (s : Fin 2816) (R : Fin 4096) (C : Fin 11264) (hR : R.val = (cfg0.win 3).index t 0 * 512 + r.val)
    (hC : C.val = (cfg0.win 3).index t 1 * 2816 + s.val) :
    (out0_3 (F := Ideal) (iblk m c 0 t) (iblk m c 1 t) (iblk m c 2 t) : S512x2816.Idx → EReal) (ix2 r s)
      = ffnGrad (m ((c : Thread nD τ).loc main_arg0)) (m ((c : Thread nD τ).loc main_arg1)) (m ((c : Thread nD τ).loc main_arg2)) R C := by
  have hs := s.isLt
  rw [out_at]
  unfold ffnGrad
  have h0 : C.val % 2816 = s.val := by omega
  have h1 : C.val % 1408 = s.val % 1408 := by omega
  have h2 : C.val / 2816 = (cfg0.win 3).index t 1 := by omega
  rw [h0]
  refine congr (congr (congrArg (cell s.val) (congrArg (half * ·) (Finset.sum_congr rfl fun k _ => ?_))) ?_) ?_
  · exact congrArg₂ (· * ·) (blk0_at m c t r k R hR) (blk1_at m c t (lo s) k (wRow C) (by show C.val / 2816 * 1408 + C.val % 1408 = _ + s.val % 1408; rw [h1, h2]))
  · exact blk2_at m c t r (gc s) R (gCol C) hR (by show C.val / 2816 * 2816 + C.val % 1408 = _ + s.val % 1408; rw [h1, h2])
  · exact blk2_at m c t r (uc s) R (uCol C) hR (by show C.val / 2816 * 2816 + (1408 + C.val % 1408) = _ + (1408 + s.val % 1408); rw [h1, h2])

/-- The array the kernel leaves: the gradient. -/
theorem arr_eq : (dats m 0 c).arrAt 3 cfg0.N
    = (fun y : S4096x11264.Idx => ffnGrad (m ((c : Thread nD τ).loc main_arg0)) (m ((c : Thread nD τ).loc main_arg1)) (m ((c : Thread nD τ).loc main_arg2)) (y 0) (y 1)) := by
  refine (dats m 0 c).arrAt_eq_of_covers 3 _ (by decide +kernel) fun t hf y => ?_
  rw [after0_3]
  refine Eq.trans ?_ (point_at m c t (y 0) (y 1) _ _ ?_ ?_)
  · blk_simp; exact congrArg (out0_3 (iblk m c 0 t) (iblk m c 1 t) (iblk m c 2 t)) (eq_ix2 (n0 := 512) (n1 := 2816) y)
  · blk_simp
  · blk_simp

/-- The kernel leaves the gradient in its result and its arguments unchanged. -/
theorem run_results (g : Dev nD → PrngReg) :
    θ_run (defs (F := Ideal)) (onTc (τ := τ) (main (F := Ideal))) ⟨m, fun _ => 0, g⟩ (fun r => ∀ c : Dev nD,
      r.2.mem ((c.tc : Thread nD τ).loc main_v0) = (fun y : S4096x11264.Idx => ffnGrad (m ((c.tc : Thread nD τ).loc main_arg0)) (m ((c.tc : Thread nD τ).loc main_arg1)) (m ((c.tc : Thread nD τ).loc main_arg2)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (arr_eq m c), (h c).2⟩) (Value.run_blocks (F := Ideal) m g)

end Cert.Kernel2Ideal.Ffn

namespace Cert.Reference2Ideal.Ffn

open Cert.Reference2Ideal Cert.Reference2Ideal.Read
open Idealize.ShloMosaic Cert.Ffn

variable (x0 : (⟨S4096x2048, .bf16⟩ : BufTy).Contents (Elt Ideal)) (x1 : (⟨S1x5632x2048, .bf16⟩ : BufTy).Contents (Elt Ideal))
  (x2 : (⟨S4096x11264, .bf16⟩ : BufTy).Contents (Elt Ideal))

/-- Where the reference keeps what belongs to a row and a column: row, panel, 0, column of the panel's half. -/
def at4 (R : Fin 4096) (C : Fin 11264) : S4096x4x1x1408.Idx := fun a => match a with
  | ⟨0, _⟩ => R
  | ⟨1, _⟩ => (⟨C.val / 2816, by have := C.isLt; omega⟩ : Fin 4)
  | ⟨2, _⟩ => (0 : Fin 1)
  | ⟨3, _⟩ => (⟨C.val % 1408, Nat.mod_lt _ (by decide)⟩ : Fin 1408)

theorem gate_at (R : Fin 4096) (C : Fin 11264) : (val_main_v2 (F := Ideal) x2 (at4 R C) : EReal) = x2 (ix2 R (gCol C)) := by
  have hC := C.isLt
  rw [val_main_v2_apply, val_main_v1_apply, val_main_v0_apply]
  refine congrArg x2 (funext fun a => Fin.ext ?_)
  match a with
  | 0 => show (((R.val * 4 + C.val / 2816) * 2 + 0) * 1408 + C.val % 1408) / 11264 = R.val; omega
  | 1 => show (((R.val * 4 + C.val / 2816) * 2 + 0) * 1408 + C.val % 1408) % 11264 = C.val / 2816 * 2816 + C.val % 1408; omega

theorem up_at (R : Fin 4096) (C : Fin 11264) : (val_main_v3 (F := Ideal) x2 (at4 R C) : EReal) = x2 (ix2 R (uCol C)) := by
  have hC := C.isLt
  rw [val_main_v3_apply, val_main_v1_apply, val_main_v0_apply]
  refine congrArg x2 (funext fun a => Fin.ext ?_)
  match a with
  | 0 => show (((R.val * 4 + C.val / 2816) * 2 + (1 + 0)) * 1408 + C.val % 1408) / 11264 = R.val; omega
  | 1 => show (((R.val * 4 + C.val / 2816) * 2 + (1 + 0)) * 1408 + C.val % 1408) % 11264 = C.val / 2816 * 2816 + (1408 + C.val % 1408); omega

/-- The reference's sigmoid is the logistic function. -/
theorem sig_at (i : S4096x4x1x1408.Idx) : (val_main_v4_2 (F := Ideal) x2 i : EReal) = Ideal.logistic (val_main_v2 (F := Ideal) x2 i) := by
  rw [val_main_v4_2_apply, val_main_call0_v4_apply, val_main_call0_cst_0_apply, val_main_call0_v3_apply, val_main_call0_v2_apply, val_main_call0_cst_apply,
    val_main_call0_v1_apply, val_main_call0_v0_apply]
  show Ideal.div (Ideal.ofBits .f32 0x3F800000#32) (Ideal.ofBits .f32 0x3F800000#32 + _) = _
  rw [Ideal.ofBits_one_f32]
  rfl

/-- Its derivative's factor. -/
theorem dsig_at (i : S4096x4x1x1408.Idx) :
    (val_main_v4_1 (F := Ideal) x2 i : EReal) = Ideal.logistic (val_main_v2 (F := Ideal) x2 i) * (1 - Ideal.logistic (val_main_v2 (F := Ideal) x2 i)) := by
  rw [val_main_v4_1_apply, val_main_call0_v7_apply, val_main_call0_v6_apply, val_main_call0_cst_1_apply, sig_at]
  show _ * (Ideal.ofBits .f32 0x3F800000#32 - _) = _
  rw [Ideal.ofBits_one_f32]

/-- The reference's gradient of the gated product. -/
theorem da_at (R : Fin 4096) (C : Fin 11264) : (val_main_v16 (F := Ideal) x0 x1 (at4 R C) : EReal) = daAt x0 x1 R C := by
  have hC := C.isLt
  rw [val_main_v16_apply]
  refine (val_main_v15_apply x0 x1 _).trans (Eq.trans (Finset.sum_congr rfl fun k _ => ?_) ((mul_comm _ _).trans (sum_mul_half _ _)).symm)
  have hk := k.isLt
  rw [val_main_v14_apply, val_main_v13_apply, val_main_v12_apply, val_main_v8_apply, val_main_v7_apply]
  refine (congrArg₂ (fun a b : EReal => half * a * b) (congrArg x0 ?_) (congrArg x1 ?_)).trans ((mul_assoc _ _ _).trans (mul_comm _ _))
  · refine funext fun a => Fin.ext ?_
    match a with
    | 0 => show (((R.val * 4 + C.val / 2816) * 1 + 0) * 1408 + C.val % 1408) / 5632 = R.val; omega
    | 1 => rfl
  · refine funext fun a => Fin.ext ?_
    match a with
    | 0 => rfl
    | 1 => show ((((R.val * 4 + C.val / 2816) * 1 + 0) * 1408 + C.val % 1408) % 5632 * 2048 + k.val) / 2048 % 5632 = C.val / 2816 * 1408 + C.val % 1408; omega
    | 2 => show ((((R.val * 4 + C.val / 2816) * 1 + 0) * 1408 + C.val % 1408) % 5632 * 2048 + k.val) % 2048 = k.val; omega

/-- The gradient is a real where the cotangent and the weights are. -/
theorem isReal_daAt (h0 : ∀ i, IsReal (x0 i)) (h1 : ∀ i, IsReal (x1 i)) (R : Fin 4096) (C : Fin 11264) : IsReal (daAt x0 x1 R C) :=
  isReal_half.mul (isReal_sum _ fun _ => (h0 _).mul (h1 _))

/-- The reference's gradient by the gate's input. -/
theorem v19_at (h0 : ∀ i, IsReal (x0 i)) (h1 : ∀ i, IsReal (x1 i)) (h2 : ∀ i, IsReal (x2 i)) (R : Fin 4096) (C : Fin 11264) :
    (val_main_v19 (F := Ideal) x0 x1 x2 (at4 R C) : EReal) = gateGrad (daAt x0 x1 R C) (x2 (ix2 R (gCol C))) (x2 (ix2 R (uCol C))) := by
  rw [gateGrad_eq (isReal_daAt x0 x1 h0 h1 R C) (h2 _) (h2 _), val_main_v19_apply, val_main_call1_v1_apply, val_main_call1_v2_apply,
    val_main_call1_v0_apply, val_main_v18_apply, dsig_at, sig_at, da_at, up_at, gate_at]
  rfl

/-- The reference's gradient by the other factor. -/
theorem v17_at (R : Fin 4096) (C : Fin 11264) :
    (val_main_v17 (F := Ideal) x0 x1 x2 (at4 R C) : EReal) = upGrad (daAt x0 x1 R C) (x2 (ix2 R (gCol C))) := by
  rw [val_main_v17_apply, val_main_v4_0_apply, sig_at, da_at, gate_at]
  exact mul_comm _ _

/-- The reference at a row and a column: the same gradient. -/
theorem res_at (h0 : ∀ i, IsReal (x0 i)) (h1 : ∀ i, IsReal (x1 i)) (h2 : ∀ i, IsReal (x2 i)) (i : S4096x11264.Idx) :
    (val_main_v22 (F := Ideal) x0 x1 x2 i : EReal) = ffnGrad x0 x1 x2 (i 0) (i 1) := by
  have hR : (i 0).val < 4096 := (i 0).isLt
  have hC : (i 1).val < 11264 := (i 1).isLt
  rw [val_main_v22_apply, val_main_v21_apply]
  unfold ffnGrad
  show (val_main_v20 (F := Ideal) x0 x1 x2 (idx_main_v21 i) : EReal) = _
  unfold val_main_v20
  by_cases hs : (i 1).val % 2816 < 1408
  · rw [cell_lt hs]
    refine (concatenate_pair_apply_left (t := S4096x4x2x1408) (s₁ := S4096x4x1x1408) (s₂ := S4096x4x1x1408) 2 _ _ _ _ rfl (at4 (i 0) (i 1)) fun b => ?_).trans ?_
    · match b with
      | 0 => show (i 0).val = ((i 0).val * 11264 + (i 1).val) / 11264; omega
      | 1 => show (i 1).val / 2816 = ((i 0).val * 11264 + (i 1).val) / 2816 % 4; omega
      | 2 => show 0 = ((i 0).val * 11264 + (i 1).val) / 1408 % 2; omega
      | 3 => show (i 1).val % 1408 = ((i 0).val * 11264 + (i 1).val) % 1408; omega
    · exact v19_at x0 x1 x2 h0 h1 h2 (i 0) (i 1)
  · rw [cell_ge hs]
    refine (concatenate_pair_apply_right (t := S4096x4x2x1408) (s₁ := S4096x4x1x1408) (s₂ := S4096x4x1x1408) 2 _ _ _ _ rfl rfl (at4 (i 0) (i 1)) (fun b hb => ?_) ?_).trans ?_
    · match b with
      | 0 => show (i 0).val = ((i 0).val * 11264 + (i 1).val) / 11264; omega
      | 1 => show (i 1).val / 2816 = ((i 0).val * 11264 + (i 1).val) / 2816 % 4; omega
      | 2 => exact absurd rfl hb
      | 3 => show (i 1).val % 1408 = ((i 0).val * 11264 + (i 1).val) % 1408; omega
    · show 0 + 1 = ((i 0).val * 11264 + (i 1).val) / 1408 % 2; omega
    · exact v17_at x0 x1 x2 (i 0) (i 1)

end Cert.Reference2Ideal.Ffn

namespace Cert.Proof

open Idealize.ShloMosaic Idealize.SL.Sem Cert.Ffn

/-- The two printed texts of the kernel are one program. -/
theorem defs2_eq : Cert.Kernel2.defs (F := Bits) = Cert.Kernel2Ideal.defs (F := Bits) :=
  congrArg (Pipeline.defs (Cert.Kernel2Ideal.pcfgs (F := Bits))) (congrArg Defs.onTc (funext fun l => funext fun p => match l, p with
    | ⟨0, _⟩, _ => rfl
    | ⟨_ + 1, h⟩, _ => absurd h (Nat.not_lt.2 (Nat.le_add_left _ _))))

/-- The frames of the gradient through the gate: one run, read at both instances, and the reference's. -/
theorem frame_kernel2 : Cert.quiescent_Kernel2 := by
  intro m g _
  rw [defs2_eq]
  exact Cert.Kernel2Ideal.Gen.frame (F := Bits) m g
theorem frame_kernel2Ideal : Cert.quiescent_Kernel2Ideal := fun m g _ => Cert.Kernel2Ideal.Gen.frame m g
theorem frame_kernel2Ideal_finite2 : Cert.quiescent_Kernel2Ideal_pre_finite2 := fun m g _ => Cert.Kernel2Ideal.Gen.frame m g
theorem frame_reference2 : Cert.quiescent_Reference2Ideal := fun m g _ =>
  (θ_run Cert.Reference2Ideal.defs _ _).mono
    (fun r h => ⟨fun c => (h c).2, Idealize.ShloMosaic.sem_eq_zero_of_no_sems (by decide) r.2⟩)
    (Cert.Reference2Ideal.Value.run (F := Ideal) m g)
theorem frame_reference2_finite2 : Cert.quiescent_Reference2Ideal_pre_finite2 := fun m g _ => frame_reference2 m g trivial

/-- For finite arguments the kernel's gradient through the gate is the reference's. -/
theorem algebraic2 : Cert.algebraic_Kernel2Ideal_Reference2Ideal_pre_finite2 := by
  intro m g m' g' hpre harg
  refine ⟨_, Cert.Kernel2Ideal.Ffn.run_results m g, (θ_run Cert.Reference2Ideal.defs _ _).mono (fun r h c => ?_) (Cert.Reference2Ideal.Value.run (F := Ideal) m' g')⟩
  obtain ⟨a0, a1, a2⟩ := harg c
  obtain ⟨r0, r1, r2⟩ := real_of_finite2 (hpre c)
  refine ⟨(h c).1.trans ?_, (h c).2⟩
  rw [Cert.Reference2Ideal.Read.val_main_v22_eq, a0, a1, a2]
  funext y
  exact Cert.Reference2Ideal.Ffn.res_at _ _ _ r0 r1 r2 y

end Cert.Proof

end
-- ==== Proof.Ffn.Dwin.lean ====
/- The gradient of the feed-forward network's input product by its weights: kernel and reference are one product. -/
module

public import proofs.«01_k».proof.Defs
public import proofs.«01_k».proof.Proof.Gen.Kernel3Ideal.Value
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Reference3Ideal.Read
public import Idealize.ShloMosaic.Lib.Pointwise
public import Idealize.ShloMosaic.Lib.Pipeline.ValueKit
public import Idealize.ShloMosaic.Lib.Quiescent

@[expose] public section

set_option maxRecDepth 16384

noncomputable section

namespace Cert.Kernel3Ideal.Ffn

open Cert.Kernel3Ideal Cert.Kernel3Ideal.Gen
open Idealize.ShloMosaic Idealize.SL.Sem
open Idealize.ShloMosaic.TcCoe Idealize.ShloMosaic.Tactic

/-- The product of the first matrix, transposed, with the second. -/
def prod (a : S4096x2048.Idx → EReal) (b : S4096x11264.Idx → EReal) (R : Fin 2048) (C : Fin 11264) : EReal :=
  ∑ k : Fin 4096, a (ix2 k R) * b (ix2 k C)

/-- What one point stores: the product of its two blocks. -/
theorem out_at (x0 x1 : Vec Ideal S4096x1024 .bf16) (r s : Fin 1024) :
    (out0_2 (F := Ideal) x0 x1 : S1024x1024.Idx → EReal) (ix2 r s) = ∑ k : Fin 4096, (x0 (ix2 k r) : EReal) * (x1 (ix2 k s) : EReal) := by
  have e : out0_2 (F := Ideal) x0 x1 = k0_pay1 x0 x1 := by
    unfold out0_2
    rw [View.canon_unit_zero (View.eq_zero_of_forall (by decide))]
    rw [View.ld_unit_zero (View.eq_zero_of_forall (by decide)), View.ld_unit_zero (View.eq_zero_of_forall (by decide))]
  rw [e]
  unfold k0_pay1
  pointwise

variable (m : (ℓ : Loc nD τ sig) → Buf (Elt Ideal) ℓ) (c : Dev nD)

/-- The input blocks of a point are all rows of the columns that its result block names. -/
theorem index_eq : ∀ t : Fin cfg0.N, (cfg0.win 0).index t = ![0, (cfg0.win 2).index t 0] ∧ (cfg0.win 1).index t = ![0, (cfg0.win 2).index t 1] := by decide +kernel

/-- A point's first block at an index of the first matrix. -/
theorem blk0_at (t : Fin cfg0.N) (k : Fin 4096) (r : Fin 1024) (R : Fin 2048) (hR : R.val = (cfg0.win 2).index t 0 * 1024 + r.val) :
    (iblk m c 0 t (ix2 k r) : EReal) = (m ((c : Thread nD τ).loc main_arg0) : S4096x2048.Idx → EReal) (ix2 k R) := by
  have i0 : (cfg0.win 0).index t 0 = 0 := congrFun (index_eq t).1 0
  have e : (win0 2).index t 0 = (cfg0.win 2).index t 0 := rfl
  have i1 : (cfg0.win 0).index t 1 = (cfg0.win 2).index t 0 := congrFun (index_eq t).1 1
  show (m ((c : Thread nD τ).loc main_arg0) : S4096x2048.Idx → EReal) _ = _
  refine congrArg _ (funext fun a => Fin.ext ?_)
  match a with
  | 0 => blk_simp; rw [i0]; omega
  | 1 => blk_simp; rw [i1]; dsimp only; omega

/-- A point's second block at an index of the second matrix. -/
theorem blk1_at (t : Fin cfg0.N) (k : Fin 4096) (s : Fin 1024) (C : Fin 11264) (hC : C.val = (cfg0.win 2).index t 1 * 1024 + s.val) :
    (iblk m c 1 t (ix2 k s) : EReal) = (m ((c : Thread nD τ).loc main_arg1) : S4096x11264.Idx → EReal) (ix2 k C) := by
  have i0 : (cfg0.win 1).index t 0 = 0 := congrFun (index_eq t).2 0
  have e : (win0 2).index t 1 = (cfg0.win 2).index t 1 := rfl
  have i1 : (cfg0.win 1).index t 1 = (cfg0.win 2).index t 1 := congrFun (index_eq t).2 1
  show (m ((c : Thread nD τ).loc main_arg1) : S4096x11264.Idx → EReal) _ = _
  refine congrArg _ (funext fun a => Fin.ext ?_)
  match a with
  | 0 => blk_simp; rw [i0]; omega
  | 1 => blk_simp; rw [i1]; dsimp only; omega

/-- The array the kernel leaves: the whole product. -/
theorem arr_eq : (dats m 0 c).arrAt 2 cfg0.N
    = (fun y : S2048x11264.Idx => prod (m ((c : Thread nD τ).loc main_arg0)) (m ((c : Thread nD τ).loc main_arg1)) (y 0) (y 1)) := by
  refine (dats m 0 c).arrAt_eq_of_covers 2 _ (by decide +kernel) fun t hf y => ?_
  rw [after0_2]
  refine Eq.trans ?_ ((out_at (iblk m c 0 t) (iblk m c 1 t) (y 0) (y 1)).trans (Finset.sum_congr rfl fun k _ => ?_))
  · blk_simp; exact congrArg (out0_2 (iblk m c 0 t) (iblk m c 1 t)) (eq_ix2 (n0 := 1024) (n1 := 1024) y)
  · refine congrArg₂ (· * ·) (blk0_at m c t k (y 0) _ ?_) (blk1_at m c t k (y 1) _ ?_)
    · blk_simp
    · blk_simp

/-- The kernel leaves that product in its result and its arguments unchanged. -/
theorem run_results (g : Dev nD → PrngReg) :
    θ_run (defs (F := Ideal)) (onTc (τ := τ) (main (F := Ideal))) ⟨m, fun _ => 0, g⟩ (fun r => ∀ c : Dev nD,
      r.2.mem ((c.tc : Thread nD τ).loc main_v0) = (fun y : S2048x11264.Idx => prod (m ((c.tc : Thread nD τ).loc main_arg0)) (m ((c.tc : Thread nD τ).loc main_arg1)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (arr_eq m c), (h c).2⟩) (Value.run_blocks (F := Ideal) m g)

end Cert.Kernel3Ideal.Ffn

namespace Cert.Reference3Ideal.Ffn

open Cert.Reference3Ideal Cert.Reference3Ideal.Read
open Idealize.ShloMosaic

/-- The reference at an index: the same product. -/
theorem res_at (x0 : (⟨S4096x2048, .bf16⟩ : BufTy).Contents (Elt Ideal)) (x1 : (⟨S4096x11264, .bf16⟩ : BufTy).Contents (Elt Ideal)) (i : S2048x11264.Idx) :
    val_main_v7 (F := Ideal) x0 x1 i = Cert.Kernel3Ideal.Ffn.prod x0 x1 (i 0) (i 1) := by
  rw [val_main_v7_apply, val_main_v6_apply, val_main_v5_apply]
  refine Finset.sum_congr rfl fun k _ => (mul_comm _ _).trans (congrArg₂ (· * ·) ?_ ?_)
  · exact congrArg x0 (eq_ix2 (n0 := 4096) (n1 := 2048) _)
  · exact congrArg x1 (eq_ix2 (n0 := 4096) (n1 := 11264) _)

end Cert.Reference3Ideal.Ffn

namespace Cert.Proof

open Idealize.ShloMosaic Idealize.SL.Sem

/-- The two printed texts of the kernel are one program. -/
theorem defs3_eq : Cert.Kernel3.defs (F := Bits) = Cert.Kernel3Ideal.defs (F := Bits) :=
  congrArg (Pipeline.defs (Cert.Kernel3Ideal.pcfgs (F := Bits))) (congrArg Defs.onTc (funext fun l => funext fun p => match l, p with
    | ⟨0, _⟩, _ => rfl
    | ⟨_ + 1, h⟩, _ => absurd h (Nat.not_lt.2 (Nat.le_add_left _ _))))

/-- The frames of the gradient by the input product's weights: one run, read at both instances, and the reference's. -/
theorem frame_kernel3 : Cert.quiescent_Kernel3 := by
  intro m g _
  rw [defs3_eq]
  exact Cert.Kernel3Ideal.Gen.frame (F := Bits) m g
theorem frame_kernel3Ideal : Cert.quiescent_Kernel3Ideal := fun m g _ => Cert.Kernel3Ideal.Gen.frame m g
theorem frame_reference3 : Cert.quiescent_Reference3Ideal := fun m g _ =>
  (θ_run Cert.Reference3Ideal.defs _ _).mono
    (fun r h => ⟨fun c => (h c).2, Idealize.ShloMosaic.sem_eq_zero_of_no_sems (by decide) r.2⟩)
    (Cert.Reference3Ideal.Value.run (F := Ideal) m g)

/-- The kernel's gradient by the input product's weights is the reference's. -/
theorem algebraic3 : Cert.algebraic_Kernel3Ideal_Reference3Ideal := by
  intro m g m' g' _ harg
  refine ⟨_, Cert.Kernel3Ideal.Ffn.run_results m g, (θ_run Cert.Reference3Ideal.defs _ _).mono (fun r h c => ?_) (Cert.Reference3Ideal.Value.run (F := Ideal) m' g')⟩
  obtain ⟨a0, a1⟩ := harg c
  refine ⟨(h c).1.trans ?_, (h c).2⟩
  rw [Cert.Reference3Ideal.Read.val_main_v7_eq, a0, a1]
  funext y
  exact Cert.Reference3Ideal.Ffn.res_at _ _ y

end Cert.Proof

end
-- ==== Proof.Ffn.Dh.lean ====
/- The gradient of the feed-forward network's input product by its input: a product summed in four parts. -/
module

public import proofs.«01_k».proof.Defs
public import proofs.«01_k».proof.Proof.Gen.Kernel4Ideal.Value
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Gen.Reference4Ideal.Read
public import Idealize.ShloMosaic.Lib.Pointwise
public import Idealize.ShloMosaic.Lib.Pipeline.ValueKit
public import Idealize.ShloMosaic.Lib.Quiescent

@[expose] public section

set_option maxRecDepth 16384

noncomputable section

namespace Cert.Kernel4Ideal.Ffn

open Cert.Kernel4Ideal Cert.Kernel4Ideal.Gen
open Idealize.ShloMosaic Idealize.SL.Sem
open Idealize.ShloMosaic.TcCoe Idealize.ShloMosaic.Tactic

/-- The product of the first matrix with the second, transposed. -/
def prod (a : S4096x11264.Idx → EReal) (b : S1x2048x11264.Idx → EReal) (R : Fin 4096) (C : Fin 2048) : EReal :=
  ∑ k : Fin 11264, a (ix2 R k) * b (ix3 0 C k)

/-- What one point adds: the product of its two blocks. -/
def part (x0 : Vec Ideal S1024x2816 .bf16) (x1 : Vec Ideal S1x1024x2816 .bf16) (r s : Fin 1024) : EReal :=
  ∑ k : Fin 2816, (x0 (ix2 r k) : EReal) * (x1 (ix3 0 s k) : EReal)

theorem pay1_at (x0 : Vec Ideal S1024x2816 .bf16) (x1 : Vec Ideal S1x1024x2816 .bf16) (r s : Fin 1024) :
    (k0_pay1 (F := Ideal) x0 x1 : S1024x1024.Idx → EReal) (ix2 r s) = part x0 x1 r s := by
  unfold k0_pay1 part
  pointwise

theorem pay2_at (a : Vec Ideal S1024x1024 .f32) (x0 : Vec Ideal S1024x2816 .bf16) (x1 : Vec Ideal S1x1024x2816 .bf16) (r s : Fin 1024) :
    (k0_pay2 (F := Ideal) a x0 x1 : S1024x1024.Idx → EReal) (ix2 r s) = (a (ix2 r s) : EReal) + part x0 x1 r s := by
  unfold k0_pay2 part
  pointwise

theorem zero2 : (![0, 0] : Fin 2 → Nat) = fun _ => 0 := View.eq_zero_of_forall (by decide)
theorem zero3 : (![0, 0, 0] : Fin 3 → Nat) = fun _ => 0 := View.eq_zero_of_forall (by decide)

/-- The first point of a run leaves its product in the carried sum. -/
theorem first_eq (c : Dev nD) (i : grid0.Coords) (a3 : Memref sig .tc .vmem S1024x2816 .bf16) (h3 : a3.IsWhole) (a4 : Memref sig .tc .vmem S1x1024x2816 .bf16) (h4 : a4.IsWhole)
    (a5 : Memref sig .tc .vmem S1024x1024 .f32) (h5 : a5.IsWhole) (a6 : Memref sig .tc .vmem S1024x1024 .f32) (h6 : a6.IsWhole) (hc0 : cond0_0 i) (hc1 : ¬cond0_1 i) (hc2 : ¬cond0_2 i)
    (x0 : Vec Ideal S1024x2816 .bf16) (x1 : Vec Ideal S1x1024x2816 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero zero2]
  simp only [View.readAt_eq_ld, h3.read_unread, h4.read_unread, View.ld_unit_zero (S := S1024x2816) zero2, View.ld_unit_zero (S := S1x1024x2816) zero3]

/-- A middle point adds its product to the carried sum. -/
theorem mid_eq (c : Dev nD) (i : grid0.Coords) (a3 : Memref sig .tc .vmem S1024x2816 .bf16) (h3 : a3.IsWhole) (a4 : Memref sig .tc .vmem S1x1024x2816 .bf16) (h4 : a4.IsWhole)
    (a5 : Memref sig .tc .vmem S1024x1024 .f32) (h5 : a5.IsWhole) (a6 : Memref sig .tc .vmem S1024x1024 .f32) (h6 : a6.IsWhole) (hc0 : ¬cond0_0 i) (hc1 : cond0_1 i) (hc2 : ¬cond0_2 i)
    (x0 : Vec Ideal S1024x2816 .bf16) (x1 : Vec Ideal S1x1024x2816 .bf16) (a : Vec Ideal S1024x1024 .f32) :
    sout0_B_0 c i a3 h3 a4 h4 a5 h5 a6 h6 hc0 hc1 hc2 x0 x1 a = k0_pay2 a x0 x1 := by
  unfold sout0_B_0
  rw [View.read_writes_eq_canon _ _ _ (scover0_B_0 c i a3 h3 a4 h4 a5 h5 a6 h6 hc0 hc1 hc2 x0 x1 a)]
  unfold kernelRun0_B
  dsimp only
  rw [View.canon_unit_zero zero2]
  simp only [View.readAt_eq_ld, h3.read_unread, h4.read_unread, h6.read_unread, View.ld_unit_zero (S := S1024x2816) zero2, View.ld_unit_zero (S := S1x1024x2816) zero3, View.ld_unit_zero (S := S1024x1024) zero2]

/-- The last point stores the carried sum with its product added. -/
theorem last_eq (c : Dev nD) (i : grid0.Coords) (a3 : Memref sig .tc .vmem S1024x2816 .bf16) (h3 : a3.IsWhole) (a4 : Memref sig .tc .vmem S1x1024x2816 .bf16) (h4 : a4.IsWhole)
    (a5 : Memref sig .tc .vmem S1024x1024 .f32) (h5 : a5.IsWhole) (a6 : Memref sig .tc .vmem S1024x1024 .f32) (h6 : a6.IsWhole) (hc0 : ¬cond0_0 i) (hc1 : cond0_1 i) (hc2 : cond0_2 i)
    (x0 : Vec Ideal S1024x2816 .bf16) (x1 : Vec Ideal S1x1024x2816 .bf16) (a : Vec Ideal S1024x1024 .f32) :
    out0_C_2 c i a3 h3 a4 h4 a5 h5 a6 h6 hc0 hc1 hc2 x0 x1 a = k0_pay2 a x0 x1 := by
  unfold out0_C_2
  rw [View.read_writes_eq_canon _ _ _ (cover0_C_2 c i a3 h3 a4 h4 a5 h5 a6 h6 hc0 hc1 hc2 x0 x1 a)]
  unfold kernelRun0_C
  dsimp only
  sl_unfold_words
  rw [View.canon_unit_zero zero2, View.readCov_unit_zero (S := S1024x1024) _ zero2]
  simp only [View.readAt_eq_ld, h3.read_unread, h4.read_unread, h6.read_unread, View.ld_unit_zero (S := S1024x2816) zero2, View.ld_unit_zero (S := S1x1024x2816) zero3, View.ld_unit_zero (S := S1024x1024) zero2]

variable (m : (ℓ : Loc nD τ sig) → Buf (Elt Ideal) ℓ) (c : Dev nD)

/-- What point `t` adds. -/
abbrev partAt (t : Fin cfg0.N) (r s : Fin 1024) : EReal := part (iblk m c 0 t) (iblk m c 1 t) r s

/-- The carried sum after the first point of a run. -/
theorem carry_first (t : Fin cfg0.N) (h : t.val % 4 = 0) (r s : Fin 1024) :
    ((outsAt0 m c t.val t.isLt).2 (ix2 r s) : EReal) = partAt m c t r s := by
  rw [outsAt0_A m c t h (by omega) (by omega)]
  dsimp only
  rw [first_eq]
  exact pay1_at _ _ r s

/-- The carried sum after a middle point. -/
theorem carry_mid (t t' : Fin cfg0.N) (h0 : ¬t.val % 4 = 0) (h3 : ¬t.val % 4 = 3) (e : t'.val = t.val - 1) (r s : Fin 1024) :
    ((outsAt0 m c t.val t.isLt).2 (ix2 r s) : EReal) = ((outsAt0 m c t'.val t'.isLt).2 (ix2 r s) : EReal) + partAt m c t r s := by
  obtain ⟨n, hn⟩ := t'
  dsimp only at e
  subst e
  rw [outsAt0_B m c t h0 (by omega) h3]
  dsimp only
  rw [mid_eq]
  exact pay2_at _ _ _ r s

/-- The block stored by the last point. -/
theorem stored_last (t t' : Fin cfg0.N) (h3 : t.val % 4 = 3) (e : t'.val = t.val - 1) (r s : Fin 1024) :
    ((outsAt0 m c t.val t.isLt).1 (ix2 r s) : EReal) = ((outsAt0 m c t'.val t'.isLt).2 (ix2 r s) : EReal) + partAt m c t r s := by
  obtain ⟨n, hn⟩ := t'
  dsimp only at e
  subst e
  rw [outsAt0_C m c t (by omega) (by omega) h3]
  dsimp only
  rw [last_eq]
  exact pay2_at _ _ _ r s

/-- The points of `t`'s run, in order. -/
def pt (t : Fin cfg0.N) (J : Fin 4) : Fin cfg0.N := ⟨t.val / 4 * 4 + J.val, by have h : cfg0.N = 32 := N_0; have := t.isLt; have := J.isLt; omega⟩
theorem pt_val (t : Fin cfg0.N) (J : Fin 4) : (pt t J).val = t.val / 4 * 4 + J.val := rfl

/-- The block stored by the last point is the sum of what its run's points add. -/
theorem stored_at (t : Fin cfg0.N) (h3 : t.val % 4 = 3) (r s : Fin 1024) :
    ((outsAt0 m c t.val t.isLt).1 (ix2 r s) : EReal) = ∑ J : Fin 4, partAt m c (pt t J) r s := by
  have e : pt t 3 = t := Fin.ext (by rw [pt_val]; show _ + 3 = _; omega)
  have v0 : (pt t 0).val = t.val / 4 * 4 := pt_val t 0
  have v1 : (pt t 1).val = t.val / 4 * 4 + 1 := pt_val t 1
  have v2 : (pt t 2).val = t.val / 4 * 4 + 2 := pt_val t 2
  rw [Fin.sum_univ_four, stored_last m c t (pt t 2) h3 (by omega), carry_mid m c (pt t 2) (pt t 1) (by omega) (by omega) (by omega),
    carry_mid m c (pt t 1) (pt t 0) (by omega) (by omega) (by omega), carry_first m c (pt t 0) (by omega), e]

/-- The input blocks of a run's points: the rows and columns that the result block names, and the run's step. -/
theorem index_eq : ∀ (t : Fin cfg0.N) (J : Fin 4), (cfg0.win 0).index (pt t J) = ![(cfg0.win 2).index t 0, J.val]
    ∧ (cfg0.win 1).index (pt t J) = ![0, (cfg0.win 2).index t 1, J.val] := by decide +kernel

/-- A point's first block at an index of the first matrix. -/
theorem blk0_at (t : Fin cfg0.N) (J : Fin 4) (r : Fin 1024) (k : Fin 2816) (R : Fin 4096) (K : Fin 11264) (hR : R.val = (cfg0.win 2).index t 0 * 1024 + r.val)
    (hK : K.val = J.val * 2816 + k.val) :
    (iblk m c 0 (pt t J) (ix2 r k) : EReal) = (m ((c : Thread nD τ).loc main_arg0) : S4096x11264.Idx → EReal) (ix2 R K) := by
  have e : (win0 2).index t 0 = (cfg0.win 2).index t 0 := rfl
  have i0 : (cfg0.win 0).index (pt t J) 0 = (cfg0.win 2).index t 0 := congrFun (index_eq t J).1 0
  have i1 : (cfg0.win 0).index (pt t J) 1 = J.val := congrFun (index_eq t J).1 1
  show (m ((c : Thread nD τ).loc main_arg0) : S4096x11264.Idx → EReal) _ = _
  refine congrArg _ (funext fun a => Fin.ext ?_)
  match a with
  | 0 => blk_simp; rw [i0]; dsimp only; omega
  | 1 => blk_simp; rw [i1]; omega

/-- A point's second block at an index of the second matrix. -/
theorem blk1_at (t : Fin cfg0.N) (J : Fin 4) (s : Fin 1024) (k : Fin 2816) (C : Fin 2048) (K : Fin 11264) (hC : C.val = (cfg0.win 2).index t 1 * 1024 + s.val)
    (hK : K.val = J.val * 2816 + k.val) :
    (iblk m c 1 (pt t J) (ix3 0 s k) : EReal) = (m ((c : Thread nD τ).loc main_arg1) : S1x2048x11264.Idx → EReal) (ix3 0 C K) := by
  have e : (win0 2).index t 1 = (cfg0.win 2).index t 1 := rfl
  have i0 : (cfg0.win 1).index (pt t J) 0 = 0 := congrFun (index_eq t J).2 0
  have i1 : (cfg0.win 1).index (pt t J) 1 = (cfg0.win 2).index t 1 := congrFun (index_eq t J).2 1
  have i2 : (cfg0.win 1).index (pt t J) 2 = J.val := congrFun (index_eq t J).2 2
  show (m ((c : Thread nD τ).loc main_arg1) : S1x2048x11264.Idx → EReal) _ = _
  refine congrArg _ (funext fun a => Fin.ext ?_)
  match a with
  | 0 => blk_simp; rw [i0]; exact Nat.zero_add _
  | 1 => blk_simp; rw [i1]; dsimp only; omega
  | 2 => blk_simp; rw [i2]; omega

/-- A sum over 11264 columns, taken in four parts. -/
theorem sum_parts (f : Fin 11264 → EReal) : ∑ k, f k = ∑ J : Fin 4, ∑ k : Fin 2816, f ⟨J.val * 2816 + k.val, by omega⟩ := by
  rw [← Fintype.sum_prod_type']
  refine (Fintype.sum_equiv (finProdFinEquiv (m := 4) (n := 2816)) _ _ fun x => congrArg f (Fin.ext ?_)).symm
  show x.1.val * 2816 + x.2.val = x.2.val + 2816 * x.1.val
  omega

/-- The array the kernel leaves: the whole product. -/
theorem arr_eq : (dats m 0 c).arrAt 2 cfg0.N
    = (fun y : S4096x2048.Idx => prod (m ((c : Thread nD τ).loc main_arg0)) (m ((c : Thread nD τ).loc main_arg1)) (y 0) (y 1)) := by
  refine (dats m 0 c).arrAt_eq_of_covers 2 _ (by decide +kernel) fun t hf y => ?_
  rw [after0_2]
  refine Eq.trans ?_ (((stored_at m c t ((flush0_2 t).mp hf) (y 0) (y 1)).trans (Finset.sum_congr rfl fun J _ => Finset.sum_congr rfl fun k _ => ?_)).trans (sum_parts _).symm)
  · blk_simp; exact congrArg (outsAt0 m c t.val t.isLt).1 (eq_ix2 (n0 := 1024) (n1 := 1024) y)
  · refine congrArg₂ (· * ·) (blk0_at m c t J (y 0) k _ _ ?_ rfl) (blk1_at m c t J (y 1) k _ _ ?_ rfl)
    · blk_simp
    · blk_simp

/-- The kernel leaves that product in its result and its arguments unchanged. -/
theorem run_results (g : Dev nD → PrngReg) :
    θ_run (defs (F := Ideal)) (onTc (τ := τ) (main (F := Ideal))) ⟨m, fun _ => 0, g⟩ (fun r => ∀ c : Dev nD,
      r.2.mem ((c.tc : Thread nD τ).loc main_v0) = (fun y : S4096x2048.Idx => prod (m ((c.tc : Thread nD τ).loc main_arg0)) (m ((c.tc : Thread nD τ).loc main_arg1)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (arr_eq m c), (h c).2⟩) (Value.run_blocks (F := Ideal) m g)

end Cert.Kernel4Ideal.Ffn

namespace Cert.Reference4Ideal.Ffn

open Cert.Reference4Ideal Cert.Reference4Ideal.Read
open Idealize.ShloMosaic

/-- The reference at an index: the same product. -/
theorem res_at (x0 : (⟨S4096x11264, .bf16⟩ : BufTy).Contents (Elt Ideal)) (x1 : (⟨S1x2048x11264, .bf16⟩ : BufTy).Contents (Elt Ideal)) (i : S4096x2048.Idx) :
    val_main_v5 (F := Ideal) x0 x1 i = Cert.Kernel4Ideal.Ffn.prod x0 x1 (i 0) (i 1) := by
  refine (val_main_v5_apply x0 x1 i).trans (Finset.sum_congr rfl fun k _ => congrArg₂ (· * ·) ?_ ?_)
  · exact congrArg x0 (eq_ix2 (n0 := 4096) (n1 := 11264) _)
  · rw [val_main_v2_apply]
    refine congrArg x1 (funext fun a => Fin.ext ?_)
    have h1 : (i 1).val < 2048 := (i 1).isLt
    have hk : k.val < 11264 := k.isLt
    match a with
    | 0 => rfl
    | 1 => show ((i 1).val * 11264 + k.val) / 11264 % 2048 = (i 1).val; omega
    | 2 => show ((i 1).val * 11264 + k.val) % 11264 = k.val; omega

end Cert.Reference4Ideal.Ffn

namespace Cert.Proof

open Idealize.ShloMosaic Idealize.SL.Sem

/-- The two printed texts of the kernel are one program. -/
theorem defs4_eq : Cert.Kernel4.defs (F := Bits) = Cert.Kernel4Ideal.defs (F := Bits) :=
  congrArg (Pipeline.defs (Cert.Kernel4Ideal.pcfgs (F := Bits))) (congrArg Defs.onTc (funext fun l => funext fun p => match l, p with
    | ⟨0, _⟩, _ => rfl
    | ⟨_ + 1, h⟩, _ => absurd h (Nat.not_lt.2 (Nat.le_add_left _ _))))

/-- The frames of the gradient by the input product's input: one run, read at both instances, and the reference's. -/
theorem frame_kernel4 : Cert.quiescent_Kernel4 := by
  intro m g _
  rw [defs4_eq]
  exact Cert.Kernel4Ideal.Gen.frame (F := Bits) m g
theorem frame_kernel4Ideal : Cert.quiescent_Kernel4Ideal := fun m g _ => Cert.Kernel4Ideal.Gen.frame m g
theorem frame_reference4 : Cert.quiescent_Reference4Ideal := fun m g _ =>
  (θ_run Cert.Reference4Ideal.defs _ _).mono
    (fun r h => ⟨fun c => (h c).2, Idealize.ShloMosaic.sem_eq_zero_of_no_sems (by decide) r.2⟩)
    (Cert.Reference4Ideal.Value.run (F := Ideal) m g)

/-- The kernel's gradient by the input product's input is the reference's. -/
theorem algebraic4 : Cert.algebraic_Kernel4Ideal_Reference4Ideal := by
  intro m g m' g' _ harg
  refine ⟨_, Cert.Kernel4Ideal.Ffn.run_results m g, (θ_run Cert.Reference4Ideal.defs _ _).mono (fun r h c => ?_) (Cert.Reference4Ideal.Value.run (F := Ideal) m' g')⟩
  obtain ⟨a0, a1⟩ := harg c
  refine ⟨(h c).1.trans ?_, (h c).2⟩
  rw [Cert.Reference4Ideal.Read.val_main_v5_eq, a0, a1]
  funext y
  exact Cert.Reference4Ideal.Ffn.res_at _ _ y

end Cert.Proof

end
-- ==== Proof.Ffn.Dwout.lean ====
/- The gradient of the feed-forward network's output product by its weights: half a product of two matrices. -/
module

public import proofs.«01_k».proof.Defs
public import proofs.«01_k».proof.Proof.Ffn.Half
public import proofs.«01_k».proof.Proof.Gen.Kernel5Ideal.Value
public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import proofs.«01_k».proof.Proof.Gen.Reference5Ideal.Read
public import Idealize.ShloMosaic.Lib.Pointwise
public import Idealize.ShloMosaic.Lib.Pipeline.ValueKit
public import Idealize.ShloMosaic.Lib.Quiescent

@[expose] public section

set_option maxRecDepth 16384

noncomputable section

namespace Cert.Kernel5Ideal.Ffn

open Cert.Kernel5Ideal Cert.Kernel5Ideal.Gen
open Idealize.ShloMosaic Idealize.SL.Sem Cert.Ffn
open Idealize.ShloMosaic.TcCoe Idealize.ShloMosaic.Tactic

/-- Half the product of the first matrix, transposed, with the second. -/
def prod (a : S4096x5632.Idx → EReal) (b : S4096x2048.Idx → EReal) (R : Fin 5632) (C : Fin 2048) : EReal :=
  (∑ k : Fin 4096, a (ix2 k R) * b (ix2 k C)) * half

/-- What one point stores: half the product of its two blocks. -/
theorem out_at (x0 : Vec Ideal S4096x512 .bf16) (x1 : Vec Ideal S4096x1024 .bf16) (r : Fin 512) (s : Fin 1024) :
    (out0_2 (F := Ideal) x0 x1 : S512x1024.Idx → EReal) (ix2 r s) = (∑ k : Fin 4096, (x0 (ix2 k r) : EReal) * (x1 (ix2 k s) : EReal)) * half := by
  have e : out0_2 (F := Ideal) x0 x1 = k0_pay1 x0 x1 := by
    unfold out0_2
    rw [View.canon_unit_zero (View.eq_zero_of_forall (by decide))]
    rw [View.ld_unit_zero (View.eq_zero_of_forall (by decide)), View.ld_unit_zero (View.eq_zero_of_forall (by decide))]
  rw [e]
  unfold k0_pay1 half
  pointwise

variable (m : (ℓ : Loc nD τ sig) → Buf (Elt Ideal) ℓ) (c : Dev nD)

/-- The input blocks of a point are all rows of the columns that its result block names. -/
theorem index_eq : ∀ t : Fin cfg0.N, (cfg0.win 0).index t = ![0, (cfg0.win 2).index t 0] ∧ (cfg0.win 1).index t = ![0, (cfg0.win 2).index t 1] := by decide +kernel

/-- A point's first block at an index of the first matrix. -/
theorem blk0_at (t : Fin cfg0.N) (k : Fin 4096) (r : Fin 512) (R : Fin 5632) (hR : R.val = (cfg0.win 2).index t 0 * 512 + r.val) :
    (iblk m c 0 t (ix2 k r) : EReal) = (m ((c : Thread nD τ).loc main_arg0) : S4096x5632.Idx → EReal) (ix2 k R) := by
  have i0 : (cfg0.win 0).index t 0 = 0 := congrFun (index_eq t).1 0
  have e : (win0 2).index t 0 = (cfg0.win 2).index t 0 := rfl
  have i1 : (cfg0.win 0).index t 1 = (cfg0.win 2).index t 0 := congrFun (index_eq t).1 1
  show (m ((c : Thread nD τ).loc main_arg0) : S4096x5632.Idx → EReal) _ = _
  refine congrArg _ (funext fun a => Fin.ext ?_)
  match a with
  | 0 => blk_simp; rw [i0]; omega
  | 1 => blk_simp; rw [i1]; dsimp only; omega

/-- A point's second block at an index of the second matrix. -/
theorem blk1_at (t : Fin cfg0.N) (k : Fin 4096) (s : Fin 1024) (C : Fin 2048) (hC : C.val = (cfg0.win 2).index t 1 * 1024 + s.val) :
    (iblk m c 1 t (ix2 k s) : EReal) = (m ((c : Thread nD τ).loc main_arg1) : S4096x2048.Idx → EReal) (ix2 k C) := by
  have i0 : (cfg0.win 1).index t 0 = 0 := congrFun (index_eq t).2 0
  have e : (win0 2).index t 1 = (cfg0.win 2).index t 1 := rfl
  have i1 : (cfg0.win 1).index t 1 = (cfg0.win 2).index t 1 := congrFun (index_eq t).2 1
  show (m ((c : Thread nD τ).loc main_arg1) : S4096x2048.Idx → EReal) _ = _
  refine congrArg _ (funext fun a => Fin.ext ?_)
  match a with
  | 0 => blk_simp; rw [i0]; omega
  | 1 => blk_simp; rw [i1]; dsimp only; omega

/-- The array the kernel leaves: half the product. -/
theorem arr_eq : (dats m 0 c).arrAt 2 cfg0.N
    = (fun y : S5632x2048.Idx => prod (m ((c : Thread nD τ).loc main_arg0)) (m ((c : Thread nD τ).loc main_arg1)) (y 0) (y 1)) := by
  refine (dats m 0 c).arrAt_eq_of_covers 2 _ (by decide +kernel) fun t hf y => ?_
  rw [after0_2]
  refine Eq.trans ?_ ((out_at (iblk m c 0 t) (iblk m c 1 t) (y 0) (y 1)).trans (congrArg (· * half) (Finset.sum_congr rfl fun k _ => ?_)))
  · blk_simp; exact congrArg (out0_2 (iblk m c 0 t) (iblk m c 1 t)) (eq_ix2 (n0 := 512) (n1 := 1024) y)
  · refine congrArg₂ (· * ·) (blk0_at m c t k (y 0) _ ?_) (blk1_at m c t k (y 1) _ ?_)
    · blk_simp
    · blk_simp

/-- The kernel leaves that product in its result and its arguments unchanged. -/
theorem run_results (g : Dev nD → PrngReg) :
    θ_run (defs (F := Ideal)) (onTc (τ := τ) (main (F := Ideal))) ⟨m, fun _ => 0, g⟩ (fun r => ∀ c : Dev nD,
      r.2.mem ((c.tc : Thread nD τ).loc main_v0) = (fun y : S5632x2048.Idx => prod (m ((c.tc : Thread nD τ).loc main_arg0)) (m ((c.tc : Thread nD τ).loc main_arg1)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (arr_eq m c), (h c).2⟩) (Value.run_blocks (F := Ideal) m g)

end Cert.Kernel5Ideal.Ffn

namespace Cert.Reference5Ideal.Ffn

open Cert.Reference5Ideal Cert.Reference5Ideal.Read
open Idealize.ShloMosaic Cert.Ffn

/-- The reference at an index: the same product. -/
theorem res_at (x0 : (⟨S4096x5632, .bf16⟩ : BufTy).Contents (Elt Ideal)) (x1 : (⟨S4096x2048, .bf16⟩ : BufTy).Contents (Elt Ideal)) (i : S5632x2048.Idx) :
    val_main_v11 (F := Ideal) x0 x1 i = Cert.Kernel5Ideal.Ffn.prod x0 x1 (i 0) (i 1) := by
  rw [val_main_v11_apply, val_main_v10_apply]
  refine (val_main_v9_apply x0 x1 _).trans ((Finset.sum_congr rfl fun k _ => ?_).trans (sum_mul_half _ _).symm)
  rw [val_main_v8_apply, val_main_v7_apply, val_main_v6_apply, val_main_v1_apply]
  refine ((mul_comm _ _).trans (congrArg₂ (· * ·) ?_ (congrArg (half * ·) ?_))).trans ((congrArg _ (mul_comm _ _)).trans (mul_assoc _ _ _).symm)
  · exact congrArg x0 (eq_ix2 (n0 := 4096) (n1 := 5632) _)
  · exact congrArg x1 (eq_ix2 (n0 := 4096) (n1 := 2048) _)

end Cert.Reference5Ideal.Ffn

namespace Cert.Proof

open Idealize.ShloMosaic Idealize.SL.Sem Cert.Ffn

/-- The two printed texts of the kernel are one program. -/
theorem defs5_eq : Cert.Kernel5.defs (F := Bits) = Cert.Kernel5Ideal.defs (F := Bits) :=
  congrArg (Pipeline.defs (Cert.Kernel5Ideal.pcfgs (F := Bits))) (congrArg Defs.onTc (funext fun l => funext fun p => match l, p with
    | ⟨0, _⟩, _ => rfl
    | ⟨_ + 1, h⟩, _ => absurd h (Nat.not_lt.2 (Nat.le_add_left _ _))))

/-- The frames of the gradient by the output product's weights: one run, read at both instances, and the reference's. -/
theorem frame_kernel5 : Cert.quiescent_Kernel5 := by
  intro m g _
  rw [defs5_eq]
  exact Cert.Kernel5Ideal.Gen.frame (F := Bits) m g
theorem frame_kernel5Ideal : Cert.quiescent_Kernel5Ideal := fun m g _ => Cert.Kernel5Ideal.Gen.frame m g
theorem frame_reference5 : Cert.quiescent_Reference5Ideal := fun m g _ =>
  (θ_run Cert.Reference5Ideal.defs _ _).mono
    (fun r h => ⟨fun c => (h c).2, Idealize.ShloMosaic.sem_eq_zero_of_no_sems (by decide) r.2⟩)
    (Cert.Reference5Ideal.Value.run (F := Ideal) m g)

/-- The kernel's gradient by the output product's weights is the reference's. -/
theorem algebraic5 : Cert.algebraic_Kernel5Ideal_Reference5Ideal := by
  intro m g m' g' _ harg
  refine ⟨_, Cert.Kernel5Ideal.Ffn.run_results m g, (θ_run Cert.Reference5Ideal.defs _ _).mono (fun r h c => ?_) (Cert.Reference5Ideal.Value.run (F := Ideal) m' g')⟩
  obtain ⟨a0, a1⟩ := harg c
  refine ⟨(h c).1.trans ?_, (h c).2⟩
  rw [Cert.Reference5Ideal.Read.val_main_v11_eq, a0, a1]
  funext y
  exact Cert.Reference5Ideal.Ffn.res_at _ _ y

end Cert.Proof

end
-- ==== Proof.Ffn.Dwqkv.lean ====
/- The gradient of the dilated attention's joint projection by its weights: kernel and reference are one product. -/
module

public import proofs.«01_k».proof.Defs
public import proofs.«01_k».proof.Proof.Gen.Kernel6Ideal.Value
public import proofs.«01_k».proof.Proof.Gen.Kernel6
public import proofs.«01_k».proof.Proof.Gen.Kernel6Ideal
public import proofs.«01_k».proof.Proof.Gen.Reference6Ideal
public import proofs.«01_k».proof.Proof.Gen.Reference6Ideal.Run
public import proofs.«01_k».proof.Proof.Gen.Reference6Ideal.Read
public import Idealize.ShloMosaic.Lib.Pointwise
public import Idealize.ShloMosaic.Lib.Pipeline.ValueKit
public import Idealize.ShloMosaic.Lib.Quiescent

@[expose] public section

set_option maxRecDepth 16384

noncomputable section

namespace Cert.Kernel6Ideal.Ffn

open Cert.Kernel6Ideal Cert.Kernel6Ideal.Gen
open Idealize.ShloMosaic Idealize.SL.Sem
open Idealize.ShloMosaic.TcCoe Idealize.ShloMosaic.Tactic

/-- The product of the first matrix, transposed, with the second. -/
def prod (a : S4096x2048.Idx → EReal) (b : S4096x9216.Idx → EReal) (R : Fin 2048) (C : Fin 9216) : EReal :=
  ∑ k : Fin 4096, a (ix2 k R) * b (ix2 k C)

/-- What one point stores: the product of its two blocks. -/
theorem out_at (x0 x1 : Vec Ideal S4096x1024 .bf16) (r s : Fin 1024) :
    (out0_2 (F := Ideal) x0 x1 : S1024x1024.Idx → EReal) (ix2 r s) = ∑ k : Fin 4096, (x0 (ix2 k r) : EReal) * (x1 (ix2 k s) : EReal) := by
  have e : out0_2 (F := Ideal) x0 x1 = k0_pay1 x0 x1 := by
    unfold out0_2
    rw [View.canon_unit_zero (View.eq_zero_of_forall (by decide))]
    rw [View.ld_unit_zero (View.eq_zero_of_forall (by decide)), View.ld_unit_zero (View.eq_zero_of_forall (by decide))]
  rw [e]
  unfold k0_pay1
  pointwise

variable (m : (ℓ : Loc nD τ sig) → Buf (Elt Ideal) ℓ) (c : Dev nD)

/-- The input blocks of a point are all rows of the columns that its result block names. -/
theorem index_eq : ∀ t : Fin cfg0.N, (cfg0.win 0).index t = ![0, (cfg0.win 2).index t 0] ∧ (cfg0.win 1).index t = ![0, (cfg0.win 2).index t 1] := by decide +kernel

/-- A point's first block at an index of the first matrix. -/
theorem blk0_at (t : Fin cfg0.N) (k : Fin 4096) (r : Fin 1024) (R : Fin 2048) (hR : R.val = (cfg0.win 2).index t 0 * 1024 + r.val) :
    (iblk m c 0 t (ix2 k r) : EReal) = (m ((c : Thread nD τ).loc main_arg0) : S4096x2048.Idx → EReal) (ix2 k R) := by
  have i0 : (cfg0.win 0).index t 0 = 0 := congrFun (index_eq t).1 0
  have e : (win0 2).index t 0 = (cfg0.win 2).index t 0 := rfl
  have i1 : (cfg0.win 0).index t 1 = (cfg0.win 2).index t 0 := congrFun (index_eq t).1 1
  show (m ((c : Thread nD τ).loc main_arg0) : S4096x2048.Idx → EReal) _ = _
  refine congrArg _ (funext fun a => Fin.ext ?_)
  match a with
  | 0 => blk_simp; rw [i0]; omega
  | 1 => blk_simp; rw [i1]; dsimp only; omega

/-- A point's second block at an index of the second matrix. -/
theorem blk1_at (t : Fin cfg0.N) (k : Fin 4096) (s : Fin 1024) (C : Fin 9216) (hC : C.val = (cfg0.win 2).index t 1 * 1024 + s.val) :
    (iblk m c 1 t (ix2 k s) : EReal) = (m ((c : Thread nD τ).loc main_arg1) : S4096x9216.Idx → EReal) (ix2 k C) := by
  have i0 : (cfg0.win 1).index t 0 = 0 := congrFun (index_eq t).2 0
  have e : (win0 2).index t 1 = (cfg0.win 2).index t 1 := rfl
  have i1 : (cfg0.win 1).index t 1 = (cfg0.win 2).index t 1 := congrFun (index_eq t).2 1
  show (m ((c : Thread nD τ).loc main_arg1) : S4096x9216.Idx → EReal) _ = _
  refine congrArg _ (funext fun a => Fin.ext ?_)
  match a with
  | 0 => blk_simp; rw [i0]; omega
  | 1 => blk_simp; rw [i1]; dsimp only; omega

/-- The array the kernel leaves: the whole product. -/
theorem arr_eq : (dats m 0 c).arrAt 2 cfg0.N
    = (fun y : S2048x9216.Idx => prod (m ((c : Thread nD τ).loc main_arg0)) (m ((c : Thread nD τ).loc main_arg1)) (y 0) (y 1)) := by
  refine (dats m 0 c).arrAt_eq_of_covers 2 _ (by decide +kernel) fun t hf y => ?_
  rw [after0_2]
  refine Eq.trans ?_ ((out_at (iblk m c 0 t) (iblk m c 1 t) (y 0) (y 1)).trans (Finset.sum_congr rfl fun k _ => ?_))
  · blk_simp; exact congrArg (out0_2 (iblk m c 0 t) (iblk m c 1 t)) (eq_ix2 (n0 := 1024) (n1 := 1024) y)
  · refine congrArg₂ (· * ·) (blk0_at m c t k (y 0) _ ?_) (blk1_at m c t k (y 1) _ ?_)
    · blk_simp
    · blk_simp

/-- The kernel leaves that product in its result and its arguments unchanged. -/
theorem run_results (g : Dev nD → PrngReg) :
    θ_run (defs (F := Ideal)) (onTc (τ := τ) (main (F := Ideal))) ⟨m, fun _ => 0, g⟩ (fun r => ∀ c : Dev nD,
      r.2.mem ((c.tc : Thread nD τ).loc main_v0) = (fun y : S2048x9216.Idx => prod (m ((c.tc : Thread nD τ).loc main_arg0)) (m ((c.tc : Thread nD τ).loc main_arg1)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (arr_eq m c), (h c).2⟩) (Value.run_blocks (F := Ideal) m g)

end Cert.Kernel6Ideal.Ffn

namespace Cert.Reference6Ideal.Ffn

open Cert.Reference6Ideal Cert.Reference6Ideal.Read
open Idealize.ShloMosaic

/-- The reference at an index: the same product. -/
theorem res_at (x0 : (⟨S4096x2048, .bf16⟩ : BufTy).Contents (Elt Ideal)) (x1 : (⟨S4096x9216, .bf16⟩ : BufTy).Contents (Elt Ideal)) (i : S2048x9216.Idx) :
    val_main_v7 (F := Ideal) x0 x1 i = Cert.Kernel6Ideal.Ffn.prod x0 x1 (i 0) (i 1) := by
  rw [val_main_v7_apply, val_main_v6_apply, val_main_v5_apply]
  refine Finset.sum_congr rfl fun k _ => (mul_comm _ _).trans (congrArg₂ (· * ·) ?_ ?_)
  · exact congrArg x0 (eq_ix2 (n0 := 4096) (n1 := 2048) _)
  · exact congrArg x1 (eq_ix2 (n0 := 4096) (n1 := 9216) _)

end Cert.Reference6Ideal.Ffn

namespace Cert.Proof

open Idealize.ShloMosaic Idealize.SL.Sem

/-- The two printed texts of the kernel are one program. -/
theorem defs6_eq : Cert.Kernel6.defs (F := Bits) = Cert.Kernel6Ideal.defs (F := Bits) :=
  congrArg (Pipeline.defs (Cert.Kernel6Ideal.pcfgs (F := Bits))) (congrArg Defs.onTc (funext fun l => funext fun p => match l, p with
    | ⟨0, _⟩, _ => rfl
    | ⟨_ + 1, h⟩, _ => absurd h (Nat.not_lt.2 (Nat.le_add_left _ _))))

/-- The frames of the gradient by the projection's weights: one run, read at both instances, and the reference's. -/
theorem frame_kernel6 : Cert.quiescent_Kernel6 := by
  intro m g _
  rw [defs6_eq]
  exact Cert.Kernel6Ideal.Gen.frame (F := Bits) m g
theorem frame_kernel6Ideal : Cert.quiescent_Kernel6Ideal := fun m g _ => Cert.Kernel6Ideal.Gen.frame m g
theorem frame_reference6 : Cert.quiescent_Reference6Ideal := fun m g _ =>
  (θ_run Cert.Reference6Ideal.defs _ _).mono
    (fun r h => ⟨fun c => (h c).2, Idealize.ShloMosaic.sem_eq_zero_of_no_sems (by decide) r.2⟩)
    (Cert.Reference6Ideal.Value.run (F := Ideal) m g)

/-- The kernel's gradient by the projection's weights is the reference's. -/
theorem algebraic6 : Cert.algebraic_Kernel6Ideal_Reference6Ideal := by
  intro m g m' g' _ harg
  refine ⟨_, Cert.Kernel6Ideal.Ffn.run_results m g, (θ_run Cert.Reference6Ideal.defs _ _).mono (fun r h c => ?_) (Cert.Reference6Ideal.Value.run (F := Ideal) m' g')⟩
  obtain ⟨a0, a1⟩ := harg c
  refine ⟨(h c).1.trans ?_, (h c).2⟩
  rw [Cert.Reference6Ideal.Read.val_main_v7_eq, a0, a1]
  funext y
  exact Cert.Reference6Ideal.Ffn.res_at _ _ y

end Cert.Proof

end
-- ==== Proof.Ffn.Dxn.lean ====
/- The gradient of the dilated attention's joint projection by its input: a product summed in four parts. -/
module

public import proofs.«01_k».proof.Defs
public import proofs.«01_k».proof.Proof.Gen.Kernel7Ideal.Value
public import proofs.«01_k».proof.Proof.Gen.Kernel7
public import proofs.«01_k».proof.Proof.Gen.Kernel7Ideal
public import proofs.«01_k».proof.Proof.Gen.Reference7Ideal
public import proofs.«01_k».proof.Proof.Gen.Reference7Ideal.Run
public import proofs.«01_k».proof.Proof.Gen.Reference7Ideal.Read
public import Idealize.ShloMosaic.Lib.Pointwise
public import Idealize.ShloMosaic.Lib.Pipeline.ValueKit
public import Idealize.ShloMosaic.Lib.Quiescent

@[expose] public section

set_option maxRecDepth 16384

noncomputable section

namespace Cert.Kernel7Ideal.Ffn

open Cert.Kernel7Ideal Cert.Kernel7Ideal.Gen
open Idealize.ShloMosaic Idealize.SL.Sem
open Idealize.ShloMosaic.TcCoe Idealize.ShloMosaic.Tactic

/-- The product of the first matrix with the second, transposed. -/
def prod (a : S4096x9216.Idx → EReal) (b : S1x2048x9216.Idx → EReal) (R : Fin 4096) (C : Fin 2048) : EReal :=
  ∑ k : Fin 9216, a (ix2 R k) * b (ix3 0 C k)

/-- What one point adds: the product of its two blocks. -/
def part (x0 : Vec Ideal S1024x2304 .bf16) (x1 : Vec Ideal S1x1024x2304 .bf16) (r s : Fin 1024) : EReal :=
  ∑ k : Fin 2304, (x0 (ix2 r k) : EReal) * (x1 (ix3 0 s k) : EReal)

theorem pay1_at (x0 : Vec Ideal S1024x2304 .bf16) (x1 : Vec Ideal S1x1024x2304 .bf16) (r s : Fin 1024) :
    (k0_pay1 (F := Ideal) x0 x1 : S1024x1024.Idx → EReal) (ix2 r s) = part x0 x1 r s := by
  unfold k0_pay1 part
  pointwise

theorem pay2_at (a : Vec Ideal S1024x1024 .f32) (x0 : Vec Ideal S1024x2304 .bf16) (x1 : Vec Ideal S1x1024x2304 .bf16) (r s : Fin 1024) :
    (k0_pay2 (F := Ideal) a x0 x1 : S1024x1024.Idx → EReal) (ix2 r s) = (a (ix2 r s) : EReal) + part x0 x1 r s := by
  unfold k0_pay2 part
  pointwise

theorem zero2 : (![0, 0] : Fin 2 → Nat) = fun _ => 0 := View.eq_zero_of_forall (by decide)
theorem zero3 : (![0, 0, 0] : Fin 3 → Nat) = fun _ => 0 := View.eq_zero_of_forall (by decide)

/-- The first point of a run leaves its product in the carried sum. -/
theorem first_eq (c : Dev nD) (i : grid0.Coords) (a3 : Memref sig .tc .vmem S1024x2304 .bf16) (h3 : a3.IsWhole) (a4 : Memref sig .tc .vmem S1x1024x2304 .bf16) (h4 : a4.IsWhole)
    (a5 : Memref sig .tc .vmem S1024x1024 .f32) (h5 : a5.IsWhole) (a6 : Memref sig .tc .vmem S1024x1024 .f32) (h6 : a6.IsWhole) (hc0 : cond0_0 i) (hc1 : ¬cond0_1 i) (hc2 : ¬cond0_2 i)
    (x0 : Vec Ideal S1024x2304 .bf16) (x1 : Vec Ideal S1x1024x2304 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero zero2]
  simp only [View.readAt_eq_ld, h3.read_unread, h4.read_unread, View.ld_unit_zero (S := S1024x2304) zero2, View.ld_unit_zero (S := S1x1024x2304) zero3]

/-- A middle point adds its product to the carried sum. -/
theorem mid_eq (c : Dev nD) (i : grid0.Coords) (a3 : Memref sig .tc .vmem S1024x2304 .bf16) (h3 : a3.IsWhole) (a4 : Memref sig .tc .vmem S1x1024x2304 .bf16) (h4 : a4.IsWhole)
    (a5 : Memref sig .tc .vmem S1024x1024 .f32) (h5 : a5.IsWhole) (a6 : Memref sig .tc .vmem S1024x1024 .f32) (h6 : a6.IsWhole) (hc0 : ¬cond0_0 i) (hc1 : cond0_1 i) (hc2 : ¬cond0_2 i)
    (x0 : Vec Ideal S1024x2304 .bf16) (x1 : Vec Ideal S1x1024x2304 .bf16) (a : Vec Ideal S1024x1024 .f32) :
    sout0_B_0 c i a3 h3 a4 h4 a5 h5 a6 h6 hc0 hc1 hc2 x0 x1 a = k0_pay2 a x0 x1 := by
  unfold sout0_B_0
  rw [View.read_writes_eq_canon _ _ _ (scover0_B_0 c i a3 h3 a4 h4 a5 h5 a6 h6 hc0 hc1 hc2 x0 x1 a)]
  unfold kernelRun0_B
  dsimp only
  rw [View.canon_unit_zero zero2]
  simp only [View.readAt_eq_ld, h3.read_unread, h4.read_unread, h6.read_unread, View.ld_unit_zero (S := S1024x2304) zero2, View.ld_unit_zero (S := S1x1024x2304) zero3, View.ld_unit_zero (S := S1024x1024) zero2]

/-- The last point stores the carried sum with its product added. -/
theorem last_eq (c : Dev nD) (i : grid0.Coords) (a3 : Memref sig .tc .vmem S1024x2304 .bf16) (h3 : a3.IsWhole) (a4 : Memref sig .tc .vmem S1x1024x2304 .bf16) (h4 : a4.IsWhole)
    (a5 : Memref sig .tc .vmem S1024x1024 .f32) (h5 : a5.IsWhole) (a6 : Memref sig .tc .vmem S1024x1024 .f32) (h6 : a6.IsWhole) (hc0 : ¬cond0_0 i) (hc1 : cond0_1 i) (hc2 : cond0_2 i)
    (x0 : Vec Ideal S1024x2304 .bf16) (x1 : Vec Ideal S1x1024x2304 .bf16) (a : Vec Ideal S1024x1024 .f32) :
    out0_C_2 c i a3 h3 a4 h4 a5 h5 a6 h6 hc0 hc1 hc2 x0 x1 a = k0_pay2 a x0 x1 := by
  unfold out0_C_2
  rw [View.read_writes_eq_canon _ _ _ (cover0_C_2 c i a3 h3 a4 h4 a5 h5 a6 h6 hc0 hc1 hc2 x0 x1 a)]
  unfold kernelRun0_C
  dsimp only
  sl_unfold_words
  rw [View.canon_unit_zero zero2, View.readCov_unit_zero (S := S1024x1024) _ zero2]
  simp only [View.readAt_eq_ld, h3.read_unread, h4.read_unread, h6.read_unread, View.ld_unit_zero (S := S1024x2304) zero2, View.ld_unit_zero (S := S1x1024x2304) zero3, View.ld_unit_zero (S := S1024x1024) zero2]

variable (m : (ℓ : Loc nD τ sig) → Buf (Elt Ideal) ℓ) (c : Dev nD)

/-- What point `t` adds. -/
abbrev partAt (t : Fin cfg0.N) (r s : Fin 1024) : EReal := part (iblk m c 0 t) (iblk m c 1 t) r s

/-- The carried sum after the first point of a run. -/
theorem carry_first (t : Fin cfg0.N) (h : t.val % 4 = 0) (r s : Fin 1024) :
    ((outsAt0 m c t.val t.isLt).2 (ix2 r s) : EReal) = partAt m c t r s := by
  rw [outsAt0_A m c t h (by omega) (by omega)]
  dsimp only
  rw [first_eq]
  exact pay1_at _ _ r s

/-- The carried sum after a middle point. -/
theorem carry_mid (t t' : Fin cfg0.N) (h0 : ¬t.val % 4 = 0) (h3 : ¬t.val % 4 = 3) (e : t'.val = t.val - 1) (r s : Fin 1024) :
    ((outsAt0 m c t.val t.isLt).2 (ix2 r s) : EReal) = ((outsAt0 m c t'.val t'.isLt).2 (ix2 r s) : EReal) + partAt m c t r s := by
  obtain ⟨n, hn⟩ := t'
  dsimp only at e
  subst e
  rw [outsAt0_B m c t h0 (by omega) h3]
  dsimp only
  rw [mid_eq]
  exact pay2_at _ _ _ r s

/-- The block stored by the last point. -/
theorem stored_last (t t' : Fin cfg0.N) (h3 : t.val % 4 = 3) (e : t'.val = t.val - 1) (r s : Fin 1024) :
    ((outsAt0 m c t.val t.isLt).1 (ix2 r s) : EReal) = ((outsAt0 m c t'.val t'.isLt).2 (ix2 r s) : EReal) + partAt m c t r s := by
  obtain ⟨n, hn⟩ := t'
  dsimp only at e
  subst e
  rw [outsAt0_C m c t (by omega) (by omega) h3]
  dsimp only
  rw [last_eq]
  exact pay2_at _ _ _ r s

/-- The points of `t`'s run, in order. -/
def pt (t : Fin cfg0.N) (J : Fin 4) : Fin cfg0.N := ⟨t.val / 4 * 4 + J.val, by have h : cfg0.N = 32 := N_0; have := t.isLt; have := J.isLt; omega⟩
theorem pt_val (t : Fin cfg0.N) (J : Fin 4) : (pt t J).val = t.val / 4 * 4 + J.val := rfl

/-- The block stored by the last point is the sum of what its run's points add. -/
theorem stored_at (t : Fin cfg0.N) (h3 : t.val % 4 = 3) (r s : Fin 1024) :
    ((outsAt0 m c t.val t.isLt).1 (ix2 r s) : EReal) = ∑ J : Fin 4, partAt m c (pt t J) r s := by
  have e : pt t 3 = t := Fin.ext (by rw [pt_val]; show _ + 3 = _; omega)
  have v0 : (pt t 0).val = t.val / 4 * 4 := pt_val t 0
  have v1 : (pt t 1).val = t.val / 4 * 4 + 1 := pt_val t 1
  have v2 : (pt t 2).val = t.val / 4 * 4 + 2 := pt_val t 2
  rw [Fin.sum_univ_four, stored_last m c t (pt t 2) h3 (by omega), carry_mid m c (pt t 2) (pt t 1) (by omega) (by omega) (by omega),
    carry_mid m c (pt t 1) (pt t 0) (by omega) (by omega) (by omega), carry_first m c (pt t 0) (by omega), e]

/-- The input blocks of a run's points: the rows and columns that the result block names, and the run's step. -/
theorem index_eq : ∀ (t : Fin cfg0.N) (J : Fin 4), (cfg0.win 0).index (pt t J) = ![(cfg0.win 2).index t 0, J.val]
    ∧ (cfg0.win 1).index (pt t J) = ![0, (cfg0.win 2).index t 1, J.val] := by decide +kernel

/-- A point's first block at an index of the first matrix. -/
theorem blk0_at (t : Fin cfg0.N) (J : Fin 4) (r : Fin 1024) (k : Fin 2304) (R : Fin 4096) (K : Fin 9216) (hR : R.val = (cfg0.win 2).index t 0 * 1024 + r.val)
    (hK : K.val = J.val * 2304 + k.val) :
    (iblk m c 0 (pt t J) (ix2 r k) : EReal) = (m ((c : Thread nD τ).loc main_arg0) : S4096x9216.Idx → EReal) (ix2 R K) := by
  have e : (win0 2).index t 0 = (cfg0.win 2).index t 0 := rfl
  have i0 : (cfg0.win 0).index (pt t J) 0 = (cfg0.win 2).index t 0 := congrFun (index_eq t J).1 0
  have i1 : (cfg0.win 0).index (pt t J) 1 = J.val := congrFun (index_eq t J).1 1
  show (m ((c : Thread nD τ).loc main_arg0) : S4096x9216.Idx → EReal) _ = _
  refine congrArg _ (funext fun a => Fin.ext ?_)
  match a with
  | 0 => blk_simp; rw [i0]; dsimp only; omega
  | 1 => blk_simp; rw [i1]; omega

/-- A point's second block at an index of the second matrix. -/
theorem blk1_at (t : Fin cfg0.N) (J : Fin 4) (s : Fin 1024) (k : Fin 2304) (C : Fin 2048) (K : Fin 9216) (hC : C.val = (cfg0.win 2).index t 1 * 1024 + s.val)
    (hK : K.val = J.val * 2304 + k.val) :
    (iblk m c 1 (pt t J) (ix3 0 s k) : EReal) = (m ((c : Thread nD τ).loc main_arg1) : S1x2048x9216.Idx → EReal) (ix3 0 C K) := by
  have e : (win0 2).index t 1 = (cfg0.win 2).index t 1 := rfl
  have i0 : (cfg0.win 1).index (pt t J) 0 = 0 := congrFun (index_eq t J).2 0
  have i1 : (cfg0.win 1).index (pt t J) 1 = (cfg0.win 2).index t 1 := congrFun (index_eq t J).2 1
  have i2 : (cfg0.win 1).index (pt t J) 2 = J.val := congrFun (index_eq t J).2 2
  show (m ((c : Thread nD τ).loc main_arg1) : S1x2048x9216.Idx → EReal) _ = _
  refine congrArg _ (funext fun a => Fin.ext ?_)
  match a with
  | 0 => blk_simp; rw [i0]; exact Nat.zero_add _
  | 1 => blk_simp; rw [i1]; dsimp only; omega
  | 2 => blk_simp; rw [i2]; omega

/-- A sum over 9216 columns, taken in four parts. -/
theorem sum_parts (f : Fin 9216 → EReal) : ∑ k, f k = ∑ J : Fin 4, ∑ k : Fin 2304, f ⟨J.val * 2304 + k.val, by omega⟩ := by
  rw [← Fintype.sum_prod_type']
  refine (Fintype.sum_equiv (finProdFinEquiv (m := 4) (n := 2304)) _ _ fun x => congrArg f (Fin.ext ?_)).symm
  show x.1.val * 2304 + x.2.val = x.2.val + 2304 * x.1.val
  omega

/-- The array the kernel leaves: the whole product. -/
theorem arr_eq : (dats m 0 c).arrAt 2 cfg0.N
    = (fun y : S4096x2048.Idx => prod (m ((c : Thread nD τ).loc main_arg0)) (m ((c : Thread nD τ).loc main_arg1)) (y 0) (y 1)) := by
  refine (dats m 0 c).arrAt_eq_of_covers 2 _ (by decide +kernel) fun t hf y => ?_
  rw [after0_2]
  refine Eq.trans ?_ (((stored_at m c t ((flush0_2 t).mp hf) (y 0) (y 1)).trans (Finset.sum_congr rfl fun J _ => Finset.sum_congr rfl fun k _ => ?_)).trans (sum_parts _).symm)
  · blk_simp; exact congrArg (outsAt0 m c t.val t.isLt).1 (eq_ix2 (n0 := 1024) (n1 := 1024) y)
  · refine congrArg₂ (· * ·) (blk0_at m c t J (y 0) k _ _ ?_ rfl) (blk1_at m c t J (y 1) k _ _ ?_ rfl)
    · blk_simp
    · blk_simp

/-- The kernel leaves that product in its result and its arguments unchanged. -/
theorem run_results (g : Dev nD → PrngReg) :
    θ_run (defs (F := Ideal)) (onTc (τ := τ) (main (F := Ideal))) ⟨m, fun _ => 0, g⟩ (fun r => ∀ c : Dev nD,
      r.2.mem ((c.tc : Thread nD τ).loc main_v0) = (fun y : S4096x2048.Idx => prod (m ((c.tc : Thread nD τ).loc main_arg0)) (m ((c.tc : Thread nD τ).loc main_arg1)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (arr_eq m c), (h c).2⟩) (Value.run_blocks (F := Ideal) m g)

end Cert.Kernel7Ideal.Ffn

namespace Cert.Reference7Ideal.Ffn

open Cert.Reference7Ideal Cert.Reference7Ideal.Read
open Idealize.ShloMosaic

/-- The reference at an index: the same product. -/
theorem res_at (x0 : (⟨S4096x9216, .bf16⟩ : BufTy).Contents (Elt Ideal)) (x1 : (⟨S1x2048x9216, .bf16⟩ : BufTy).Contents (Elt Ideal)) (i : S4096x2048.Idx) :
    val_main_v5 (F := Ideal) x0 x1 i = Cert.Kernel7Ideal.Ffn.prod x0 x1 (i 0) (i 1) := by
  refine (val_main_v5_apply x0 x1 i).trans (Finset.sum_congr rfl fun k _ => congrArg₂ (· * ·) ?_ ?_)
  · exact congrArg x0 (eq_ix2 (n0 := 4096) (n1 := 9216) _)
  · rw [val_main_v2_apply]
    refine congrArg x1 (funext fun a => Fin.ext ?_)
    have h1 : (i 1).val < 2048 := (i 1).isLt
    have hk : k.val < 9216 := k.isLt
    match a with
    | 0 => rfl
    | 1 => show ((i 1).val * 9216 + k.val) / 9216 % 2048 = (i 1).val; omega
    | 2 => show ((i 1).val * 9216 + k.val) % 9216 = k.val; omega

end Cert.Reference7Ideal.Ffn

namespace Cert.Proof

open Idealize.ShloMosaic Idealize.SL.Sem

/-- The two printed texts of the kernel are one program. -/
theorem defs7_eq : Cert.Kernel7.defs (F := Bits) = Cert.Kernel7Ideal.defs (F := Bits) :=
  congrArg (Pipeline.defs (Cert.Kernel7Ideal.pcfgs (F := Bits))) (congrArg Defs.onTc (funext fun l => funext fun p => match l, p with
    | ⟨0, _⟩, _ => rfl
    | ⟨_ + 1, h⟩, _ => absurd h (Nat.not_lt.2 (Nat.le_add_left _ _))))

/-- The frames of the gradient by the projection's input: one run, read at both instances, and the reference's. -/
theorem frame_kernel7 : Cert.quiescent_Kernel7 := by
  intro m g _
  rw [defs7_eq]
  exact Cert.Kernel7Ideal.Gen.frame (F := Bits) m g
theorem frame_kernel7Ideal : Cert.quiescent_Kernel7Ideal := fun m g _ => Cert.Kernel7Ideal.Gen.frame m g
theorem frame_reference7 : Cert.quiescent_Reference7Ideal := fun m g _ =>
  (θ_run Cert.Reference7Ideal.defs _ _).mono
    (fun r h => ⟨fun c => (h c).2, Idealize.ShloMosaic.sem_eq_zero_of_no_sems (by decide) r.2⟩)
    (Cert.Reference7Ideal.Value.run (F := Ideal) m g)

/-- The kernel's gradient by the projection's input is the reference's. -/
theorem algebraic7 : Cert.algebraic_Kernel7Ideal_Reference7Ideal := by
  intro m g m' g' _ harg
  refine ⟨_, Cert.Kernel7Ideal.Ffn.run_results m g, (θ_run Cert.Reference7Ideal.defs _ _).mono (fun r h c => ?_) (Cert.Reference7Ideal.Value.run (F := Ideal) m' g')⟩
  obtain ⟨a0, a1⟩ := harg c
  refine ⟨(h c).1.trans ?_, (h c).2⟩
  rw [Cert.Reference7Ideal.Read.val_main_v5_eq, a0, a1]
  funext y
  exact Cert.Reference7Ideal.Ffn.res_at _ _ y

end Cert.Proof

end
-- ==== Proof.Ffn.Qkv.lean ====
/- The dilated attention's joint projection of query, key and value: kernel and reference are one product. -/
module

public import proofs.«01_k».proof.Defs
public import proofs.«01_k».proof.Proof.Gen.Kernel8Ideal.Value
public import proofs.«01_k».proof.Proof.Gen.Kernel8
public import proofs.«01_k».proof.Proof.Gen.Kernel8Ideal
public import proofs.«01_k».proof.Proof.Gen.Reference8Ideal
public import proofs.«01_k».proof.Proof.Gen.Reference8Ideal.Run
public import proofs.«01_k».proof.Proof.Gen.Reference8Ideal.Read
public import Idealize.ShloMosaic.Lib.Pointwise
public import Idealize.ShloMosaic.Lib.IdealHost
public import Idealize.ShloMosaic.Lib.Pipeline.ValueKit
public import Idealize.ShloMosaic.Lib.Quiescent

@[expose] public section

set_option maxRecDepth 16384

noncomputable section

namespace Cert.Kernel8Ideal.Ffn

open Cert.Kernel8Ideal Cert.Kernel8Ideal.Gen
open Idealize.ShloMosaic Idealize.SL.Sem
open Idealize.ShloMosaic.TcCoe Idealize.ShloMosaic.Tactic

/-- The product of the input with the layer's weights. -/
def prod (a : S4096x2048.Idx → EReal) (b : S1x2048x9216.Idx → EReal) (R : Fin 4096) (C : Fin 9216) : EReal :=
  ∑ k : Fin 2048, a (ix2 R k) * b (ix3 (0 : Fin 1) k C)

/-- What one point stores: the product of its two blocks. -/
theorem out_at (x0 : Vec Ideal S2048x2048 .bf16) (x1 : Vec Ideal S1x2048x512 .bf16) (r : Fin 2048) (s : Fin 512) :
    (out0_2 (F := Ideal) x0 x1 : S2048x512.Idx → EReal) (ix2 r s) = ∑ k : Fin 2048, (x0 (ix2 r k) : EReal) * (x1 (ix3 (0 : Fin 1) k s) : EReal) := by
  have e : out0_2 (F := Ideal) x0 x1 = k0_pay1 x0 x1 := by
    unfold out0_2
    rw [View.canon_unit_zero (View.eq_zero_of_forall (by decide))]
    rw [View.ld_unit_zero (View.eq_zero_of_forall (by decide)), View.ld_unit_zero (View.eq_zero_of_forall (by decide))]
  rw [e]
  unfold k0_pay1
  pointwise

variable (m : (ℓ : Loc nD τ sig) → Buf (Elt Ideal) ℓ) (c : Dev nD)

/-- The input blocks of a point are the rows and the columns that its result block names. -/
theorem index_eq : ∀ t : Fin cfg0.N, (cfg0.win 0).index t = ![(cfg0.win 2).index t 0, 0] ∧ (cfg0.win 1).index t = ![0, 0, (cfg0.win 2).index t 1] := by decide +kernel

/-- A point's first block at an index of the input. -/
theorem blk0_at (t : Fin cfg0.N) (r k : Fin 2048) (R : Fin 4096) (hR : R.val = (cfg0.win 2).index t 0 * 2048 + r.val) :
    (iblk m c 0 t (ix2 r k) : EReal) = (m ((c : Thread nD τ).loc main_arg0) : S4096x2048.Idx → EReal) (ix2 R k) := by
  have e : (win0 2).index t 0 = (cfg0.win 2).index t 0 := rfl
  have i0 : (cfg0.win 0).index t 0 = (cfg0.win 2).index t 0 := congrFun (index_eq t).1 0
  have i1 : (cfg0.win 0).index t 1 = 0 := congrFun (index_eq t).1 1
  show (m ((c : Thread nD τ).loc main_arg0) : S4096x2048.Idx → EReal) _ = _
  refine congrArg _ (funext fun a => Fin.ext ?_)
  match a with
  | 0 => blk_simp; rw [i0]; dsimp only; omega
  | 1 => blk_simp; rw [i1]; omega

/-- A point's second block at an index of the weights. -/
theorem blk1_at (t : Fin cfg0.N) (k : Fin 2048) (s : Fin 512) (C : Fin 9216) (hC : C.val = (cfg0.win 2).index t 1 * 512 + s.val) :
    (iblk m c 1 t (ix3 (0 : Fin 1) k s) : EReal) = (m ((c : Thread nD τ).loc main_arg1) : S1x2048x9216.Idx → EReal) (ix3 (0 : Fin 1) k C) := by
  have e : (win0 2).index t 1 = (cfg0.win 2).index t 1 := rfl
  have i0 : (cfg0.win 1).index t 0 = 0 := congrFun (index_eq t).2 0
  have i1 : (cfg0.win 1).index t 1 = 0 := congrFun (index_eq t).2 1
  have i2 : (cfg0.win 1).index t 2 = (cfg0.win 2).index t 1 := congrFun (index_eq t).2 2
  show (m ((c : Thread nD τ).loc main_arg1) : S1x2048x9216.Idx → EReal) _ = _
  refine congrArg _ (funext fun a => Fin.ext ?_)
  match a with
  | 0 => blk_simp; rw [i0]; exact Nat.zero_add _
  | 1 => blk_simp; rw [i1]; omega
  | 2 => blk_simp; rw [i2]; dsimp only; omega

/-- The array the kernel leaves: the whole product. -/
theorem arr_eq : (dats m 0 c).arrAt 2 cfg0.N
    = (fun y : S4096x9216.Idx => prod (m ((c : Thread nD τ).loc main_arg0)) (m ((c : Thread nD τ).loc main_arg1)) (y 0) (y 1)) := by
  refine (dats m 0 c).arrAt_eq_of_covers 2 _ (by decide +kernel) fun t hf y => ?_
  rw [after0_2]
  refine Eq.trans ?_ ((out_at (iblk m c 0 t) (iblk m c 1 t) (y 0) (y 1)).trans (Finset.sum_congr rfl fun k _ => ?_))
  · blk_simp; exact congrArg (out0_2 (iblk m c 0 t) (iblk m c 1 t)) (eq_ix2 (n0 := 2048) (n1 := 512) y)
  · refine congrArg₂ (· * ·) (blk0_at m c t (y 0) k _ ?_) (blk1_at m c t k (y 1) _ ?_)
    · blk_simp
    · blk_simp

/-- The kernel leaves that product in its result and its arguments unchanged. -/
theorem run_results (g : Dev nD → PrngReg) :
    θ_run (defs (F := Ideal)) (onTc (τ := τ) (main (F := Ideal))) ⟨m, fun _ => 0, g⟩ (fun r => ∀ c : Dev nD,
      r.2.mem ((c.tc : Thread nD τ).loc main_v0) = (fun y : S4096x9216.Idx => prod (m ((c.tc : Thread nD τ).loc main_arg0)) (m ((c.tc : Thread nD τ).loc main_arg1)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (arr_eq m c), (h c).2⟩) (Value.run_blocks (F := Ideal) m g)

end Cert.Kernel8Ideal.Ffn

namespace Cert.Reference8Ideal.Ffn

open Cert.Reference8Ideal Cert.Reference8Ideal.Read
open Idealize.ShloMosaic

/-- The reference at an index: the same product. -/
theorem res_at (x0 : (⟨S4096x2048, .bf16⟩ : BufTy).Contents (Elt Ideal)) (x1 : (⟨S1x2048x9216, .bf16⟩ : BufTy).Contents (Elt Ideal)) (i : S4096x9216.Idx) :
    val_main_v3 (F := Ideal) x0 x1 i = Cert.Kernel8Ideal.Ffn.prod x0 x1 (i 0) (i 1) := by
  refine (val_main_v3_apply x0 x1 i).trans (Finset.sum_congr rfl fun k _ => congrArg₂ (· * ·) ?_ ?_)
  · exact congrArg x0 (eq_ix2 (n0 := 4096) (n1 := 2048) _)
  · rw [val_main_v2_apply]
    refine congrArg x1 (funext fun a => Fin.ext ?_)
    have h1 : (i 1).val < 9216 := (i 1).isLt
    have hk : k.val < 2048 := k.isLt
    match a with
    | 0 => rfl
    | 1 => show (k.val * 9216 + (i 1).val) / 9216 % 2048 = k.val; omega
    | 2 => show (k.val * 9216 + (i 1).val) % 9216 = (i 1).val; omega

end Cert.Reference8Ideal.Ffn

namespace Cert.Proof

open Idealize.ShloMosaic Idealize.SL.Sem

/-- The two printed texts of the kernel are one program. -/
theorem defs8_eq : Cert.Kernel8.defs (F := Bits) = Cert.Kernel8Ideal.defs (F := Bits) :=
  congrArg (Pipeline.defs (Cert.Kernel8Ideal.pcfgs (F := Bits))) (congrArg Defs.onTc (funext fun l => funext fun p => match l, p with
    | ⟨0, _⟩, _ => rfl
    | ⟨_ + 1, h⟩, _ => absurd h (Nat.not_lt.2 (Nat.le_add_left _ _))))

/-- The frames of the joint projection: one run, read at both instances, and the reference's. -/
theorem frame_kernel8 : Cert.quiescent_Kernel8 := by
  intro m g _
  rw [defs8_eq]
  exact Cert.Kernel8Ideal.Gen.frame (F := Bits) m g
theorem frame_kernel8Ideal : Cert.quiescent_Kernel8Ideal := fun m g _ => Cert.Kernel8Ideal.Gen.frame m g
theorem frame_reference8 : Cert.quiescent_Reference8Ideal := fun m g _ =>
  (θ_run Cert.Reference8Ideal.defs _ _).mono
    (fun r h => ⟨fun c => (h c).2, Idealize.ShloMosaic.sem_eq_zero_of_no_sems (by decide) r.2⟩)
    (Cert.Reference8Ideal.Value.run (F := Ideal) m g)

/-- The kernel's joint projection is the reference's. -/
theorem algebraic8 : Cert.algebraic_Kernel8Ideal_Reference8Ideal := by
  intro m g m' g' _ harg
  refine ⟨_, Cert.Kernel8Ideal.Ffn.run_results m g, (θ_run Cert.Reference8Ideal.defs _ _).mono (fun r h c => ?_) (Cert.Reference8Ideal.Value.run (F := Ideal) m' g')⟩
  obtain ⟨a0, a1⟩ := harg c
  refine ⟨(h c).1.trans ?_, (h c).2⟩
  rw [Cert.Reference8Ideal.Read.val_main_v3_eq, a0, a1]
  funext y
  exact Cert.Reference8Ideal.Ffn.res_at _ _ y

end Cert.Proof

end
-- ==== Proof.Ffn.In.lean ====
/- The feed-forward network's input product and its gate: one product, kept, and its halves multiplied through the gate. -/
module

public import proofs.«01_k».proof.Defs
public import proofs.«01_k».proof.Proof.Gen.Kernel9Ideal.Value
public import proofs.«01_k».proof.Proof.Gen.Kernel9
public import proofs.«01_k».proof.Proof.Gen.Kernel9Ideal
public import proofs.«01_k».proof.Proof.Gen.Reference9Ideal
public import proofs.«01_k».proof.Proof.Gen.Reference9Ideal.Run
public import proofs.«01_k».proof.Proof.Gen.Reference9Ideal.Read
public import Idealize.ShloMosaic.Lib.Pointwise
public import Idealize.ShloMosaic.Lib.IdealHost
public import Idealize.ShloMosaic.Lib.Pipeline.ValueKit
public import Idealize.ShloMosaic.Lib.Quiescent

@[expose] public section

set_option maxRecDepth 16384

noncomputable section

namespace Cert.Kernel9Ideal.Ffn

open Cert.Kernel9Ideal Cert.Kernel9Ideal.Gen
open Idealize.ShloMosaic Idealize.SL.Sem
open Idealize.ShloMosaic.TcCoe Idealize.ShloMosaic.Tactic

/-- The product of the input with the layer's weights. -/
def prod (a : S4096x2048.Idx → EReal) (b : S1x2048x11264.Idx → EReal) (R : Fin 4096) (C : Fin 11264) : EReal :=
  ∑ k : Fin 2048, a (ix2 R k) * b (ix3 (0 : Fin 1) k C)

/-- The gate: the first factor times its logistic, times the second. -/
def gated (g u : EReal) : EReal := g * Ideal.logistic g * u

/-- The product's column that is column `C`'s first factor: in each panel of 2816 columns the first half. -/
def gateCol (C : Fin 5632) : Fin 11264 := ⟨C.val / 1408 * 2816 + C.val % 1408, by have := C.isLt; omega⟩
/-- The product's column that is column `C`'s second factor. -/
def upCol (C : Fin 5632) : Fin 11264 := ⟨C.val / 1408 * 2816 + (1408 + C.val % 1408), by have := C.isLt; omega⟩

/-- The gated product at a row and a column. -/
def act (a : S4096x2048.Idx → EReal) (b : S1x2048x11264.Idx → EReal) (R : Fin 4096) (C : Fin 5632) : EReal :=
  gated (prod a b R (gateCol C)) (prod a b R (upCol C))

/-- The product of a point's two blocks. -/
theorem pay1_at (x0 : Vec Ideal S512x2048 .bf16) (x1 : Vec Ideal S1x2048x2816 .bf16) (r : Fin 512) (s : Fin 2816) :
    (k0_pay1 (F := Ideal) x0 x1 : S512x2816.Idx → EReal) (ix2 r s) = ∑ k : Fin 2048, (x0 (ix2 r k) : EReal) * (x1 (ix3 (0 : Fin 1) k s) : EReal) := by
  unfold k0_pay1
  pointwise

/-- Column `s` of the second half of a panel. -/
def up (s : Fin 1408) : Fin 2816 := ⟨1408 + s.val, by omega⟩
/-- Column `s` of the first half of a panel. -/
def gate (s : Fin 1408) : Fin 2816 := ⟨s.val, by omega⟩

/-- What one point stores as the gated product: its product's two halves through the gate. -/
theorem pay3_at (x0 : Vec Ideal S512x2048 .bf16) (x1 : Vec Ideal S1x2048x2816 .bf16) (r : Fin 512) (s : Fin 1408) :
    (k0_pay3 (F := Ideal) x0 x1 : S512x1408.Idx → EReal) (ix2 r s)
      = gated ((k0_pay1 (F := Ideal) x0 x1 : S512x2816.Idx → EReal) (ix2 r (gate s))) ((k0_pay1 (F := Ideal) x0 x1 : S512x2816.Idx → EReal) (ix2 r (up s))) := by
  have eg : (extractStridedSlice S512x1408 ![0, 0] (k0_pay1 (F := Ideal) x0 x1) slices_S512x2816_o0_0_S512x1408 : S512x1408.Idx → EReal) (ix2 r s)
      = (k0_pay1 (F := Ideal) x0 x1 : S512x2816.Idx → EReal) (ix2 r (gate s)) := by
    refine congrArg (k0_pay1 (F := Ideal) x0 x1) (funext fun a => Fin.ext ?_)
    match a with
    | 0 => exact Nat.zero_add _
    | 1 => exact Nat.zero_add _
  have eu : (extractStridedSlice S512x1408 ![0, 1408] (k0_pay1 (F := Ideal) x0 x1) slices_S512x2816_o0_1408_S512x1408 : S512x1408.Idx → EReal) (ix2 r s)
      = (k0_pay1 (F := Ideal) x0 x1 : S512x2816.Idx → EReal) (ix2 r (up s)) := by
    refine congrArg (k0_pay1 (F := Ideal) x0 x1) (funext fun a => Fin.ext ?_)
    match a with
    | 0 => exact Nat.zero_add _
    | 1 => rfl
  rw [← eg, ← eu]
  rfl

/-- What one point stores as the product. -/
theorem out2_at (x0 : Vec Ideal S512x2048 .bf16) (x1 : Vec Ideal S1x2048x2816 .bf16) (r : Fin 512) (s : Fin 2816) :
    (out0_2 (F := Ideal) x0 x1 : S512x2816.Idx → EReal) (ix2 r s) = (k0_pay1 (F := Ideal) x0 x1 : S512x2816.Idx → EReal) (ix2 r s) := by
  have e : out0_2 (F := Ideal) x0 x1 = k0_pay2 x0 x1 := by
    unfold out0_2
    rw [View.canon_unit_zero (View.eq_zero_of_forall (by decide))]
    rw [View.ld_unit_zero (View.eq_zero_of_forall (by decide)), View.ld_unit_zero (View.eq_zero_of_forall (by decide))]
  rw [e]
  rfl

/-- What one point stores as the gated product, in its buffer. -/
theorem out3_at (x0 : Vec Ideal S512x2048 .bf16) (x1 : Vec Ideal S1x2048x2816 .bf16) (r : Fin 512) (s : Fin 1408) :
    (out0_3 (F := Ideal) x0 x1 : S512x1408.Idx → EReal) (ix2 r s)
      = gated ((k0_pay1 (F := Ideal) x0 x1 : S512x2816.Idx → EReal) (ix2 r (gate s))) ((k0_pay1 (F := Ideal) x0 x1 : S512x2816.Idx → EReal) (ix2 r (up s))) := by
  have e : out0_3 (F := Ideal) x0 x1 = k0_pay3 x0 x1 := by
    unfold out0_3
    rw [View.canon_unit_zero (View.eq_zero_of_forall (by decide))]
    rw [View.ld_unit_zero (View.eq_zero_of_forall (by decide)), View.ld_unit_zero (View.eq_zero_of_forall (by decide))]
  rw [e]
  exact pay3_at x0 x1 r s

variable (m : (ℓ : Loc nD τ sig) → Buf (Elt Ideal) ℓ) (c : Dev nD)

/-- The input blocks of a point are the rows and the columns that its result blocks name. -/
theorem index_eq : ∀ t : Fin cfg0.N, (cfg0.win 0).index t = ![(cfg0.win 2).index t 0, 0] ∧ (cfg0.win 1).index t = ![0, 0, (cfg0.win 2).index t 1]
    ∧ (cfg0.win 3).index t = ![(cfg0.win 2).index t 0, (cfg0.win 2).index t 1] := by decide +kernel

/-- A point's first block at an index of the input. -/
theorem blk0_at (t : Fin cfg0.N) (r : Fin 512) (k : Fin 2048) (R : Fin 4096) (hR : R.val = (cfg0.win 2).index t 0 * 512 + r.val) :
    (iblk m c 0 t (ix2 r k) : EReal) = (m ((c : Thread nD τ).loc main_arg0) : S4096x2048.Idx → EReal) (ix2 R k) := by
  have e : (win0 2).index t 0 = (cfg0.win 2).index t 0 := rfl
  have i0 : (cfg0.win 0).index t 0 = (cfg0.win 2).index t 0 := congrFun (index_eq t).1 0
  have i1 : (cfg0.win 0).index t 1 = 0 := congrFun (index_eq t).1 1
  show (m ((c : Thread nD τ).loc main_arg0) : S4096x2048.Idx → EReal) _ = _
  refine congrArg _ (funext fun a => Fin.ext ?_)
  match a with
  | 0 => blk_simp; rw [i0]; dsimp only; omega
  | 1 => blk_simp; rw [i1]; omega

/-- A point's second block at an index of the weights. -/
theorem blk1_at (t : Fin cfg0.N) (k : Fin 2048) (s : Fin 2816) (C : Fin 11264) (hC : C.val = (cfg0.win 2).index t 1 * 2816 + s.val) :
    (iblk m c 1 t (ix3 (0 : Fin 1) k s) : EReal) = (m ((c : Thread nD τ).loc main_arg1) : S1x2048x11264.Idx → EReal) (ix3 (0 : Fin 1) k C) := by
  have e : (win0 2).index t 1 = (cfg0.win 2).index t 1 := rfl
  have i0 : (cfg0.win 1).index t 0 = 0 := congrFun (index_eq t).2.1 0
  have i1 : (cfg0.win 1).index t 1 = 0 := congrFun (index_eq t).2.1 1
  have i2 : (cfg0.win 1).index t 2 = (cfg0.win 2).index t 1 := congrFun (index_eq t).2.1 2
  show (m ((c : Thread nD τ).loc main_arg1) : S1x2048x11264.Idx → EReal) _ = _
  refine congrArg _ (funext fun a => Fin.ext ?_)
  match a with
  | 0 => blk_simp; rw [i0]; exact Nat.zero_add _
  | 1 => blk_simp; rw [i1]; omega
  | 2 => blk_simp; rw [i2]; dsimp only; omega

/-- The product of a point's blocks is the whole product at the row and the column its index names. -/
theorem prod_at (t : Fin cfg0.N) (r : Fin 512) (s : Fin 2816) (R : Fin 4096) (C : Fin 11264) (hR : R.val = (cfg0.win 2).index t 0 * 512 + r.val)
    (hC : C.val = (cfg0.win 2).index t 1 * 2816 + s.val) :
    (k0_pay1 (F := Ideal) (iblk m c 0 t) (iblk m c 1 t) : S512x2816.Idx → EReal) (ix2 r s)
      = prod (m ((c : Thread nD τ).loc main_arg0)) (m ((c : Thread nD τ).loc main_arg1)) R C := by
  refine (pay1_at _ _ r s).trans (Finset.sum_congr rfl fun k _ => ?_)
  exact congrArg₂ (· * ·) (blk0_at m c t r k R hR) (blk1_at m c t k s C hC)

/-- What a point stores as the gated product is the whole gated product at the row and the column its index names. -/
theorem act_at (t : Fin cfg0.N) (r : Fin 512) (s : Fin 1408) (R : Fin 4096) (C : Fin 5632) (hR : R.val = (cfg0.win 3).index t 0 * 512 + r.val)
    (hC : C.val = (cfg0.win 3).index t 1 * 1408 + s.val) :
    (out0_3 (F := Ideal) (iblk m c 0 t) (iblk m c 1 t) : S512x1408.Idx → EReal) (ix2 r s)
      = act (m ((c : Thread nD τ).loc main_arg0)) (m ((c : Thread nD τ).loc main_arg1)) R C := by
  have i0 : (cfg0.win 3).index t 0 = (cfg0.win 2).index t 0 := congrFun (index_eq t).2.2 0
  have i1 : (cfg0.win 3).index t 1 = (cfg0.win 2).index t 1 := congrFun (index_eq t).2.2 1
  rw [i0] at hR
  rw [i1] at hC
  have hs := s.isLt
  have h1 : C.val / 1408 = (cfg0.win 2).index t 1 := by omega
  have h2 : C.val % 1408 = s.val := by omega
  refine (out3_at _ _ r s).trans (congrArg₂ gated (prod_at m c t r (gate s) R (gateCol C) hR ?_) (prod_at m c t r (up s) R (upCol C) hR ?_))
  · show C.val / 1408 * 2816 + C.val % 1408 = _ + s.val; rw [h1, h2]
  · show C.val / 1408 * 2816 + (1408 + C.val % 1408) = _ + (1408 + s.val); rw [h1, h2]

/-- The first array the kernel leaves: the whole product. -/
theorem arr2_eq : (dats m 0 c).arrAt 2 cfg0.N
    = (fun y : S4096x11264.Idx => prod (m ((c : Thread nD τ).loc main_arg0)) (m ((c : Thread nD τ).loc main_arg1)) (y 0) (y 1)) := by
  refine (dats m 0 c).arrAt_eq_of_covers 2 _ (by decide +kernel) fun t hf y => ?_
  rw [after0_2]
  refine Eq.trans ?_ ((out2_at (iblk m c 0 t) (iblk m c 1 t) (y 0) (y 1)).trans (prod_at m c t (y 0) (y 1) _ _ ?_ ?_))
  · blk_simp; exact congrArg (out0_2 (iblk m c 0 t) (iblk m c 1 t)) (eq_ix2 (n0 := 512) (n1 := 2816) y)
  · blk_simp
  · blk_simp

/-- The second array the kernel leaves: the gated product. -/
theorem arr3_eq : (dats m 0 c).arrAt 3 cfg0.N
    = (fun y : S4096x5632.Idx => act (m ((c : Thread nD τ).loc main_arg0)) (m ((c : Thread nD τ).loc main_arg1)) (y 0) (y 1)) := by
  refine (dats m 0 c).arrAt_eq_of_covers 3 _ (by decide +kernel) fun t hf y => ?_
  rw [after0_3]
  refine Eq.trans ?_ (act_at m c t (y 0) (y 1) _ _ ?_ ?_)
  · blk_simp; exact congrArg (out0_3 (iblk m c 0 t) (iblk m c 1 t)) (eq_ix2 (n0 := 512) (n1 := 1408) y)
  · blk_simp
  · blk_simp

/-- The kernel leaves the two in its results and its arguments unchanged. -/
theorem run_results (g : Dev nD → PrngReg) :
    θ_run (defs (F := Ideal)) (onTc (τ := τ) (main (F := Ideal))) ⟨m, fun _ => 0, g⟩ (fun r => ∀ c : Dev nD,
      r.2.mem ((c.tc : Thread nD τ).loc main_v0_0) = (fun y : S4096x11264.Idx => prod (m ((c.tc : Thread nD τ).loc main_arg0)) (m ((c.tc : Thread nD τ).loc main_arg1)) (y 0) (y 1))
      ∧ r.2.mem ((c.tc : Thread nD τ).loc main_v0_1) = (fun y : S4096x5632.Idx => act (m ((c.tc : Thread nD τ).loc main_arg0)) (m ((c.tc : Thread nD τ).loc main_arg1)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (arr2_eq m c), (h c).2.1.trans (arr3_eq m c), (h c).2.2⟩) (Value.run_blocks (F := Ideal) m g)

end Cert.Kernel9Ideal.Ffn

namespace Cert.Reference9Ideal.Ffn

open Cert.Reference9Ideal Cert.Reference9Ideal.Read
open Idealize.ShloMosaic Cert.Kernel9Ideal.Ffn

variable (x0 : (⟨S4096x2048, .bf16⟩ : BufTy).Contents (Elt Ideal)) (x1 : (⟨S1x2048x11264, .bf16⟩ : BufTy).Contents (Elt Ideal))

/-- The reference's product at an index. -/
theorem v3_at (i : S4096x11264.Idx) : (val_main_v3 (F := Ideal) x0 x1 i : EReal) = prod x0 x1 (i 0) (i 1) := by
  refine (val_main_v3_apply x0 x1 i).trans (Finset.sum_congr rfl fun k _ => congrArg₂ (· * ·) ?_ ?_)
  · exact congrArg x0 (eq_ix2 (n0 := 4096) (n1 := 2048) _)
  · rw [val_main_v2_apply]
    refine congrArg x1 (funext fun a => Fin.ext ?_)
    have h1 : (i 1).val < 11264 := (i 1).isLt
    have hk : k.val < 2048 := k.isLt
    match a with
    | 0 => rfl
    | 1 => show (k.val * 11264 + (i 1).val) / 11264 % 2048 = k.val; omega
    | 2 => show (k.val * 11264 + (i 1).val) % 11264 = (i 1).val; omega

/-- Where the reference keeps what belongs to a row and a column: row, panel, 0, column of the panel's half. -/
def at4 (R : Fin 4096) (C : Fin 5632) : S4096x4x1x1408.Idx := fun a => match a with
  | ⟨0, _⟩ => R
  | ⟨1, _⟩ => (⟨C.val / 1408, by have := C.isLt; omega⟩ : Fin 4)
  | ⟨2, _⟩ => (0 : Fin 1)
  | ⟨3, _⟩ => (⟨C.val % 1408, Nat.mod_lt _ (by decide)⟩ : Fin 1408)

theorem gate_at (R : Fin 4096) (C : Fin 5632) : (val_main_v5 (F := Ideal) x0 x1 (at4 R C) : EReal) = prod x0 x1 R (gateCol C) := by
  have hC := C.isLt
  rw [val_main_v5_apply, val_main_v4_apply]
  refine (congrArg (val_main_v3 (F := Ideal) x0 x1) (a₂ := ix2 R (gateCol C)) (funext fun a => Fin.ext ?_)).trans (v3_at x0 x1 _)
  match a with
  | 0 => show (((R.val * 4 + C.val / 1408) * 2 + 0) * 1408 + C.val % 1408) / 11264 = R.val; omega
  | 1 => show (((R.val * 4 + C.val / 1408) * 2 + 0) * 1408 + C.val % 1408) % 11264 = C.val / 1408 * 2816 + C.val % 1408; omega

theorem up_at (R : Fin 4096) (C : Fin 5632) : (val_main_v6 (F := Ideal) x0 x1 (at4 R C) : EReal) = prod x0 x1 R (upCol C) := by
  have hC := C.isLt
  rw [val_main_v6_apply, val_main_v4_apply]
  refine (congrArg (val_main_v3 (F := Ideal) x0 x1) (a₂ := ix2 R (upCol C)) (funext fun a => Fin.ext ?_)).trans (v3_at x0 x1 _)
  match a with
  | 0 => show (((R.val * 4 + C.val / 1408) * 2 + (1 + 0)) * 1408 + C.val % 1408) / 11264 = R.val; omega
  | 1 => show (((R.val * 4 + C.val / 1408) * 2 + (1 + 0)) * 1408 + C.val % 1408) % 11264 = C.val / 1408 * 2816 + (1408 + C.val % 1408); omega

/-- The reference's sigmoid is the logistic function. -/
theorem sig_at (i : S4096x4x1x1408.Idx) : (val_main_call0_v5 (F := Ideal) x0 x1 i : EReal) = Ideal.logistic (val_main_v5 (F := Ideal) x0 x1 i) := by
  rw [val_main_call0_v5_apply, val_main_call0_v4_apply, val_main_call0_cst_0_apply, val_main_call0_v3_apply, val_main_call0_v2_apply, val_main_call0_cst_apply,
    val_main_call0_v1_apply, val_main_call0_v0_apply]
  show Ideal.div (Ideal.ofBits .f32 0x3F800000#32) (Ideal.ofBits .f32 0x3F800000#32 + _) = _
  rw [Ideal.ofBits_one_f32]
  rfl

/-- The reference's gated product. -/
theorem v8_at (R : Fin 4096) (C : Fin 5632) : (val_main_v8 (F := Ideal) x0 x1 (at4 R C) : EReal) = act x0 x1 R C := by
  rw [val_main_v8_apply, val_main_v7_apply, sig_at, gate_at, up_at]
  rfl

/-- The reference's first result: the product. -/
theorem res0_at (i : S4096x11264.Idx) : (val_main_v10 (F := Ideal) x0 x1 i : EReal) = prod x0 x1 (i 0) (i 1) :=
  (val_main_v10_apply x0 x1 i).trans (v3_at x0 x1 i)

/-- The reference's second result: the gated product. -/
theorem res1_at (i : S4096x5632.Idx) : (val_main_v11 (F := Ideal) x0 x1 i : EReal) = act x0 x1 (i 0) (i 1) := by
  have hR : (i 0).val < 4096 := (i 0).isLt
  have hC : (i 1).val < 5632 := (i 1).isLt
  refine (val_main_v11_apply x0 x1 i).trans ((val_main_v9_apply x0 x1 i).trans (Eq.trans (congrArg (val_main_v8 (F := Ideal) x0 x1) (funext fun a => Fin.ext ?_)) (v8_at x0 x1 (i 0) (i 1))))
  match a with
  | 0 => show ((i 0).val * 5632 + (i 1).val) / 5632 = (i 0).val; omega
  | 1 => show ((i 0).val * 5632 + (i 1).val) / 1408 % 4 = (i 1).val / 1408; omega
  | 2 => rfl
  | 3 => show ((i 0).val * 5632 + (i 1).val) % 1408 = (i 1).val % 1408; omega

end Cert.Reference9Ideal.Ffn

namespace Cert.Proof

open Idealize.ShloMosaic Idealize.SL.Sem

/-- The two printed texts of the kernel are one program. -/
theorem defs9_eq : Cert.Kernel9.defs (F := Bits) = Cert.Kernel9Ideal.defs (F := Bits) :=
  congrArg (Pipeline.defs (Cert.Kernel9Ideal.pcfgs (F := Bits))) (congrArg Defs.onTc (funext fun l => funext fun p => match l, p with
    | ⟨0, _⟩, _ => rfl
    | ⟨_ + 1, h⟩, _ => absurd h (Nat.not_lt.2 (Nat.le_add_left _ _))))

/-- The frames of the input product and its gate: one run, read at both instances, and the reference's. -/
theorem frame_kernel9 : Cert.quiescent_Kernel9 := by
  intro m g _
  rw [defs9_eq]
  exact Cert.Kernel9Ideal.Gen.frame (F := Bits) m g
theorem frame_kernel9Ideal : Cert.quiescent_Kernel9Ideal := fun m g _ => Cert.Kernel9Ideal.Gen.frame m g
theorem frame_reference9 : Cert.quiescent_Reference9Ideal := fun m g _ =>
  (θ_run Cert.Reference9Ideal.defs _ _).mono
    (fun r h => ⟨fun c => (h c).2.2, Idealize.ShloMosaic.sem_eq_zero_of_no_sems (by decide) r.2⟩)
    (Cert.Reference9Ideal.Value.run (F := Ideal) m g)

/-- The kernel's input product and its gate is the reference's. -/
theorem algebraic9 : Cert.algebraic_Kernel9Ideal_Reference9Ideal := by
  intro m g m' g' _ harg
  refine ⟨_, _, Cert.Kernel9Ideal.Ffn.run_results m g, (θ_run Cert.Reference9Ideal.defs _ _).mono (fun r h c => ?_) (Cert.Reference9Ideal.Value.run (F := Ideal) m' g')⟩
  obtain ⟨a0, a1⟩ := harg c
  refine ⟨(h c).1.trans ?_, (h c).2.1.trans ?_, (h c).2.2⟩
  · rw [Cert.Reference9Ideal.Read.val_main_v10_eq, a0, a1]
    funext y
    exact Cert.Reference9Ideal.Ffn.res0_at _ _ y
  · rw [Cert.Reference9Ideal.Read.val_main_v11_eq, a0, a1]
    funext y
    exact Cert.Reference9Ideal.Ffn.res1_at _ _ y

end Cert.Proof

end
-- ==== Proof.Ffn.Out.lean ====
/- The feed-forward network's output product with its residual: the input plus half a product. -/
module

public import proofs.«01_k».proof.Defs
public import proofs.«01_k».proof.Proof.Ffn.Half
public import proofs.«01_k».proof.Proof.Gen.Kernel10Ideal.Value
public import proofs.«01_k».proof.Proof.Gen.Kernel10
public import proofs.«01_k».proof.Proof.Gen.Kernel10Ideal
public import proofs.«01_k».proof.Proof.Gen.Reference10Ideal
public import proofs.«01_k».proof.Proof.Gen.Reference10Ideal.Run
public import proofs.«01_k».proof.Proof.Gen.Reference10Ideal.Read
public import Idealize.ShloMosaic.Lib.Pointwise
public import Idealize.ShloMosaic.Lib.IdealHost
public import Idealize.ShloMosaic.Lib.Pipeline.ValueKit
public import Idealize.ShloMosaic.Lib.Quiescent

@[expose] public section

set_option maxRecDepth 16384

noncomputable section

namespace Cert.Kernel10Ideal.Ffn

open Cert.Kernel10Ideal Cert.Kernel10Ideal.Gen
open Idealize.ShloMosaic Idealize.SL.Sem Cert.Ffn
open Idealize.ShloMosaic.TcCoe Idealize.ShloMosaic.Tactic

/-- The residual plus half the product of the activations with the layer's weights. -/
def resid (a : S4096x5632.Idx → EReal) (b : S1x5632x2048.Idx → EReal) (x : S4096x2048.Idx → EReal) (R : Fin 4096) (C : Fin 2048) : EReal :=
  x (ix2 R C) + (∑ k : Fin 5632, a (ix2 R k) * b (ix3 (0 : Fin 1) k C)) * half

/-- What one point stores: its residual block plus half the product of the other two. -/
theorem out_at (x0 : Vec Ideal S512x5632 .bf16) (x1 : Vec Ideal S1x5632x1024 .bf16) (x2 : Vec Ideal S512x1024 .f32) (r : Fin 512) (s : Fin 1024) :
    (out0_3 (F := Ideal) x0 x1 x2 : S512x1024.Idx → EReal) (ix2 r s)
      = (x2 (ix2 r s) : EReal) + (∑ k : Fin 5632, (x0 (ix2 r k) : EReal) * (x1 (ix3 (0 : Fin 1) k s) : EReal)) * half := by
  have e : out0_3 (F := Ideal) x0 x1 x2 = k0_pay1 x0 x1 x2 := by
    unfold out0_3
    rw [View.canon_unit_zero (View.eq_zero_of_forall (by decide))]
    rw [View.ld_unit_zero (View.eq_zero_of_forall (by decide)), View.ld_unit_zero (View.eq_zero_of_forall (by decide)), View.ld_unit_zero (View.eq_zero_of_forall (by decide))]
  rw [e]
  unfold k0_pay1 half
  pointwise

variable (m : (ℓ : Loc nD τ sig) → Buf (Elt Ideal) ℓ) (c : Dev nD)

/-- The input blocks of a point are the rows and the columns that its result block names. -/
theorem index_eq : ∀ t : Fin cfg0.N, (cfg0.win 0).index t = ![(cfg0.win 3).index t 0, 0] ∧ (cfg0.win 1).index t = ![0, 0, (cfg0.win 3).index t 1]
    ∧ (cfg0.win 2).index t = ![(cfg0.win 3).index t 0, (cfg0.win 3).index t 1] := by decide +kernel

/-- A point's first block at an index of the activations. -/
theorem blk0_at (t : Fin cfg0.N) (r : Fin 512) (k : Fin 5632) (R : Fin 4096) (hR : R.val = (cfg0.win 3).index t 0 * 512 + r.val) :
    (iblk m c 0 t (ix2 r k) : EReal) = (m ((c : Thread nD τ).loc main_arg0) : S4096x5632.Idx → EReal) (ix2 R k) := by
  have e : (win0 3).index t 0 = (cfg0.win 3).index t 0 := rfl
  have i0 : (cfg0.win 0).index t 0 = (cfg0.win 3).index t 0 := congrFun (index_eq t).1 0
  have i1 : (cfg0.win 0).index t 1 = 0 := congrFun (index_eq t).1 1
  show (m ((c : Thread nD τ).loc main_arg0) : S4096x5632.Idx → EReal) _ = _
  refine congrArg _ (funext fun a => Fin.ext ?_)
  match a with
  | 0 => blk_simp; rw [i0]; dsimp only; omega
  | 1 => blk_simp; rw [i1]; omega

/-- A point's second block at an index of the weights. -/
theorem blk1_at (t : Fin cfg0.N) (k : Fin 5632) (s : Fin 1024) (C : Fin 2048) (hC : C.val = (cfg0.win 3).index t 1 * 1024 + s.val) :
    (iblk m c 1 t (ix3 (0 : Fin 1) k s) : EReal) = (m ((c : Thread nD τ).loc main_arg1) : S1x5632x2048.Idx → EReal) (ix3 (0 : Fin 1) k C) := by
  have e : (win0 3).index t 1 = (cfg0.win 3).index t 1 := rfl
  have i0 : (cfg0.win 1).index t 0 = 0 := congrFun (index_eq t).2.1 0
  have i1 : (cfg0.win 1).index t 1 = 0 := congrFun (index_eq t).2.1 1
  have i2 : (cfg0.win 1).index t 2 = (cfg0.win 3).index t 1 := congrFun (index_eq t).2.1 2
  show (m ((c : Thread nD τ).loc main_arg1) : S1x5632x2048.Idx → EReal) _ = _
  refine congrArg _ (funext fun a => Fin.ext ?_)
  match a with
  | 0 => blk_simp; rw [i0]; exact Nat.zero_add _
  | 1 => blk_simp; rw [i1]; omega
  | 2 => blk_simp; rw [i2]; dsimp only; omega

/-- A point's third block at an index of the residual. -/
theorem blk2_at (t : Fin cfg0.N) (r : Fin 512) (s : Fin 1024) (R : Fin 4096) (C : Fin 2048) (hR : R.val = (cfg0.win 3).index t 0 * 512 + r.val)
    (hC : C.val = (cfg0.win 3).index t 1 * 1024 + s.val) :
    (iblk m c 2 t (ix2 r s) : EReal) = (m ((c : Thread nD τ).loc main_arg2) : S4096x2048.Idx → EReal) (ix2 R C) := by
  have i0 : (cfg0.win 2).index t 0 = (cfg0.win 3).index t 0 := congrFun (index_eq t).2.2 0
  have i1 : (cfg0.win 2).index t 1 = (cfg0.win 3).index t 1 := congrFun (index_eq t).2.2 1
  have e0 : (win0 3).index t 0 = (cfg0.win 3).index t 0 := rfl
  have e1 : (win0 3).index t 1 = (cfg0.win 3).index t 1 := rfl
  show (m ((c : Thread nD τ).loc main_arg2) : S4096x2048.Idx → EReal) _ = _
  refine congrArg _ (funext fun a => Fin.ext ?_)
  match a with
  | 0 => blk_simp; rw [i0]; dsimp only; omega
  | 1 => blk_simp; rw [i1]; dsimp only; omega

/-- What a point stores, at the row and the column of the whole result that its block's index names. -/
theorem point_at (t : Fin cfg0.N) (r : Fin 512) (s : Fin 1024) (R : Fin 4096) (C : Fin 2048) (hR : R.val = (cfg0.win 3).index t 0 * 512 + r.val)
    (hC : C.val = (cfg0.win 3).index t 1 * 1024 + s.val) :
    (out0_3 (F := Ideal) (iblk m c 0 t) (iblk m c 1 t) (iblk m c 2 t) : S512x1024.Idx → EReal) (ix2 r s)
      = resid (m ((c : Thread nD τ).loc main_arg0)) (m ((c : Thread nD τ).loc main_arg1)) (m ((c : Thread nD τ).loc main_arg2)) R C := by
  refine (out_at _ _ _ r s).trans (congrArg₂ (fun a b : EReal => a + b * half) (blk2_at m c t r s R C hR hC) (Finset.sum_congr rfl fun k _ => ?_))
  exact congrArg₂ (· * ·) (blk0_at m c t r k R hR) (blk1_at m c t k s C hC)

/-- The array the kernel leaves. -/
theorem arr_eq : (dats m 0 c).arrAt 3 cfg0.N
    = (fun y : S4096x2048.Idx => resid (m ((c : Thread nD τ).loc main_arg0)) (m ((c : Thread nD τ).loc main_arg1)) (m ((c : Thread nD τ).loc main_arg2)) (y 0) (y 1)) := by
  refine (dats m 0 c).arrAt_eq_of_covers 3 _ (by decide +kernel) fun t hf y => ?_
  rw [after0_3]
  refine Eq.trans ?_ (point_at m c t (y 0) (y 1) _ _ ?_ ?_)
  · blk_simp; exact congrArg (out0_3 (iblk m c 0 t) (iblk m c 1 t) (iblk m c 2 t)) (eq_ix2 (n0 := 512) (n1 := 1024) y)
  · blk_simp
  · blk_simp

/-- The kernel leaves that in its result and its arguments unchanged. -/
theorem run_results (g : Dev nD → PrngReg) :
    θ_run (defs (F := Ideal)) (onTc (τ := τ) (main (F := Ideal))) ⟨m, fun _ => 0, g⟩ (fun r => ∀ c : Dev nD,
      r.2.mem ((c.tc : Thread nD τ).loc main_v0) = (fun y : S4096x2048.Idx => resid (m ((c.tc : Thread nD τ).loc main_arg0)) (m ((c.tc : Thread nD τ).loc main_arg1)) (m ((c.tc : Thread nD τ).loc main_arg2)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (arr_eq m c), (h c).2⟩) (Value.run_blocks (F := Ideal) m g)

end Cert.Kernel10Ideal.Ffn

namespace Cert.Reference10Ideal.Ffn

open Cert.Reference10Ideal Cert.Reference10Ideal.Read
open Idealize.ShloMosaic Cert.Ffn

/-- The reference at an index: the same, with the half on the product's other side. -/
theorem res_at (x0 : (⟨S4096x5632, .bf16⟩ : BufTy).Contents (Elt Ideal)) (x1 : (⟨S1x5632x2048, .bf16⟩ : BufTy).Contents (Elt Ideal))
    (x2 : (⟨S4096x2048, .f32⟩ : BufTy).Contents (Elt Ideal)) (i : S4096x2048.Idx) :
    val_main_v6 (F := Ideal) x0 x1 x2 i = Cert.Kernel10Ideal.Ffn.resid x0 x1 x2 (i 0) (i 1) := by
  rw [val_main_v6_apply, val_main_v5_apply, val_main_v4_apply, val_main_cst_apply]
  refine congrArg₂ (fun a b : EReal => a + b) (congrArg x2 (eq_ix2 (n0 := 4096) (n1 := 2048) i)) ((mul_comm half _).trans (congrArg (· * half) ?_))
  refine (val_main_v3_apply x0 x1 i).trans (Finset.sum_congr rfl fun k _ => congrArg₂ (· * ·) ?_ ?_)
  · exact congrArg x0 (eq_ix2 (n0 := 4096) (n1 := 5632) _)
  · rw [val_main_v2_apply]
    refine congrArg x1 (funext fun a => Fin.ext ?_)
    have h1 : (i 1).val < 2048 := (i 1).isLt
    have hk : k.val < 5632 := k.isLt
    match a with
    | 0 => rfl
    | 1 => show (k.val * 2048 + (i 1).val) / 2048 % 5632 = k.val; omega
    | 2 => show (k.val * 2048 + (i 1).val) % 2048 = (i 1).val; omega

end Cert.Reference10Ideal.Ffn

namespace Cert.Proof

open Idealize.ShloMosaic Idealize.SL.Sem

/-- The two printed texts of the kernel are one program. -/
theorem defs10_eq : Cert.Kernel10.defs (F := Bits) = Cert.Kernel10Ideal.defs (F := Bits) :=
  congrArg (Pipeline.defs (Cert.Kernel10Ideal.pcfgs (F := Bits))) (congrArg Defs.onTc (funext fun l => funext fun p => match l, p with
    | ⟨0, _⟩, _ => rfl
    | ⟨_ + 1, h⟩, _ => absurd h (Nat.not_lt.2 (Nat.le_add_left _ _))))

/-- The frames of the output product with its residual: one run, read at both instances, and the reference's. -/
theorem frame_kernel10 : Cert.quiescent_Kernel10 := by
  intro m g _
  rw [defs10_eq]
  exact Cert.Kernel10Ideal.Gen.frame (F := Bits) m g
theorem frame_kernel10Ideal : Cert.quiescent_Kernel10Ideal := fun m g _ => Cert.Kernel10Ideal.Gen.frame m g
theorem frame_reference10 : Cert.quiescent_Reference10Ideal := fun m g _ =>
  (θ_run Cert.Reference10Ideal.defs _ _).mono
    (fun r h => ⟨fun c => (h c).2, Idealize.ShloMosaic.sem_eq_zero_of_no_sems (by decide) r.2⟩)
    (Cert.Reference10Ideal.Value.run (F := Ideal) m g)

/-- The kernel's output product with its residual is the reference's. -/
theorem algebraic10 : Cert.algebraic_Kernel10Ideal_Reference10Ideal := by
  intro m g m' g' _ harg
  refine ⟨_, Cert.Kernel10Ideal.Ffn.run_results m g, (θ_run Cert.Reference10Ideal.defs _ _).mono (fun r h c => ?_) (Cert.Reference10Ideal.Value.run (F := Ideal) m' g')⟩
  obtain ⟨a0, a1, a2⟩ := harg c
  refine ⟨(h c).1.trans ?_, (h c).2⟩
  rw [Cert.Reference10Ideal.Read.val_main_v6_eq, a0, a1, a2]
  funext y
  exact Cert.Reference10Ideal.Ffn.res_at _ _ _ y

end Cert.Proof

end
-- ==== Proof.lean ====
module

public import proofs.«01_k».proof.Defs
public import proofs.«01_k».proof.Proof.Flash.Frames
public import proofs.«01_k».proof.Proof.Flash.Algebraic
public import proofs.«01_k».proof.Proof.Ffn.Da
public import proofs.«01_k».proof.Proof.Ffn.Dwin
public import proofs.«01_k».proof.Proof.Ffn.Dh
public import proofs.«01_k».proof.Proof.Ffn.Dwout
public import proofs.«01_k».proof.Proof.Ffn.Dwqkv
public import proofs.«01_k».proof.Proof.Ffn.Dxn
public import proofs.«01_k».proof.Proof.Ffn.Qkv
public import proofs.«01_k».proof.Proof.Ffn.In
public import proofs.«01_k».proof.Proof.Ffn.Out
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2Ideal.Value
public import proofs.«01_k».proof.Proof.Gen.Kernel2
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Kernel3
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Kernel4
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Kernel5
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Kernel6
public import proofs.«01_k».proof.Proof.Gen.Kernel6Ideal
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Kernel7
public import proofs.«01_k».proof.Proof.Gen.Kernel7Ideal
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Kernel8
public import proofs.«01_k».proof.Proof.Gen.Kernel8Ideal
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9Ideal.Value
public import proofs.«01_k».proof.Proof.Gen.Kernel9
public import proofs.«01_k».proof.Proof.Gen.Kernel9Ideal
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10Ideal.Value
public import proofs.«01_k».proof.Proof.Gen.Kernel10
public import proofs.«01_k».proof.Proof.Gen.Kernel10Ideal
public import proofs.«01_k».proof.Proof.Gen.Reference10Ideal
public import proofs.«01_k».proof.Proof.Gen.Reference10Ideal.Run
public import proofs.«01_k».proof.Proof.Gen.Reference10Ideal.Read
public import proofs.«01_k».proof.Proof.Gen.Pre_finite2
public import Idealize.ShloMosaic.Adequacy
public import Idealize.ShloMosaic.Init

@[expose] public section

noncomputable section

namespace Cert.Proof

open Idealize.ShloMosaic Idealize.SL.Sem

/-- The claim, whole. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Pre_finite.Gen.facts, Cert.Pre_finite2.Gen.facts,
    frame_kernel, frame_kernelIdeal, frame_kernelIdeal_finite, frame_reference, frame_reference_finite,
    frame_kernel2, frame_kernel2Ideal, frame_kernel2Ideal_finite2, frame_reference2, frame_reference2_finite2,
    frame_kernel3, frame_kernel3Ideal, frame_reference3,
    frame_kernel4, frame_kernel4Ideal, frame_reference4,
    frame_kernel5, frame_kernel5Ideal, frame_reference5,
    frame_kernel6, frame_kernel6Ideal, frame_reference6,
    frame_kernel7, frame_kernel7Ideal, frame_reference7,
    frame_kernel8, frame_kernel8Ideal, frame_reference8,
    frame_kernel9, frame_kernel9Ideal, frame_reference9,
    frame_kernel10, frame_kernel10Ideal, frame_reference10,
    preserves, algebraic, trivial, algebraic2, trivial, algebraic3, trivial, algebraic4, trivial, algebraic5,
    trivial, algebraic6, trivial, algebraic7, trivial, algebraic8, trivial, algebraic9, trivial, algebraic10⟩

end Cert.Proof

end
